-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x512x512 : Shape := ⟨4, ![32, 1, 512, 512]⟩
abbrev S32x262144 : Shape := ⟨2, ![32, 262144]⟩
abbrev S32x16 : Shape := ⟨2, ![32, 16]⟩
abbrev S8192 : Shape := ⟨1, ![8192]⟩
abbrev S2048x16 : Shape := ⟨2, ![2048, 16]⟩
abbrev S16 : Shape := ⟨1, ![16]⟩
abbrev S_ : Shape := ⟨0, ![]⟩
abbrev S1x16 : Shape := ⟨2, ![1, 16]⟩
abbrev S1x8192 : Shape := ⟨2, ![1, 8192]⟩
abbrev S32x512x512 : Shape := ⟨3, ![32, 512, 512]⟩
abbrev S1x1x512x512 : Shape := ⟨4, ![1, 1, 512, 512]⟩
abbrev S1x512x512 : Shape := ⟨3, ![1, 512, 512]⟩
abbrev S1x1 : Shape := ⟨2, ![1, 1]⟩
abbrev S512x512 : Shape := ⟨2, ![512, 512]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Table → Nat
  | .hbm => 4
  | .local .tc .vmem => 4
  | .local .tc .smem => 1
  | .local .scVector .vmem => 6
  | _ => 0

abbrev bufTy : (tb : Table) → Fin (nBuf tb) → BufTy
  | .hbm, ⟨0, _⟩ => ⟨S32x1x512x512, .i32⟩
  | .hbm, ⟨1, _⟩ => ⟨S32x262144, .i32⟩
  | .hbm, ⟨2, _⟩ => ⟨S32x16, .i32⟩
  | .hbm, ⟨3, _⟩ => ⟨S32x512x512, .i32⟩
  | .local .tc .vmem, ⟨0, _⟩ => ⟨S1x1x512x512, .i32⟩
  | .local .tc .vmem, ⟨1, _⟩ => ⟨S1x1x512x512, .i32⟩
  | .local .tc .vmem, ⟨2, _⟩ => ⟨S1x512x512, .i32⟩
  | .local .tc .vmem, ⟨3, _⟩ => ⟨S1x512x512, .i32⟩
  | .local .tc .smem, ⟨0, _⟩ => ⟨S32x16, .i32⟩
  | .local .scVector .vmem, ⟨0, _⟩ => ⟨S8192, .i32⟩
  | .local .scVector .vmem, ⟨1, _⟩ => ⟨S8192, .i32⟩
  | .local .scVector .vmem, ⟨2, _⟩ => ⟨S2048x16, .i32⟩
  | .local .scVector .vmem, ⟨3, _⟩ => ⟨S2048x16, .i32⟩
  | .local .scVector .vmem, ⟨4, _⟩ => ⟨S2048x16, .i32⟩
  | .local .scVector .vmem, ⟨5, _⟩ => ⟨S16, .i32⟩
  | _, _ => ⟨S32x1x512x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32_1 : BitVec 32 := 1#32
  ⟨c0_i32_0, v4, c1_i32_1⟩
def k0_off1 (k0_t1 : Fin k0_t1_loop.trips) (c0_i32_199 : BitVec 32) : Fin 2 → Nat :=
  let c0_i32_0 : BitVec 32 := 0#32
  let c1_i32_1 : BitVec 32 := 1#32
  let arg12 : BitVec 32 := Scf.iv c0_i32_0 c1_i32_1 k0_t1
  let c8_i32 : BitVec 32 := 8#32
  let v138 : BitVec 32 := Scalar.muli arg12 c8_i32
  let v139 : BitVec 32 := Scalar.addi v138 c0_i32_199
  let v140 : Index := Scalar.indexCast v139
  let c0_200 : Index := 0#32
  ![v140.toNat, 0]
@[reducible] def k0_t2_loop : Scf.Loop 32 :=
  let c0_i32_4 : BitVec 32 := 0#32
  let c256_i32_5 : BitVec 32 := 256#32
  let v5 : BitVec 32 := Scalar.addi c0_i32_4 c256_i32_5
  let c1_i32_6 : BitVec 32 := 1#32
  ⟨c0_i32_4, v5, c1_i32_6⟩
def k0_off2 (k0_t2 : Fin k0_t2_loop.trips) (c0_i32_199 : BitVec 32) : Fin 2 → Nat :=
  let c0_i32_4 : BitVec 32 := 0#32
  let c1_i32_6 : BitVec 32 := 1#32
  let arg12 : BitVec 32 := Scf.iv c0_i32_4 c1_i32_6 k0_t2
  let c8_i32 : BitVec 32 := 8#32
  let v138 : BitVec 32 := Scalar.muli arg12 c8_i32
  let v139 : BitVec 32 := Scalar.addi v138 c0_i32_199
  let v140 : Index := Scalar.indexCast v139
  let c0_200 : Index := 0#32
  ![v140.toNat, 0]
@[reducible] def k0_t3_loop : Scf.Loop 32 :=
  let c0_i32_9 : BitVec 32 := 0#32
  let c256_i32_10 : BitVec 32 := 256#32
  let v6 : BitVec 32 := Scalar.addi c0_i32_9 c256_i32_10
  let c1_i32_11 : BitVec 32 := 1#32
  ⟨c0_i32_9, v6, c1_i32_11⟩
def k0_off3 (k0_t3 : Fin k0_t3_loop.trips) (c0_i32_199 : BitVec 32) : Fin 2 → Nat :=
  let c0_i32_9 : BitVec 32 := 0#32
  let c1_i32_11 : BitVec 32 := 1#32
  let arg12 : BitVec 32 := Scf.iv c0_i32_9 c1_i32_11 k0_t3
  let c8_i32 : BitVec 32 := 8#32
  let v138 : BitVec 32 := Scalar.muli arg12 c8_i32
  let v139 : BitVec 32 := Scalar.addi v138 c0_i32_199
  let v140 : Index := Scalar.indexCast v139
  let c0_200 : Index := 0#32
  ![v140.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13 : BitVec 32 := 0#32
  ![v1.toNat, 0]
@[reducible] def k0_t4_loop : Scf.Loop 32 :=
  let c0_i32_16 : BitVec 32 := 0#32
  let c16_i32 : BitVec 32 := 16#32
  let v11 : BitVec 32 := Scalar.addi c0_i32_16 c16_i32
  let c1_i32_17 : BitVec 32 := 1#32
  ⟨c0_i32_16, v11, c1_i32_17⟩
def k0_off5 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  let c1_i32_17 : BitVec 32 := 1#32
  let arg12 : BitVec 32 := Scf.iv c0_i32_16 c1_i32_17 k0_t4
  let c2_i32_198 : BitVec 32 := 2#32
  let v137 : BitVec 32 := Scalar.muli arg12 c2_i32_198
  let c1_i32_199 : BitVec 32 := 1#32
  let v138 : BitVec 32 := Scalar.addi v137 c1_i32_199
  let c8192_i32 : BitVec 32 := 8192#32
  let v139 : BitVec 32 := Scalar.muli v138 c8192_i32
  ![v1.toNat, v139.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  ![v1.toNat, 0]
@[reducible] def k0_t5_loop : Scf.Loop 32 :=
  let c0_i32_203 : BitVec 32 := 0#32
  let c32_i32 : BitVec 32 := 32#32
  let v148 : BitVec 32 := Scalar.addi c0_i32_203 c32_i32
  let c1_i32_204 : BitVec 32 := 1#32
  ⟨c0_i32_203, v148, c1_i32_204⟩
def k0_off7 (k0_t5 : Fin k0_t5_loop.trips) (c0_i32_216 : BitVec 32) : Fin 1 → Nat :=
  let c0_i32_203 : BitVec 32 := 0#32
  let c1_i32_204 : BitVec 32 := 1#32
  let arg13 : BitVec 32 := Scf.iv c0_i32_203 c1_i32_204 k0_t5
  let c16_i32_214 : BitVec 32 := 16#32
  let v157 : BitVec 32 := Scalar.muli arg13 c16_i32_214
  let c16_i32_215 : BitVec 32 := 16#32
  let v158 : BitVec 32 := Scalar.muli v157 c16_i32_215
  let v159 : BitVec 32 := Scalar.addi v158 c0_i32_216
  let v160 : Index := Scalar.indexCast v159
  ![v160.toNat]

def k0_chk1 (v2 : IVec S16 32) (v208 : IVec S16 32) : Prop :=
  (∀ a x, ((![v208, v2] : Fin 2 → IVec S16 32) a x).toNat < S2048x16.size a)
theorem k0_idx1_inb : ∀ (v2 : IVec S16 32) (v208 : IVec S16 32) (k0_hw1 : k0_chk1 v2 v208), ∀ a x, ((![v208, v2] : Fin 2 → IVec S16 32) a x).toNat < S2048x16.size a := fun v2 v208 k0_hw1 => k0_hw1

def k0_chk2 (v2 : IVec S16 32) (v210 : IVec S16 32) : Prop :=
  (∀ a x, ((![v210, v2] : Fin 2 → IVec S16 32) a x).toNat < S2048x16.size a)
theorem k0_idx2_inb : ∀ (v2 : IVec S16 32) (v210 : IVec S16 32) (k0_hw2 : k0_chk2 v2 v210), ∀ a x, ((![v210, v2] : Fin 2 → IVec S16 32) a x).toNat < S2048x16.size a := fun v2 v210 k0_hw2 => k0_hw2

def k0_chk3 (v2 : IVec S16 32) (v212 : IVec S16 32) : Prop :=
  (∀ a x, ((![v212, v2] : Fin 2 → IVec S16 32) a x).toNat < S2048x16.size a)
theorem k0_idx3_inb : ∀ (v2 : IVec S16 32) (v212 : IVec S16 32) (k0_hw3 : k0_chk3 v2 v212), ∀ a x, ((![v212, v2] : Fin 2 → IVec S16 32) a x).toNat < S2048x16.size a := fun v2 v212 k0_hw3 => k0_hw3

def k0_chk4 (v2 : IVec S16 32) (v214 : IVec S16 32) : Prop :=
  (∀ a x, ((![v214, v2] : Fin 2 → IVec S16 32) a x).toNat < S2048x16.size a)
theorem k0_idx4_inb : ∀ (v2 : IVec S16 32) (v214 : IVec S16 32) (k0_hw4 : k0_chk4 v2 v214), ∀ a x, ((![v214, v2] : Fin 2 → IVec S16 32) a x).toNat < S2048x16.size a := fun v2 v214 k0_hw4 => k0_hw4

def k0_chk5 (v2 : IVec S16 32) (v216 : IVec S16 32) : Prop :=
  (∀ a x, ((![v216, v2] : Fin 2 → IVec S16 32) a x).toNat < S2048x16.size a)
theorem k0_idx5_inb : ∀ (v2 : IVec S16 32) (v216 : IVec S16 32) (k0_hw5 : k0_chk5 v2 v216), ∀ a x, ((![v216, v2] : Fin 2 → IVec S16 32) a x).toNat < S2048x16.size a := fun v2 v216 k0_hw5 => k0_hw5

def k0_chk6 (v2 : IVec S16 32) (v218 : IVec S16 32) : Prop :=
  (∀ a x, ((![v218, v2] : Fin 2 → IVec S16 32) a x).toNat < S2048x16.size a)
theorem k0_idx6_inb : ∀ (v2 : IVec S16 32) (v218 : IVec S16 32) (k0_hw6 : k0_chk6 v2 v218), ∀ a x, ((![v218, v2] : Fin 2 → IVec S16 32) a x).toNat < S2048x16.size a := fun v2 v218 k0_hw6 => k0_hw6

def k0_chk7 (v2 : IVec S16 32) (v220 : IVec S16 32) : Prop :=
  (∀ a x, ((![v220, v2] : Fin 2 → IVec S16 32) a x).toNat < S2048x16.size a)
theorem k0_idx7_inb : ∀ (v2 : IVec S16 32) (v220 : IVec S16 32) (k0_hw7 : k0_chk7 v2 v220), ∀ a x, ((![v220, v2] : Fin 2 → IVec S16 32) a x).toNat < S2048x16.size a := fun v2 v220 k0_hw7 => k0_hw7

def k0_chk8 (v2 : IVec S16 32) (v222 : IVec S16 32) : Prop :=
  (∀ a x, ((![v222, v2] : Fin 2 → IVec S16 32) a x).toNat < S2048x16.size a)
theorem k0_idx8_inb : ∀ (v2 : IVec S16 32) (v222 : IVec S16 32) (k0_hw8 : k0_chk8 v2 v222), ∀ a x, ((![v222, v2] : Fin 2 → IVec S16 32) a x).toNat < S2048x16.size a := fun v2 v222 k0_hw8 => k0_hw8

def k0_chk9 (v2 : IVec S16 32) (v224 : IVec S16 32) : Prop :=
  (∀ a x, ((![v224, v2] : Fin 2 → IVec S16 32) a x).toNat < S2048x16.size a)
theorem k0_idx9_inb : ∀ (v2 : IVec S16 32) (v224 : IVec S16 32) (k0_hw9 : k0_chk9 v2 v224), ∀ a x, ((![v224, v2] : Fin 2 → IVec S16 32) a x).toNat < S2048x16.size a := fun v2 v224 k0_hw9 => k0_hw9

def k0_chk10 (v2 : IVec S16 32) (v226 : IVec S16 32) : Prop :=
  (∀ a x, ((![v226, v2] : Fin 2 → IVec S16 32) a x).toNat < S2048x16.size a)
theorem k0_idx10_inb : ∀ (v2 : IVec S16 32) (v226 : IVec S16 32) (k0_hw10 : k0_chk10 v2 v226), ∀ a x, ((![v226, v2] : Fin 2 → IVec S16 32) a x).toNat < S2048x16.size a := fun v2 v226 k0_hw10 => k0_hw10

def k0_chk11 (v2 : IVec S16 32) (v228 : IVec S16 32) : Prop :=
  (∀ a x, ((![v228, v2] : Fin 2 → IVec S16 32) a x).toNat < S2048x16.size a)
theorem k0_idx11_inb : ∀ (v2 : IVec S16 32) (v228 : IVec S16 32) (k0_hw11 : k0_chk11 v2 v228), ∀ a x, ((![v228, v2] : Fin 2 → IVec S16 32) a x).toNat < S2048x16.size a := fun v2 v228 k0_hw11 => k0_hw11

def k0_chk12 (v2 : IVec S16 32) (v230 : IVec S16 32) : Prop :=
  (∀ a x, ((![v230, v2] : Fin 2 → IVec S16 32) a x).toNat < S2048x16.size a)
theorem k0_idx12_inb : ∀ (v2 : IVec S16 32) (v230 : IVec S16 32) (k0_hw12 : k0_chk12 v2 v230), ∀ a x, ((![v230, v2] : Fin 2 → IVec S16 32) a x).toNat < S2048x16.size a := fun v2 v230 k0_hw12 => k0_hw12

def k0_chk13 (v2 : IVec S16 32) (v232 : IVec S16 32) : Prop :=
  (∀ a x, ((![v232, v2] : Fin 2 → IVec S16 32) a x).toNat < S2048x16.size a)
theorem k0_idx13_inb : ∀ (v2 : IVec S16 32) (v232 : IVec S16 32) (k0_hw13 : k0_chk13 v2 v232), ∀ a x, ((![v232, v2] : Fin 2 → IVec S16 32) a x).toNat < S2048x16.size a := fun v2 v232 k0_hw13 => k0_hw13

def k0_chk14 (v2 : IVec S16 32) (v234 : IVec S16 32) : Prop :=
  (∀ a x, ((![v234, v2] : Fin 2 → IVec S16 32) a x).toNat < S2048x16.size a)
theorem k0_idx14_inb : ∀ (v2 : IVec S16 32) (v234 : IVec S16 32) (k0_hw14 : k0_chk14 v2 v234), ∀ a x, ((![v234, v2] : Fin 2 → IVec S16 32) a x).toNat < S2048x16.size a := fun v2 v234 k0_hw14 => k0_hw14

def k0_chk15 (v2 : IVec S16 32) (v236 : IVec S16 32) : Prop :=
  (∀ a x, ((![v236, v2] : Fin 2 → IVec S16 32) a x).toNat < S2048x16.size a)
theorem k0_idx15_inb : ∀ (v2 : IVec S16 32) (v236 : IVec S16 32) (k0_hw15 : k0_chk15 v2 v236), ∀ a x, ((![v236, v2] : Fin 2 → IVec S16 32) a x).toNat < S2048x16.size a := fun v2 v236 k0_hw15 => k0_hw15

def k0_chk16 (v2 : IVec S16 32) (v238 : IVec S16 32) : Prop :=
  (∀ a x, ((![v238, v2] : Fin 2 → IVec S16 32) a x).toNat < S2048x16.size a)
theorem k0_idx16_inb : ∀ (v2 : IVec S16 32) (v238 : IVec S16 32) (k0_hw16 : k0_chk16 v2 v238), ∀ a x, ((![v238, v2] : Fin 2 → IVec S16 32) a x).toNat < S2048x16.size a := fun v2 v238 k0_hw16 => k0_hw16
def k0_cond1 (k0_t4 : Fin k0_t4_loop.trips) : BitVec 1 :=
  let c0_i32_16 : BitVec 32 := 0#32
  let c1_i32_17 : BitVec 32 := 1#32
  let arg12 : BitVec 32 := Scf.iv c0_i32_16 c1_i32_17 k0_t4
  let c15_i32 : BitVec 32 := 15#32
  let v149 : BitVec 1 := Scalar.cmpi .slt arg12 c15_i32
  let v150 : BitVec 32 := Scalar.extui v149
  let c0_i32_206 : BitVec 32 := 0#32
  let v151 : BitVec 1 := Scalar.cmpi .ne v150 c0_i32_206
  v151

def k0_off8 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  let c1_i32_17 : BitVec 32 := 1#32
  let arg12 : BitVec 32 := Scf.iv c0_i32_16 c1_i32_17 k0_t4
  let c2_i32_198 : BitVec 32 := 2#32
  let v137 : BitVec 32 := Scalar.muli arg12 c2_i32_198
  let c2_i32_214 : BitVec 32 := 2#32
  let v157 : BitVec 32 := Scalar.addi v137 c2_i32_214
  let c8192_i32_215 : BitVec 32 := 8192#32
  let v158 : BitVec 32 := Scalar.muli v157 c8192_i32_215
  ![v1.toNat, v158.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_207 : BitVec 32 := 0#32
  ![v1.toNat, 0]
@[reducible] def k0_t6_loop : Scf.Loop 32 :=
  let c0_i32_210 : BitVec 32 := 0#32
  let c32_i32_211 : BitVec 32 := 32#32
  let v156 : BitVec 32 := Scalar.addi c0_i32_210 c32_i32_211
  let c1_i32_212 : BitVec 32 := 1#32
  ⟨c0_i32_210, v156, c1_i32_212⟩
def k0_off10 (k0_t6 : Fin k0_t6_loop.trips) (c0_i32_216 : BitVec 32) : Fin 1 → Nat :=
  let c0_i32_210 : BitVec 32 := 0#32
  let c1_i32_212 : BitVec 32 := 1#32
  let arg13 : BitVec 32 := Scf.iv c0_i32_210 c1_i32_212 k0_t6
  let c16_i32_214 : BitVec 32 := 16#32
  let v157 : BitVec 32 := Scalar.muli arg13 c16_i32_214
  let c16_i32_215 : BitVec 32 := 16#32
  let v158 : BitVec 32 := Scalar.muli v157 c16_i32_215
  let v159 : BitVec 32 := Scalar.addi v158 c0_i32_216
  let v160 : Index := Scalar.indexCast v159
  ![v160.toNat]

def k0_chk17 (v2 : IVec S16 32) (v208 : IVec S16 32) : Prop :=
  (∀ a x, ((![v208, v2] : Fin 2 → IVec S16 32) a x).toNat < S2048x16.size a)
theorem k0_idx17_inb : ∀ (v2 : IVec S16 32) (v208 : IVec S16 32) (k0_hw17 : k0_chk17 v2 v208), ∀ a x, ((![v208, v2] : Fin 2 → IVec S16 32) a x).toNat < S2048x16.size a := fun v2 v208 k0_hw17 => k0_hw17

def k0_chk18 (v2 : IVec S16 32) (v210 : IVec S16 32) : Prop :=
  (∀ a x, ((![v210, v2] : Fin 2 → IVec S16 32) a x).toNat < S2048x16.size a)
theorem k0_idx18_inb : ∀ (v2 : IVec S16 32) (v210 : IVec S16 32) (k0_hw18 : k0_chk18 v2 v210), ∀ a x, ((![v210, v2] : Fin 2 → IVec S16 32) a x).toNat < S2048x16.size a := fun v2 v210 k0_hw18 => k0_hw18

def k0_chk19 (v2 : IVec S16 32) (v212 : IVec S16 32) : Prop :=
  (∀ a x, ((![v212, v2] : Fin 2 → IVec S16 32) a x).toNat < S2048x16.size a)
theorem k0_idx19_inb : ∀ (v2 : IVec S16 32) (v212 : IVec S16 32) (k0_hw19 : k0_chk19 v2 v212), ∀ a x, ((![v212, v2] : Fin 2 → IVec S16 32) a x).toNat < S2048x16.size a := fun v2 v212 k0_hw19 => k0_hw19

def k0_chk20 (v2 : IVec S16 32) (v214 : IVec S16 32) : Prop :=
  (∀ a x, ((![v214, v2] : Fin 2 → IVec S16 32) a x).toNat < S2048x16.size a)
theorem k0_idx20_inb : ∀ (v2 : IVec S16 32) (v214 : IVec S16 32) (k0_hw20 : k0_chk20 v2 v214), ∀ a x, ((![v214, v2] : Fin 2 → IVec S16 32) a x).toNat < S2048x16.size a := fun v2 v214 k0_hw20 => k0_hw20

def k0_chk21 (v2 : IVec S16 32) (v216 : IVec S16 32) : Prop :=
  (∀ a x, ((![v216, v2] : Fin 2 → IVec S16 32) a x).toNat < S2048x16.size a)
theorem k0_idx21_inb : ∀ (v2 : IVec S16 32) (v216 : IVec S16 32) (k0_hw21 : k0_chk21 v2 v216), ∀ a x, ((![v216, v2] : Fin 2 → IVec S16 32) a x).toNat < S2048x16.size a := fun v2 v216 k0_hw21 => k0_hw21

def k0_chk22 (v2 : IVec S16 32) (v218 : IVec S16 32) : Prop :=
  (∀ a x, ((![v218, v2] : Fin 2 → IVec S16 32) a x).toNat < S2048x16.size a)
theorem k0_idx22_inb : ∀ (v2 : IVec S16 32) (v218 : IVec S16 32) (k0_hw22 : k0_chk22 v2 v218), ∀ a x, ((![v218, v2] : Fin 2 → IVec S16 32) a x).toNat < S2048x16.size a := fun v2 v218 k0_hw22 => k0_hw22

def k0_chk23 (v2 : IVec S16 32) (v220 : IVec S16 32) : Prop :=
  (∀ a x, ((![v220, v2] : Fin 2 → IVec S16 32) a x).toNat < S2048x16.size a)
theorem k0_idx23_inb : ∀ (v2 : IVec S16 32) (v220 : IVec S16 32) (k0_hw23 : k0_chk23 v2 v220), ∀ a x, ((![v220, v2] : Fin 2 → IVec S16 32) a x).toNat < S2048x16.size a := fun v2 v220 k0_hw23 => k0_hw23

def k0_chk24 (v2 : IVec S16 32) (v222 : IVec S16 32) : Prop :=
  (∀ a x, ((![v222, v2] : Fin 2 → IVec S16 32) a x).toNat < S2048x16.size a)
theorem k0_idx24_inb : ∀ (v2 : IVec S16 32) (v222 : IVec S16 32) (k0_hw24 : k0_chk24 v2 v222), ∀ a x, ((![v222, v2] : Fin 2 → IVec S16 32) a x).toNat < S2048x16.size a := fun v2 v222 k0_hw24 => k0_hw24

def k0_chk25 (v2 : IVec S16 32) (v224 : IVec S16 32) : Prop :=
  (∀ a x, ((![v224, v2] : Fin 2 → IVec S16 32) a x).toNat < S2048x16.size a)
theorem k0_idx25_inb : ∀ (v2 : IVec S16 32) (v224 : IVec S16 32) (k0_hw25 : k0_chk25 v2 v224), ∀ a x, ((![v224, v2] : Fin 2 → IVec S16 32) a x).toNat < S2048x16.size a := fun v2 v224 k0_hw25 => k0_hw25

def k0_chk26 (v2 : IVec S16 32) (v226 : IVec S16 32) : Prop :=
  (∀ a x, ((![v226, v2] : Fin 2 → IVec S16 32) a x).toNat < S2048x16.size a)
theorem k0_idx26_inb : ∀ (v2 : IVec S16 32) (v226 : IVec S16 32) (k0_hw26 : k0_chk26 v2 v226), ∀ a x, ((![v226, v2] : Fin 2 → IVec S16 32) a x).toNat < S2048x16.size a := fun v2 v226 k0_hw26 => k0_hw26

def k0_chk27 (v2 : IVec S16 32) (v228 : IVec S16 32) : Prop :=
  (∀ a x, ((![v228, v2] : Fin 2 → IVec S16 32) a x).toNat < S2048x16.size a)
theorem k0_idx27_inb : ∀ (v2 : IVec S16 32) (v228 : IVec S16 32) (k0_hw27 : k0_chk27 v2 v228), ∀ a x, ((![v228, v2] : Fin 2 → IVec S16 32) a x).toNat < S2048x16.size a := fun v2 v228 k0_hw27 => k0_hw27

def k0_chk28 (v2 : IVec S16 32) (v230 : IVec S16 32) : Prop :=
  (∀ a x, ((![v230, v2] : Fin 2 → IVec S16 32) a x).toNat < S2048x16.size a)
theorem k0_idx28_inb : ∀ (v2 : IVec S16 32) (v230 : IVec S16 32) (k0_hw28 : k0_chk28 v2 v230), ∀ a x, ((![v230, v2] : Fin 2 → IVec S16 32) a x).toNat < S2048x16.size a := fun v2 v230 k0_hw28 => k0_hw28

def k0_chk29 (v2 : IVec S16 32) (v232 : IVec S16 32) : Prop :=
  (∀ a x, ((![v232, v2] : Fin 2 → IVec S16 32) a x).toNat < S2048x16.size a)
theorem k0_idx29_inb : ∀ (v2 : IVec S16 32) (v232 : IVec S16 32) (k0_hw29 : k0_chk29 v2 v232), ∀ a x, ((![v232, v2] : Fin 2 → IVec S16 32) a x).toNat < S2048x16.size a := fun v2 v232 k0_hw29 => k0_hw29

def k0_chk30 (v2 : IVec S16 32) (v234 : IVec S16 32) : Prop :=
  (∀ a x, ((![v234, v2] : Fin 2 → IVec S16 32) a x).toNat < S2048x16.size a)
theorem k0_idx30_inb : ∀ (v2 : IVec S16 32) (v234 : IVec S16 32) (k0_hw30 : k0_chk30 v2 v234), ∀ a x, ((![v234, v2] : Fin 2 → IVec S16 32) a x).toNat < S2048x16.size a := fun v2 v234 k0_hw30 => k0_hw30

def k0_chk31 (v2 : IVec S16 32) (v236 : IVec S16 32) : Prop :=
  (∀ a x, ((![v236, v2] : Fin 2 → IVec S16 32) a x).toNat < S2048x16.size a)
theorem k0_idx31_inb : ∀ (v2 : IVec S16 32) (v236 : IVec S16 32) (k0_hw31 : k0_chk31 v2 v236), ∀ a x, ((![v236, v2] : Fin 2 → IVec S16 32) a x).toNat < S2048x16.size a := fun v2 v236 k0_hw31 => k0_hw31

def k0_chk32 (v2 : IVec S16 32) (v238 : IVec S16 32) : Prop :=
  (∀ a x, ((![v238, v2] : Fin 2 → IVec S16 32) a x).toNat < S2048x16.size a)
theorem k0_idx32_inb : ∀ (v2 : IVec S16 32) (v238 : IVec S16 32) (k0_hw32 : k0_chk32 v2 v238), ∀ a x, ((![v238, v2] : Fin 2 → IVec S16 32) a x).toNat < S2048x16.size a := fun v2 v238 k0_hw32 => k0_hw32
@[reducible] def k0_t7_loop : Scf.Loop 32 :=
  let c0_i32_26 : BitVec 32 := 0#32
  let c128_i32 : BitVec 32 := 128#32
  let v12 : BitVec 32 := Scalar.addi c0_i32_26 c128_i32
  let c1_i32_27 : BitVec 32 := 1#32
  ⟨c0_i32_26, v12, c1_i32_27⟩
@[reducible] def k0_t8_loop : Scf.Loop 32 :=
  let c0_i32_199 : BitVec 32 := 0#32
  let c16_i32_200 : BitVec 32 := 16#32
  let v138 : BitVec 32 := Scalar.addi c0_i32_199 c16_i32_200
  let c1_i32_201 : BitVec 32 := 1#32
  ⟨c0_i32_199, v138, c1_i32_201⟩
def k0_off11 (k0_t7 : Fin k0_t7_loop.trips) (k0_t8 : Fin k0_t8_loop.trips) : Fin 2 → Nat :=
  let c0_i32_217 : BitVec 32 := 0#32
  let c0_i32_26 : BitVec 32 := 0#32
  let c1_i32_27 : BitVec 32 := 1#32
  let arg12 : BitVec 32 := Scf.iv c0_i32_26 c1_i32_27 k0_t7
  let c16_i32_213 : BitVec 32 := 16#32
  let v162 : BitVec 32 := Scalar.muli arg12 c16_i32_213
  let c0_i32_199 : BitVec 32 := 0#32
  let c1_i32_201 : BitVec 32 := 1#32
  let arg20 : BitVec 32 := Scf.iv c0_i32_199 c1_i32_201 k0_t8
  let v163 : BitVec 32 := Scalar.addi v162 arg20
  let c1024_i32_214 : BitVec 32 := 1024#32
  let v164 : BitVec 1 := Scalar.cmpi .slt v163 c1024_i32_214
  let c2047_i32_215 : BitVec 32 := 2047#32
  let v165 : BitVec 32 := Scalar.subi c2047_i32_215 v163
  let c1024_i32_216 : BitVec 32 := 1024#32
  let v166 : BitVec 32 := Scalar.subi v163 c1024_i32_216
  let v167 : BitVec 32 := Scalar.select v164 v165 v166
  let v168 : BitVec 32 := Scalar.addi c0_i32_217 v167
  let v169 : Index := Scalar.indexCast v168
  let c0_218 : Index := 0#32
  ![v169.toNat, 0]
@[reducible] def k0_t9_loop : Scf.Loop 32 :=
  let c0_i32_32 : BitVec 32 := 0#32
  let c16_i32_33 : BitVec 32 := 16#32
  let v14 : BitVec 32 := Scalar.addi c0_i32_32 c16_i32_33
  let c1_i32_34 : BitVec 32 := 1#32
  ⟨c0_i32_32, v14, c1_i32_34⟩
def k0_off12 (v13_1 : BitVec 32) (k0_t9 : Fin k0_t9_loop.trips) : Fin 2 → Nat :=
  let c0_i32_202 : BitVec 32 := 0#32
  let c16_i32_198 : BitVec 32 := 16#32
  let v137 : BitVec 32 := Scalar.muli v13_1 c16_i32_198
  let c0_i32_32 : BitVec 32 := 0#32
  let c1_i32_34 : BitVec 32 := 1#32
  let arg12 : BitVec 32 := Scf.iv c0_i32_32 c1_i32_34 k0_t9
  let v138 : BitVec 32 := Scalar.addi v137 arg12
  let c1024_i32_199 : BitVec 32 := 1024#32
  let v139 : BitVec 1 := Scalar.cmpi .slt v138 c1024_i32_199
  let c2047_i32_200 : BitVec 32 := 2047#32
  let v140 : BitVec 32 := Scalar.subi c2047_i32_200 v138
  let c1024_i32_201 : BitVec 32 := 1024#32
  let v141 : BitVec 32 := Scalar.subi v138 c1024_i32_201
  let v142 : BitVec 32 := Scalar.select v139 v140 v141
  let v143 : BitVec 32 := Scalar.addi c0_i32_202 v142
  let v144 : Index := Scalar.indexCast v143
  let c0_203 : Index := 0#32
  ![v144.toNat, 0]

def k0_chk33 (v13_1 : BitVec 32) : Prop :=
  (∀ k0_t9 : Fin k0_t9_loop.trips, ∀ a, (k0_off12 v13_1 k0_t9) a + S1x16.size a ≤ S2048x16.size a)
theorem k0_off12_inb : ∀ (v13_1 : BitVec 32) (k0_hw33 : k0_chk33 v13_1) (k0_t9 : Fin k0_t9_loop.trips), ∀ a, (k0_off12 v13_1 k0_t9) a + S1x16.size a ≤ S2048x16.size a := fun v13_1 k0_hw33 k0_t9 => k0_hw33 k0_t9

@[reducible] def k0_t10_loop : Scf.Loop 32 :=
  let c0_i32_41 : BitVec 32 := 0#32
  let c16_i32_42 : BitVec 32 := 16#32
  let v22 : BitVec 32 := Scalar.addi c0_i32_41 c16_i32_42
  let c1_i32_43 : BitVec 32 := 1#32
  ⟨c0_i32_41, v22, c1_i32_43⟩
def k0_off13 (v13_4 : BitVec 32) (k0_t10 : Fin k0_t10_loop.trips) : Fin 2 → Nat :=
  let c0_i32_202 : BitVec 32 := 0#32
  let c16_i32_198 : BitVec 32 := 16#32
  let v137 : BitVec 32 := Scalar.muli v13_4 c16_i32_198
  let c0_i32_41 : BitVec 32 := 0#32
  let c1_i32_43 : BitVec 32 := 1#32
  let arg12 : BitVec 32 := Scf.iv c0_i32_41 c1_i32_43 k0_t10
  let v138 : BitVec 32 := Scalar.addi v137 arg12
  let c1024_i32_199 : BitVec 32 := 1024#32
  let v139 : BitVec 1 := Scalar.cmpi .slt v138 c1024_i32_199
  let c2047_i32_200 : BitVec 32 := 2047#32
  let v140 : BitVec 32 := Scalar.subi c2047_i32_200 v138
  let c1024_i32_201 : BitVec 32 := 1024#32
  let v141 : BitVec 32 := Scalar.subi v138 c1024_i32_201
  let v142 : BitVec 32 := Scalar.select v139 v140 v141
  let v143 : BitVec 32 := Scalar.addi c0_i32_202 v142
  let v144 : Index := Scalar.indexCast v143
  let c0_203 : Index := 0#32
  ![v144.toNat, 0]

def k0_chk34 (v13_4 : BitVec 32) : Prop :=
  (∀ k0_t10 : Fin k0_t10_loop.trips, ∀ a, (k0_off13 v13_4 k0_t10) a + S1x16.size a ≤ S2048x16.size a)
theorem k0_off13_inb : ∀ (v13_4 : BitVec 32) (k0_hw34 : k0_chk34 v13_4) (k0_t10 : Fin k0_t10_loop.trips), ∀ a, (k0_off13 v13_4 k0_t10) a + S1x16.size a ≤ S2048x16.size a := fun v13_4 k0_hw34 k0_t10 => k0_hw34 k0_t10

@[reducible] def k0_t11_loop : Scf.Loop 32 :=
  let c0_i32_58 : BitVec 32 := 0#32
  let c256_i32_59 : BitVec 32 := 256#32
  let v36 : BitVec 32 := Scalar.addi c0_i32_58 c256_i32_59
  let c1_i32_60 : BitVec 32 := 1#32
  ⟨c0_i32_58, v36, c1_i32_60⟩
def k0_off14 (k0_t11 : Fin k0_t11_loop.trips) (c0_i32_199 : BitVec 32) : Fin 2 → Nat :=
  let c0_i32_58 : BitVec 32 := 0#32
  let c1_i32_60 : BitVec 32 := 1#32
  let arg12 : BitVec 32 := Scf.iv c0_i32_58 c1_i32_60 k0_t11
  let c8_i32 : BitVec 32 := 8#32
  let v138 : BitVec 32 := Scalar.muli arg12 c8_i32
  let v139 : BitVec 32 := Scalar.addi v138 c0_i32_199
  let v140 : Index := Scalar.indexCast v139
  let c0_200 : Index := 0#32
  ![v140.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  ![v1.toNat, 0]
@[reducible] def k0_t12_loop : Scf.Loop 32 :=
  let c0_i32_65 : BitVec 32 := 0#32
  let c16_i32_66 : BitVec 32 := 16#32
  let v41 : BitVec 32 := Scalar.addi c0_i32_65 c16_i32_66
  let c1_i32_67 : BitVec 32 := 1#32
  ⟨c0_i32_65, v41, c1_i32_67⟩
def k0_off16 (i : grid0.Coords) (k0_t12 : Fin k0_t12_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let c1_i32_67 : BitVec 32 := 1#32
  let arg12 : BitVec 32 := Scf.iv c0_i32_65 c1_i32_67 k0_t12
  let c2_i32_198 : BitVec 32 := 2#32
  let v137 : BitVec 32 := Scalar.muli arg12 c2_i32_198
  let c1_i32_199 : BitVec 32 := 1#32
  let v138 : BitVec 32 := Scalar.addi v137 c1_i32_199
  let c8192_i32 : BitVec 32 := 8192#32
  let v139 : BitVec 32 := Scalar.muli v138 c8192_i32
  ![v1.toNat, v139.toNat]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  ![v1.toNat, 0]
@[reducible] def k0_t13_loop : Scf.Loop 32 :=
  let c0_i32_203 : BitVec 32 := 0#32
  let c64_i32_204 : BitVec 32 := 64#32
  let v148 : BitVec 32 := Scalar.addi c0_i32_203 c64_i32_204
  let c1_i32_205 : BitVec 32 := 1#32
  ⟨c0_i32_203, v148, c1_i32_205⟩
def k0_off18 (k0_t13 : Fin k0_t13_loop.trips) (c0_i32_216 : BitVec 32) : Fin 1 → Nat :=
  let c0_i32_203 : BitVec 32 := 0#32
  let c1_i32_205 : BitVec 32 := 1#32
  let arg13 : BitVec 32 := Scf.iv c0_i32_203 c1_i32_205 k0_t13
  let c16_i32_215 : BitVec 32 := 16#32
  let v157 : BitVec 32 := Scalar.muli arg13 c16_i32_215
  let c8_i32 : BitVec 32 := 8#32
  let v158 : BitVec 32 := Scalar.muli v157 c8_i32
  let v159 : BitVec 32 := Scalar.addi v158 c0_i32_216
  let v160 : Index := Scalar.indexCast v159
  ![v160.toNat]

def k0_chk35 (v2 : IVec S16 32) (v202 : IVec S16 32) : Prop :=
  (∀ a x, ((![v202, v2] : Fin 2 → IVec S16 32) a x).toNat < S2048x16.size a) ∧
  (∀ a x, ((![v202, v2] : Fin 2 → IVec S16 32) a x).toNat < S2048x16.size a)
theorem k0_idx33_inb : ∀ (v2 : IVec S16 32) (v202 : IVec S16 32) (k0_hw35 : k0_chk35 v2 v202), ∀ a x, ((![v202, v2] : Fin 2 → IVec S16 32) a x).toNat < S2048x16.size a := fun v2 v202 k0_hw35 => k0_hw35.1
theorem k0_idx41_inb : ∀ (v2 : IVec S16 32) (v202 : IVec S16 32) (k0_hw35 : k0_chk35 v2 v202), ∀ a x, ((![v202, v2] : Fin 2 → IVec S16 32) a x).toNat < S2048x16.size a := fun v2 v202 k0_hw35 => k0_hw35.2

def k0_chk36 (v2 : IVec S16 32) (v206 : IVec S16 32) : Prop :=
  (∀ a x, ((![v206, v2] : Fin 2 → IVec S16 32) a x).toNat < S2048x16.size a) ∧
  (∀ a x, ((![v206, v2] : Fin 2 → IVec S16 32) a x).toNat < S2048x16.size a)
theorem k0_idx34_inb : ∀ (v2 : IVec S16 32) (v206 : IVec S16 32) (k0_hw36 : k0_chk36 v2 v206), ∀ a x, ((![v206, v2] : Fin 2 → IVec S16 32) a x).toNat < S2048x16.size a := fun v2 v206 k0_hw36 => k0_hw36.1
theorem k0_idx42_inb : ∀ (v2 : IVec S16 32) (v206 : IVec S16 32) (k0_hw36 : k0_chk36 v2 v206), ∀ a x, ((![v206, v2] : Fin 2 → IVec S16 32) a x).toNat < S2048x16.size a := fun v2 v206 k0_hw36 => k0_hw36.2

def k0_chk37 (v2 : IVec S16 32) (v210 : IVec S16 32) : Prop :=
  (∀ a x, ((![v210, v2] : Fin 2 → IVec S16 32) a x).toNat < S2048x16.size a) ∧
  (∀ a x, ((![v210, v2] : Fin 2 → IVec S16 32) a x).toNat < S2048x16.size a)
theorem k0_idx35_inb : ∀ (v2 : IVec S16 32) (v210 : IVec S16 32) (k0_hw37 : k0_chk37 v2 v210), ∀ a x, ((![v210, v2] : Fin 2 → IVec S16 32) a x).toNat < S2048x16.size a := fun v2 v210 k0_hw37 => k0_hw37.1
theorem k0_idx43_inb : ∀ (v2 : IVec S16 32) (v210 : IVec S16 32) (k0_hw37 : k0_chk37 v2 v210), ∀ a x, ((![v210, v2] : Fin 2 → IVec S16 32) a x).toNat < S2048x16.size a := fun v2 v210 k0_hw37 => k0_hw37.2

def k0_chk38 (v2 : IVec S16 32) (v214 : IVec S16 32) : Prop :=
  (∀ a x, ((![v214, v2] : Fin 2 → IVec S16 32) a x).toNat < S2048x16.size a) ∧
  (∀ a x, ((![v214, v2] : Fin 2 → IVec S16 32) a x).toNat < S2048x16.size a)
theorem k0_idx36_inb : ∀ (v2 : IVec S16 32) (v214 : IVec S16 32) (k0_hw38 : k0_chk38 v2 v214), ∀ a x, ((![v214, v2] : Fin 2 → IVec S16 32) a x).toNat < S2048x16.size a := fun v2 v214 k0_hw38 => k0_hw38.1
theorem k0_idx44_inb : ∀ (v2 : IVec S16 32) (v214 : IVec S16 32) (k0_hw38 : k0_chk38 v2 v214), ∀ a x, ((![v214, v2] : Fin 2 → IVec S16 32) a x).toNat < S2048x16.size a := fun v2 v214 k0_hw38 => k0_hw38.2

def k0_chk39 (v2 : IVec S16 32) (v218 : IVec S16 32) : Prop :=
  (∀ a x, ((![v218, v2] : Fin 2 → IVec S16 32) a x).toNat < S2048x16.size a) ∧
  (∀ a x, ((![v218, v2] : Fin 2 → IVec S16 32) a x).toNat < S2048x16.size a)
theorem k0_idx37_inb : ∀ (v2 : IVec S16 32) (v218 : IVec S16 32) (k0_hw39 : k0_chk39 v2 v218), ∀ a x, ((![v218, v2] : Fin 2 → IVec S16 32) a x).toNat < S2048x16.size a := fun v2 v218 k0_hw39 => k0_hw39.1
theorem k0_idx45_inb : ∀ (v2 : IVec S16 32) (v218 : IVec S16 32) (k0_hw39 : k0_chk39 v2 v218), ∀ a x, ((![v218, v2] : Fin 2 → IVec S16 32) a x).toNat < S2048x16.size a := fun v2 v218 k0_hw39 => k0_hw39.2

def k0_chk40 (v2 : IVec S16 32) (v222 : IVec S16 32) : Prop :=
  (∀ a x, ((![v222, v2] : Fin 2 → IVec S16 32) a x).toNat < S2048x16.size a) ∧
  (∀ a x, ((![v222, v2] : Fin 2 → IVec S16 32) a x).toNat < S2048x16.size a)
theorem k0_idx38_inb : ∀ (v2 : IVec S16 32) (v222 : IVec S16 32) (k0_hw40 : k0_chk40 v2 v222), ∀ a x, ((![v222, v2] : Fin 2 → IVec S16 32) a x).toNat < S2048x16.size a := fun v2 v222 k0_hw40 => k0_hw40.1
theorem k0_idx46_inb : ∀ (v2 : IVec S16 32) (v222 : IVec S16 32) (k0_hw40 : k0_chk40 v2 v222), ∀ a x, ((![v222, v2] : Fin 2 → IVec S16 32) a x).toNat < S2048x16.size a := fun v2 v222 k0_hw40 => k0_hw40.2

def k0_chk41 (v2 : IVec S16 32) (v226 : IVec S16 32) : Prop :=
  (∀ a x, ((![v226, v2] : Fin 2 → IVec S16 32) a x).toNat < S2048x16.size a) ∧
  (∀ a x, ((![v226, v2] : Fin 2 → IVec S16 32) a x).toNat < S2048x16.size a)
theorem k0_idx39_inb : ∀ (v2 : IVec S16 32) (v226 : IVec S16 32) (k0_hw41 : k0_chk41 v2 v226), ∀ a x, ((![v226, v2] : Fin 2 → IVec S16 32) a x).toNat < S2048x16.size a := fun v2 v226 k0_hw41 => k0_hw41.1
theorem k0_idx47_inb : ∀ (v2 : IVec S16 32) (v226 : IVec S16 32) (k0_hw41 : k0_chk41 v2 v226), ∀ a x, ((![v226, v2] : Fin 2 → IVec S16 32) a x).toNat < S2048x16.size a := fun v2 v226 k0_hw41 => k0_hw41.2

def k0_chk42 (v2 : IVec S16 32) (v230 : IVec S16 32) : Prop :=
  (∀ a x, ((![v230, v2] : Fin 2 → IVec S16 32) a x).toNat < S2048x16.size a) ∧
  (∀ a x, ((![v230, v2] : Fin 2 → IVec S16 32) a x).toNat < S2048x16.size a)
theorem k0_idx40_inb : ∀ (v2 : IVec S16 32) (v230 : IVec S16 32) (k0_hw42 : k0_chk42 v2 v230), ∀ a x, ((![v230, v2] : Fin 2 → IVec S16 32) a x).toNat < S2048x16.size a := fun v2 v230 k0_hw42 => k0_hw42.1
theorem k0_idx48_inb : ∀ (v2 : IVec S16 32) (v230 : IVec S16 32) (k0_hw42 : k0_chk42 v2 v230), ∀ a x, ((![v230, v2] : Fin 2 → IVec S16 32) a x).toNat < S2048x16.size a := fun v2 v230 k0_hw42 => k0_hw42.2
def k0_cond2 (k0_t12 : Fin k0_t12_loop.trips) : BitVec 1 :=
  let c0_i32_65 : BitVec 32 := 0#32
  let c1_i32_67 : BitVec 32 := 1#32
  let arg12 : BitVec 32 := Scf.iv c0_i32_65 c1_i32_67 k0_t12
  let c15_i32 : BitVec 32 := 15#32
  let v149 : BitVec 1 := Scalar.cmpi .slt arg12 c15_i32
  let v150 : BitVec 32 := Scalar.extui v149
  let c0_i32_207 : BitVec 32 := 0#32
  let v151 : BitVec 1 := Scalar.cmpi .ne v150 c0_i32_207
  v151

def k0_off19 (i : grid0.Coords) (k0_t12 : Fin k0_t12_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let c1_i32_67 : BitVec 32 := 1#32
  let arg12 : BitVec 32 := Scf.iv c0_i32_65 c1_i32_67 k0_t12
  let c2_i32_198 : BitVec 32 := 2#32
  let v137 : BitVec 32 := Scalar.muli arg12 c2_i32_198
  let c2_i32_215 : BitVec 32 := 2#32
  let v157 : BitVec 32 := Scalar.addi v137 c2_i32_215
  let c8192_i32_216 : BitVec 32 := 8192#32
  let v158 : BitVec 32 := Scalar.muli v157 c8192_i32_216
  ![v1.toNat, v158.toNat]
@[reducible] def k0_t14_loop : Scf.Loop 32 :=
  let c0_i32_211 : BitVec 32 := 0#32
  let c64_i32_212 : BitVec 32 := 64#32
  let v156 : BitVec 32 := Scalar.addi c0_i32_211 c64_i32_212
  let c1_i32_213 : BitVec 32 := 1#32
  ⟨c0_i32_211, v156, c1_i32_213⟩
def k0_off20 (k0_t14 : Fin k0_t14_loop.trips) (c0_i32_216 : BitVec 32) : Fin 1 → Nat :=
  let c0_i32_211 : BitVec 32 := 0#32
  let c1_i32_213 : BitVec 32 := 1#32
  let arg13 : BitVec 32 := Scf.iv c0_i32_211 c1_i32_213 k0_t14
  let c16_i32_215 : BitVec 32 := 16#32
  let v157 : BitVec 32 := Scalar.muli arg13 c16_i32_215
  let c8_i32 : BitVec 32 := 8#32
  let v158 : BitVec 32 := Scalar.muli v157 c8_i32
  let v159 : BitVec 32 := Scalar.addi v158 c0_i32_216
  let v160 : Index := Scalar.indexCast v159
  ![v160.toNat]

def k0_chk43 (v2 : IVec S16 32) (v202 : IVec S16 32) : Prop :=
  (∀ a x, ((![v202, v2] : Fin 2 → IVec S16 32) a x).toNat < S2048x16.size a) ∧
  (∀ a x, ((![v202, v2] : Fin 2 → IVec S16 32) a x).toNat < S2048x16.size a)
theorem k0_idx49_inb : ∀ (v2 : IVec S16 32) (v202 : IVec S16 32) (k0_hw43 : k0_chk43 v2 v202), ∀ a x, ((![v202, v2] : Fin 2 → IVec S16 32) a x).toNat < S2048x16.size a := fun v2 v202 k0_hw43 => k0_hw43.1
theorem k0_idx57_inb : ∀ (v2 : IVec S16 32) (v202 : IVec S16 32) (k0_hw43 : k0_chk43 v2 v202), ∀ a x, ((![v202, v2] : Fin 2 → IVec S16 32) a x).toNat < S2048x16.size a := fun v2 v202 k0_hw43 => k0_hw43.2

def k0_chk44 (v2 : IVec S16 32) (v206 : IVec S16 32) : Prop :=
  (∀ a x, ((![v206, v2] : Fin 2 → IVec S16 32) a x).toNat < S2048x16.size a) ∧
  (∀ a x, ((![v206, v2] : Fin 2 → IVec S16 32) a x).toNat < S2048x16.size a)
theorem k0_idx50_inb : ∀ (v2 : IVec S16 32) (v206 : IVec S16 32) (k0_hw44 : k0_chk44 v2 v206), ∀ a x, ((![v206, v2] : Fin 2 → IVec S16 32) a x).toNat < S2048x16.size a := fun v2 v206 k0_hw44 => k0_hw44.1
theorem k0_idx58_inb : ∀ (v2 : IVec S16 32) (v206 : IVec S16 32) (k0_hw44 : k0_chk44 v2 v206), ∀ a x, ((![v206, v2] : Fin 2 → IVec S16 32) a x).toNat < S2048x16.size a := fun v2 v206 k0_hw44 => k0_hw44.2

def k0_chk45 (v2 : IVec S16 32) (v210 : IVec S16 32) : Prop :=
  (∀ a x, ((![v210, v2] : Fin 2 → IVec S16 32) a x).toNat < S2048x16.size a) ∧
  (∀ a x, ((![v210, v2] : Fin 2 → IVec S16 32) a x).toNat < S2048x16.size a)
theorem k0_idx51_inb : ∀ (v2 : IVec S16 32) (v210 : IVec S16 32) (k0_hw45 : k0_chk45 v2 v210), ∀ a x, ((![v210, v2] : Fin 2 → IVec S16 32) a x).toNat < S2048x16.size a := fun v2 v210 k0_hw45 => k0_hw45.1
theorem k0_idx59_inb : ∀ (v2 : IVec S16 32) (v210 : IVec S16 32) (k0_hw45 : k0_chk45 v2 v210), ∀ a x, ((![v210, v2] : Fin 2 → IVec S16 32) a x).toNat < S2048x16.size a := fun v2 v210 k0_hw45 => k0_hw45.2

def k0_chk46 (v2 : IVec S16 32) (v214 : IVec S16 32) : Prop :=
  (∀ a x, ((![v214, v2] : Fin 2 → IVec S16 32) a x).toNat < S2048x16.size a) ∧
  (∀ a x, ((![v214, v2] : Fin 2 → IVec S16 32) a x).toNat < S2048x16.size a)
theorem k0_idx52_inb : ∀ (v2 : IVec S16 32) (v214 : IVec S16 32) (k0_hw46 : k0_chk46 v2 v214), ∀ a x, ((![v214, v2] : Fin 2 → IVec S16 32) a x).toNat < S2048x16.size a := fun v2 v214 k0_hw46 => k0_hw46.1
theorem k0_idx60_inb : ∀ (v2 : IVec S16 32) (v214 : IVec S16 32) (k0_hw46 : k0_chk46 v2 v214), ∀ a x, ((![v214, v2] : Fin 2 → IVec S16 32) a x).toNat < S2048x16.size a := fun v2 v214 k0_hw46 => k0_hw46.2

def k0_chk47 (v2 : IVec S16 32) (v218 : IVec S16 32) : Prop :=
  (∀ a x, ((![v218, v2] : Fin 2 → IVec S16 32) a x).toNat < S2048x16.size a) ∧
  (∀ a x, ((![v218, v2] : Fin 2 → IVec S16 32) a x).toNat < S2048x16.size a)
theorem k0_idx53_inb : ∀ (v2 : IVec S16 32) (v218 : IVec S16 32) (k0_hw47 : k0_chk47 v2 v218), ∀ a x, ((![v218, v2] : Fin 2 → IVec S16 32) a x).toNat < S2048x16.size a := fun v2 v218 k0_hw47 => k0_hw47.1
theorem k0_idx61_inb : ∀ (v2 : IVec S16 32) (v218 : IVec S16 32) (k0_hw47 : k0_chk47 v2 v218), ∀ a x, ((![v218, v2] : Fin 2 → IVec S16 32) a x).toNat < S2048x16.size a := fun v2 v218 k0_hw47 => k0_hw47.2

def k0_chk48 (v2 : IVec S16 32) (v222 : IVec S16 32) : Prop :=
  (∀ a x, ((![v222, v2] : Fin 2 → IVec S16 32) a x).toNat < S2048x16.size a) ∧
  (∀ a x, ((![v222, v2] : Fin 2 → IVec S16 32) a x).toNat < S2048x16.size a)
theorem k0_idx54_inb : ∀ (v2 : IVec S16 32) (v222 : IVec S16 32) (k0_hw48 : k0_chk48 v2 v222), ∀ a x, ((![v222, v2] : Fin 2 → IVec S16 32) a x).toNat < S2048x16.size a := fun v2 v222 k0_hw48 => k0_hw48.1
theorem k0_idx62_inb : ∀ (v2 : IVec S16 32) (v222 : IVec S16 32) (k0_hw48 : k0_chk48 v2 v222), ∀ a x, ((![v222, v2] : Fin 2 → IVec S16 32) a x).toNat < S2048x16.size a := fun v2 v222 k0_hw48 => k0_hw48.2

def k0_chk49 (v2 : IVec S16 32) (v226 : IVec S16 32) : Prop :=
  (∀ a x, ((![v226, v2] : Fin 2 → IVec S16 32) a x).toNat < S2048x16.size a) ∧
  (∀ a x, ((![v226, v2] : Fin 2 → IVec S16 32) a x).toNat < S2048x16.size a)
theorem k0_idx55_inb : ∀ (v2 : IVec S16 32) (v226 : IVec S16 32) (k0_hw49 : k0_chk49 v2 v226), ∀ a x, ((![v226, v2] : Fin 2 → IVec S16 32) a x).toNat < S2048x16.size a := fun v2 v226 k0_hw49 => k0_hw49.1
theorem k0_idx63_inb : ∀ (v2 : IVec S16 32) (v226 : IVec S16 32) (k0_hw49 : k0_chk49 v2 v226), ∀ a x, ((![v226, v2] : Fin 2 → IVec S16 32) a x).toNat < S2048x16.size a := fun v2 v226 k0_hw49 => k0_hw49.2

def k0_chk50 (v2 : IVec S16 32) (v230 : IVec S16 32) : Prop :=
  (∀ a x, ((![v230, v2] : Fin 2 → IVec S16 32) a x).toNat < S2048x16.size a) ∧
  (∀ a x, ((![v230, v2] : Fin 2 → IVec S16 32) a x).toNat < S2048x16.size a)
theorem k0_idx56_inb : ∀ (v2 : IVec S16 32) (v230 : IVec S16 32) (k0_hw50 : k0_chk50 v2 v230), ∀ a x, ((![v230, v2] : Fin 2 → IVec S16 32) a x).toNat < S2048x16.size a := fun v2 v230 k0_hw50 => k0_hw50.1
theorem k0_idx64_inb : ∀ (v2 : IVec S16 32) (v230 : IVec S16 32) (k0_hw50 : k0_chk50 v2 v230), ∀ a x, ((![v230, v2] : Fin 2 → IVec S16 32) a x).toNat < S2048x16.size a := fun v2 v230 k0_hw50 => k0_hw50.2
@[reducible] def k0_t15_loop : Scf.Loop 32 :=
  let c0_i32_76 : BitVec 32 := 0#32
  let c128_i32_77 : BitVec 32 := 128#32
  let v42 : BitVec 32 := Scalar.addi c0_i32_76 c128_i32_77
  let c1_i32_78 : BitVec 32 := 1#32
  ⟨c0_i32_76, v42, c1_i32_78⟩
@[reducible] def k0_t16_loop : Scf.Loop 32 :=
  let c0_i32_199 : BitVec 32 := 0#32
  let c16_i32_200 : BitVec 32 := 16#32
  let v138 : BitVec 32 := Scalar.addi c0_i32_199 c16_i32_200
  let c1_i32_201 : BitVec 32 := 1#32
  ⟨c0_i32_199, v138, c1_i32_201⟩
def k0_off21 (v13_1 : BitVec 32) (v15_1 : BitVec 32) (k0_t15 : Fin k0_t15_loop.trips) (k0_t16 : Fin k0_t16_loop.trips) : Fin 2 → Nat :=
  let c0_i32_216 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_214 : BitVec 32 := 1#32
  let v164 : BitVec 1 := Scalar.cmpi .eq v33 c1_i32_214
  let c2047_i32_215 : BitVec 32 := 2047#32
  let c0_i32_76 : BitVec 32 := 0#32
  let c1_i32_78 : BitVec 32 := 1#32
  let arg12 : BitVec 32 := Scf.iv c0_i32_76 c1_i32_78 k0_t15
  let c16_i32_213 : BitVec 32 := 16#32
  let v162 : BitVec 32 := Scalar.muli arg12 c16_i32_213
  let c0_i32_199 : BitVec 32 := 0#32
  let c1_i32_201 : BitVec 32 := 1#32
  let arg20 : BitVec 32 := Scf.iv c0_i32_199 c1_i32_201 k0_t16
  let v163 : BitVec 32 := Scalar.addi v162 arg20
  let v165 : BitVec 32 := Scalar.subi c2047_i32_215 v163
  let v166 : BitVec 32 := Scalar.select v164 v165 v163
  let v167 : BitVec 32 := Scalar.addi c0_i32_216 v166
  let v168 : Index := Scalar.indexCast v167
  let c0_217 : Index := 0#32
  ![v168.toNat, 0]

@[reducible] def k0_t17_loop : Scf.Loop 32 :=
  let c0_i32_82 : BitVec 32 := 0#32
  let c16_i32_83 : BitVec 32 := 16#32
  let v44 : BitVec 32 := Scalar.addi c0_i32_82 c16_i32_83
  let c1_i32_84 : BitVec 32 := 1#32
  ⟨c0_i32_82, v44, c1_i32_84⟩
def k0_off22 (v13_1 : BitVec 32) (v15_1 : BitVec 32) (v43_1 : BitVec 32) (k0_t17 : Fin k0_t17_loop.trips) : Fin 2 → Nat :=
  let c0_i32_201 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_199 : BitVec 32 := 1#32
  let v139 : BitVec 1 := Scalar.cmpi .eq v33 c1_i32_199
  let c2047_i32_200 : BitVec 32 := 2047#32
  let c16_i32_198 : BitVec 32 := 16#32
  let v137 : BitVec 32 := Scalar.muli v43_1 c16_i32_198
  let c0_i32_82 : BitVec 32 := 0#32
  let c1_i32_84 : BitVec 32 := 1#32
  let arg12 : BitVec 32 := Scf.iv c0_i32_82 c1_i32_84 k0_t17
  let v138 : BitVec 32 := Scalar.addi v137 arg12
  let v140 : BitVec 32 := Scalar.subi c2047_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk52 (v13_1 : BitVec 32) (v15_1 : BitVec 32) (v43_1 : BitVec 32) : Prop :=
  (∀ k0_t17 : Fin k0_t17_loop.trips, ∀ a, (k0_off22 v13_1 v15_1 v43_1 k0_t17) a + S1x16.size a ≤ S2048x16.size a)
theorem k0_off22_inb : ∀ (v13_1 : BitVec 32) (v15_1 : BitVec 32) (v43_1 : BitVec 32) (k0_hw52 : k0_chk52 v13_1 v15_1 v43_1) (k0_t17 : Fin k0_t17_loop.trips), ∀ a, (k0_off22 v13_1 v15_1 v43_1 k0_t17) a + S1x16.size a ≤ S2048x16.size a := fun v13_1 v15_1 v43_1 k0_hw52 k0_t17 => k0_hw52 k0_t17

@[reducible] def k0_t18_loop : Scf.Loop 32 :=
  let c0_i32_91 : BitVec 32 := 0#32
  let c16_i32_92 : BitVec 32 := 16#32
  let v51 : BitVec 32 := Scalar.addi c0_i32_91 c16_i32_92
  let c1_i32_93 : BitVec 32 := 1#32
  ⟨c0_i32_91, v51, c1_i32_93⟩
def k0_off23 (v13_1 : BitVec 32) (v15_1 : BitVec 32) (v43_4 : BitVec 32) (k0_t18 : Fin k0_t18_loop.trips) : Fin 2 → Nat :=
  let c0_i32_201 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_199 : BitVec 32 := 1#32
  let v139 : BitVec 1 := Scalar.cmpi .eq v33 c1_i32_199
  let c2047_i32_200 : BitVec 32 := 2047#32
  let c16_i32_198 : BitVec 32 := 16#32
  let v137 : BitVec 32 := Scalar.muli v43_4 c16_i32_198
  let c0_i32_91 : BitVec 32 := 0#32
  let c1_i32_93 : BitVec 32 := 1#32
  let arg12 : BitVec 32 := Scf.iv c0_i32_91 c1_i32_93 k0_t18
  let v138 : BitVec 32 := Scalar.addi v137 arg12
  let v140 : BitVec 32 := Scalar.subi c2047_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk53 (v13_1 : BitVec 32) (v15_1 : BitVec 32) (v43_4 : BitVec 32) : Prop :=
  (∀ k0_t18 : Fin k0_t18_loop.trips, ∀ a, (k0_off23 v13_1 v15_1 v43_4 k0_t18) a + S1x16.size a ≤ S2048x16.size a)
theorem k0_off23_inb : ∀ (v13_1 : BitVec 32) (v15_1 : BitVec 32) (v43_4 : BitVec 32) (k0_hw53 : k0_chk53 v13_1 v15_1 v43_4) (k0_t18 : Fin k0_t18_loop.trips), ∀ a, (k0_off23 v13_1 v15_1 v43_4 k0_t18) a + S1x16.size a ≤ S2048x16.size a := fun v13_1 v15_1 v43_4 k0_hw53 k0_t18 => k0_hw53 k0_t18

@[reducible] def k0_t19_loop : Scf.Loop 32 :=
  let c0_i32_105 : BitVec 32 := 0#32
  let c128_i32_106 : BitVec 32 := 128#32
  let v58 : BitVec 32 := Scalar.addi c0_i32_105 c128_i32_106
  let c1_i32_107 : BitVec 32 := 1#32
  ⟨c0_i32_105, v58, c1_i32_107⟩
@[reducible] def k0_t20_loop : Scf.Loop 32 :=
  let c0_i32_199 : BitVec 32 := 0#32
  let c16_i32_200 : BitVec 32 := 16#32
  let v138 : BitVec 32 := Scalar.addi c0_i32_199 c16_i32_200
  let c1_i32_201 : BitVec 32 := 1#32
  ⟨c0_i32_199, v138, c1_i32_201⟩
def k0_off24 (v13_4 : BitVec 32) (v23_1 : BitVec 32) (k0_t19 : Fin k0_t19_loop.trips) (k0_t20 : Fin k0_t20_loop.trips) : Fin 2 → Nat :=
  let c0_i32_216 : BitVec 32 := 0#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_214 : BitVec 32 := 1#32
  let v164 : BitVec 1 := Scalar.cmpi .eq v35 c1_i32_214
  let c2047_i32_215 : BitVec 32 := 2047#32
  let c0_i32_105 : BitVec 32 := 0#32
  let c1_i32_107 : BitVec 32 := 1#32
  let arg12 : BitVec 32 := Scf.iv c0_i32_105 c1_i32_107 k0_t19
  let c16_i32_213 : BitVec 32 := 16#32
  let v162 : BitVec 32 := Scalar.muli arg12 c16_i32_213
  let c0_i32_199 : BitVec 32 := 0#32
  let c1_i32_201 : BitVec 32 := 1#32
  let arg20 : BitVec 32 := Scf.iv c0_i32_199 c1_i32_201 k0_t20
  let v163 : BitVec 32 := Scalar.addi v162 arg20
  let v165 : BitVec 32 := Scalar.subi c2047_i32_215 v163
  let v166 : BitVec 32 := Scalar.select v164 v165 v163
  let v167 : BitVec 32 := Scalar.addi c0_i32_216 v166
  let v168 : Index := Scalar.indexCast v167
  let c0_217 : Index := 0#32
  ![v168.toNat, 0]

@[reducible] def k0_t21_loop : Scf.Loop 32 :=
  let c0_i32_111 : BitVec 32 := 0#32
  let c16_i32_112 : BitVec 32 := 16#32
  let v60 : BitVec 32 := Scalar.addi c0_i32_111 c16_i32_112
  let c1_i32_113 : BitVec 32 := 1#32
  ⟨c0_i32_111, v60, c1_i32_113⟩
def k0_off25 (v13_4 : BitVec 32) (v23_1 : BitVec 32) (v59_1 : BitVec 32) (k0_t21 : Fin k0_t21_loop.trips) : Fin 2 → Nat :=
  let c0_i32_201 : BitVec 32 := 0#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_199 : BitVec 32 := 1#32
  let v139 : BitVec 1 := Scalar.cmpi .eq v35 c1_i32_199
  let c2047_i32_200 : BitVec 32 := 2047#32
  let c16_i32_198 : BitVec 32 := 16#32
  let v137 : BitVec 32 := Scalar.muli v59_1 c16_i32_198
  let c0_i32_111 : BitVec 32 := 0#32
  let c1_i32_113 : BitVec 32 := 1#32
  let arg12 : BitVec 32 := Scf.iv c0_i32_111 c1_i32_113 k0_t21
  let v138 : BitVec 32 := Scalar.addi v137 arg12
  let v140 : BitVec 32 := Scalar.subi c2047_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk55 (v13_4 : BitVec 32) (v23_1 : BitVec 32) (v59_1 : BitVec 32) : Prop :=
  (∀ k0_t21 : Fin k0_t21_loop.trips, ∀ a, (k0_off25 v13_4 v23_1 v59_1 k0_t21) a + S1x16.size a ≤ S2048x16.size a)
theorem k0_off25_inb : ∀ (v13_4 : BitVec 32) (v23_1 : BitVec 32) (v59_1 : BitVec 32) (k0_hw55 : k0_chk55 v13_4 v23_1 v59_1) (k0_t21 : Fin k0_t21_loop.trips), ∀ a, (k0_off25 v13_4 v23_1 v59_1 k0_t21) a + S1x16.size a ≤ S2048x16.size a := fun v13_4 v23_1 v59_1 k0_hw55 k0_t21 => k0_hw55 k0_t21

@[reducible] def k0_t22_loop : Scf.Loop 32 :=
  let c0_i32_120 : BitVec 32 := 0#32
  let c16_i32_121 : BitVec 32 := 16#32
  let v67 : BitVec 32 := Scalar.addi c0_i32_120 c16_i32_121
  let c1_i32_122 : BitVec 32 := 1#32
  ⟨c0_i32_120, v67, c1_i32_122⟩
def k0_off26 (v13_4 : BitVec 32) (v23_1 : BitVec 32) (v59_4 : BitVec 32) (k0_t22 : Fin k0_t22_loop.trips) : Fin 2 → Nat :=
  let c0_i32_201 : BitVec 32 := 0#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_199 : BitVec 32 := 1#32
  let v139 : BitVec 1 := Scalar.cmpi .eq v35 c1_i32_199
  let c2047_i32_200 : BitVec 32 := 2047#32
  let c16_i32_198 : BitVec 32 := 16#32
  let v137 : BitVec 32 := Scalar.muli v59_4 c16_i32_198
  let c0_i32_120 : BitVec 32 := 0#32
  let c1_i32_122 : BitVec 32 := 1#32
  let arg12 : BitVec 32 := Scf.iv c0_i32_120 c1_i32_122 k0_t22
  let v138 : BitVec 32 := Scalar.addi v137 arg12
  let v140 : BitVec 32 := Scalar.subi c2047_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk56 (v13_4 : BitVec 32) (v23_1 : BitVec 32) (v59_4 : BitVec 32) : Prop :=
  (∀ k0_t22 : Fin k0_t22_loop.trips, ∀ a, (k0_off26 v13_4 v23_1 v59_4 k0_t22) a + S1x16.size a ≤ S2048x16.size a)
theorem k0_off26_inb : ∀ (v13_4 : BitVec 32) (v23_1 : BitVec 32) (v59_4 : BitVec 32) (k0_hw56 : k0_chk56 v13_4 v23_1 v59_4) (k0_t22 : Fin k0_t22_loop.trips), ∀ a, (k0_off26 v13_4 v23_1 v59_4 k0_t22) a + S1x16.size a ≤ S2048x16.size a := fun v13_4 v23_1 v59_4 k0_hw56 k0_t22 => k0_hw56 k0_t22

def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_128 : BitVec 32 := 0#32
  ![v1.toNat, 0]
@[reducible] def k0_t23_loop : Scf.Loop 32 :=
  let c0_i32_131 : BitVec 32 := 0#32
  let c16_i32_132 : BitVec 32 := 16#32
  let v84 : BitVec 32 := Scalar.addi c0_i32_131 c16_i32_132
  let c1_i32_133 : BitVec 32 := 1#32
  ⟨c0_i32_131, v84, c1_i32_133⟩
def k0_off28 (i : grid0.Coords) (k0_t23 : Fin k0_t23_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_131 : BitVec 32 := 0#32
  let c1_i32_133 : BitVec 32 := 1#32
  let arg12 : BitVec 32 := Scf.iv c0_i32_131 c1_i32_133 k0_t23
  let c2_i32_198 : BitVec 32 := 2#32
  let v137 : BitVec 32 := Scalar.muli arg12 c2_i32_198
  let c1_i32_199 : BitVec 32 := 1#32
  let v138 : BitVec 32 := Scalar.addi v137 c1_i32_199
  let c8192_i32 : BitVec 32 := 8192#32
  let v139 : BitVec 32 := Scalar.muli v138 c8192_i32
  ![v1.toNat, v139.toNat]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  ![v1.toNat, 0]
@[reducible] def k0_t24_loop : Scf.Loop 32 :=
  let c0_i32_203 : BitVec 32 := 0#32
  let c64_i32_204 : BitVec 32 := 64#32
  let v148 : BitVec 32 := Scalar.addi c0_i32_203 c64_i32_204
  let c1_i32_205 : BitVec 32 := 1#32
  ⟨c0_i32_203, v148, c1_i32_205⟩
def k0_off30 (k0_t24 : Fin k0_t24_loop.trips) (c0_i32_216 : BitVec 32) : Fin 1 → Nat :=
  let c0_i32_203 : BitVec 32 := 0#32
  let c1_i32_205 : BitVec 32 := 1#32
  let arg13 : BitVec 32 := Scf.iv c0_i32_203 c1_i32_205 k0_t24
  let c16_i32_215 : BitVec 32 := 16#32
  let v157 : BitVec 32 := Scalar.muli arg13 c16_i32_215
  let c8_i32 : BitVec 32 := 8#32
  let v158 : BitVec 32 := Scalar.muli v157 c8_i32
  let v159 : BitVec 32 := Scalar.addi v158 c0_i32_216
  let v160 : Index := Scalar.indexCast v159
  ![v160.toNat]

def k0_chk57 (v2 : IVec S16 32) (v200 : IVec S16 32) : Prop :=
  (∀ a x, ((![v200, v2] : Fin 2 → IVec S16 32) a x).toNat < S2048x16.size a)
theorem k0_idx65_inb : ∀ (v2 : IVec S16 32) (v200 : IVec S16 32) (k0_hw57 : k0_chk57 v2 v200), ∀ a x, ((![v200, v2] : Fin 2 → IVec S16 32) a x).toNat < S2048x16.size a := fun v2 v200 k0_hw57 => k0_hw57

def k0_chk58 (v2 : IVec S16 32) (v202 : IVec S16 32) : Prop :=
  (∀ a x, ((![v202, v2] : Fin 2 → IVec S16 32) a x).toNat < S2048x16.size a)
theorem k0_idx66_inb : ∀ (v2 : IVec S16 32) (v202 : IVec S16 32) (k0_hw58 : k0_chk58 v2 v202), ∀ a x, ((![v202, v2] : Fin 2 → IVec S16 32) a x).toNat < S2048x16.size a := fun v2 v202 k0_hw58 => k0_hw58

def k0_chk59 (v2 : IVec S16 32) (v204 : IVec S16 32) : Prop :=
  (∀ a x, ((![v204, v2] : Fin 2 → IVec S16 32) a x).toNat < S2048x16.size a)
theorem k0_idx67_inb : ∀ (v2 : IVec S16 32) (v204 : IVec S16 32) (k0_hw59 : k0_chk59 v2 v204), ∀ a x, ((![v204, v2] : Fin 2 → IVec S16 32) a x).toNat < S2048x16.size a := fun v2 v204 k0_hw59 => k0_hw59

def k0_chk60 (v2 : IVec S16 32) (v206 : IVec S16 32) : Prop :=
  (∀ a x, ((![v206, v2] : Fin 2 → IVec S16 32) a x).toNat < S2048x16.size a)
theorem k0_idx68_inb : ∀ (v2 : IVec S16 32) (v206 : IVec S16 32) (k0_hw60 : k0_chk60 v2 v206), ∀ a x, ((![v206, v2] : Fin 2 → IVec S16 32) a x).toNat < S2048x16.size a := fun v2 v206 k0_hw60 => k0_hw60

def k0_chk61 (v2 : IVec S16 32) (v208 : IVec S16 32) : Prop :=
  (∀ a x, ((![v208, v2] : Fin 2 → IVec S16 32) a x).toNat < S2048x16.size a)
theorem k0_idx69_inb : ∀ (v2 : IVec S16 32) (v208 : IVec S16 32) (k0_hw61 : k0_chk61 v2 v208), ∀ a x, ((![v208, v2] : Fin 2 → IVec S16 32) a x).toNat < S2048x16.size a := fun v2 v208 k0_hw61 => k0_hw61

def k0_chk62 (v2 : IVec S16 32) (v210 : IVec S16 32) : Prop :=
  (∀ a x, ((![v210, v2] : Fin 2 → IVec S16 32) a x).toNat < S2048x16.size a)
theorem k0_idx70_inb : ∀ (v2 : IVec S16 32) (v210 : IVec S16 32) (k0_hw62 : k0_chk62 v2 v210), ∀ a x, ((![v210, v2] : Fin 2 → IVec S16 32) a x).toNat < S2048x16.size a := fun v2 v210 k0_hw62 => k0_hw62

def k0_chk63 (v2 : IVec S16 32) (v212 : IVec S16 32) : Prop :=
  (∀ a x, ((![v212, v2] : Fin 2 → IVec S16 32) a x).toNat < S2048x16.size a)
theorem k0_idx71_inb : ∀ (v2 : IVec S16 32) (v212 : IVec S16 32) (k0_hw63 : k0_chk63 v2 v212), ∀ a x, ((![v212, v2] : Fin 2 → IVec S16 32) a x).toNat < S2048x16.size a := fun v2 v212 k0_hw63 => k0_hw63

def k0_chk64 (v2 : IVec S16 32) (v214 : IVec S16 32) : Prop :=
  (∀ a x, ((![v214, v2] : Fin 2 → IVec S16 32) a x).toNat < S2048x16.size a)
theorem k0_idx72_inb : ∀ (v2 : IVec S16 32) (v214 : IVec S16 32) (k0_hw64 : k0_chk64 v2 v214), ∀ a x, ((![v214, v2] : Fin 2 → IVec S16 32) a x).toNat < S2048x16.size a := fun v2 v214 k0_hw64 => k0_hw64

def k0_chk65 (v2 : IVec S16 32) (v248 : IVec S16 32) : Prop :=
  (∀ a x, ((![v248, v2] : Fin 2 → IVec S16 32) a x).toNat < S2048x16.size a)
theorem k0_idx73_inb : ∀ (v2 : IVec S16 32) (v248 : IVec S16 32) (k0_hw65 : k0_chk65 v2 v248), ∀ a x, ((![v248, v2] : Fin 2 → IVec S16 32) a x).toNat < S2048x16.size a := fun v2 v248 k0_hw65 => k0_hw65

def k0_chk66 (v2 : IVec S16 32) (v250 : IVec S16 32) : Prop :=
  (∀ a x, ((![v250, v2] : Fin 2 → IVec S16 32) a x).toNat < S2048x16.size a)
theorem k0_idx74_inb : ∀ (v2 : IVec S16 32) (v250 : IVec S16 32) (k0_hw66 : k0_chk66 v2 v250), ∀ a x, ((![v250, v2] : Fin 2 → IVec S16 32) a x).toNat < S2048x16.size a := fun v2 v250 k0_hw66 => k0_hw66

def k0_chk67 (v2 : IVec S16 32) (v252 : IVec S16 32) : Prop :=
  (∀ a x, ((![v252, v2] : Fin 2 → IVec S16 32) a x).toNat < S2048x16.size a)
theorem k0_idx75_inb : ∀ (v2 : IVec S16 32) (v252 : IVec S16 32) (k0_hw67 : k0_chk67 v2 v252), ∀ a x, ((![v252, v2] : Fin 2 → IVec S16 32) a x).toNat < S2048x16.size a := fun v2 v252 k0_hw67 => k0_hw67

def k0_chk68 (v2 : IVec S16 32) (v254 : IVec S16 32) : Prop :=
  (∀ a x, ((![v254, v2] : Fin 2 → IVec S16 32) a x).toNat < S2048x16.size a)
theorem k0_idx76_inb : ∀ (v2 : IVec S16 32) (v254 : IVec S16 32) (k0_hw68 : k0_chk68 v2 v254), ∀ a x, ((![v254, v2] : Fin 2 → IVec S16 32) a x).toNat < S2048x16.size a := fun v2 v254 k0_hw68 => k0_hw68

def k0_chk69 (v2 : IVec S16 32) (v256 : IVec S16 32) : Prop :=
  (∀ a x, ((![v256, v2] : Fin 2 → IVec S16 32) a x).toNat < S2048x16.size a)
theorem k0_idx77_inb : ∀ (v2 : IVec S16 32) (v256 : IVec S16 32) (k0_hw69 : k0_chk69 v2 v256), ∀ a x, ((![v256, v2] : Fin 2 → IVec S16 32) a x).toNat < S2048x16.size a := fun v2 v256 k0_hw69 => k0_hw69

def k0_chk70 (v2 : IVec S16 32) (v258 : IVec S16 32) : Prop :=
  (∀ a x, ((![v258, v2] : Fin 2 → IVec S16 32) a x).toNat < S2048x16.size a)
theorem k0_idx78_inb : ∀ (v2 : IVec S16 32) (v258 : IVec S16 32) (k0_hw70 : k0_chk70 v2 v258), ∀ a x, ((![v258, v2] : Fin 2 → IVec S16 32) a x).toNat < S2048x16.size a := fun v2 v258 k0_hw70 => k0_hw70

def k0_chk71 (v2 : IVec S16 32) (v260 : IVec S16 32) : Prop :=
  (∀ a x, ((![v260, v2] : Fin 2 → IVec S16 32) a x).toNat < S2048x16.size a)
theorem k0_idx79_inb : ∀ (v2 : IVec S16 32) (v260 : IVec S16 32) (k0_hw71 : k0_chk71 v2 v260), ∀ a x, ((![v260, v2] : Fin 2 → IVec S16 32) a x).toNat < S2048x16.size a := fun v2 v260 k0_hw71 => k0_hw71

def k0_chk72 (v2 : IVec S16 32) (v262 : IVec S16 32) : Prop :=
  (∀ a x, ((![v262, v2] : Fin 2 → IVec S16 32) a x).toNat < S2048x16.size a)
theorem k0_idx80_inb : ∀ (v2 : IVec S16 32) (v262 : IVec S16 32) (k0_hw72 : k0_chk72 v2 v262), ∀ a x, ((![v262, v2] : Fin 2 → IVec S16 32) a x).toNat < S2048x16.size a := fun v2 v262 k0_hw72 => k0_hw72
def k0_cond3 (k0_t23 : Fin k0_t23_loop.trips) : BitVec 1 :=
  let c0_i32_131 : BitVec 32 := 0#32
  let c1_i32_133 : BitVec 32 := 1#32
  let arg12 : BitVec 32 := Scf.iv c0_i32_131 c1_i32_133 k0_t23
  let c15_i32 : BitVec 32 := 15#32
  let v149 : BitVec 1 := Scalar.cmpi .slt arg12 c15_i32
  let v150 : BitVec 32 := Scalar.extui v149
  let c0_i32_207 : BitVec 32 := 0#32
  let v151 : BitVec 1 := Scalar.cmpi .ne v150 c0_i32_207
  v151

def k0_off31 (i : grid0.Coords) (k0_t23 : Fin k0_t23_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_131 : BitVec 32 := 0#32
  let c1_i32_133 : BitVec 32 := 1#32
  let arg12 : BitVec 32 := Scf.iv c0_i32_131 c1_i32_133 k0_t23
  let c2_i32_198 : BitVec 32 := 2#32
  let v137 : BitVec 32 := Scalar.muli arg12 c2_i32_198
  let c2_i32_215 : BitVec 32 := 2#32
  let v157 : BitVec 32 := Scalar.addi v137 c2_i32_215
  let c8192_i32_216 : BitVec 32 := 8192#32
  let v158 : BitVec 32 := Scalar.muli v157 c8192_i32_216
  ![v1.toNat, v158.toNat]
@[reducible] def k0_t25_loop : Scf.Loop 32 :=
  let c0_i32_211 : BitVec 32 := 0#32
  let c64_i32_212 : BitVec 32 := 64#32
  let v156 : BitVec 32 := Scalar.addi c0_i32_211 c64_i32_212
  let c1_i32_213 : BitVec 32 := 1#32
  ⟨c0_i32_211, v156, c1_i32_213⟩
def k0_off32 (k0_t25 : Fin k0_t25_loop.trips) (c0_i32_216 : BitVec 32) : Fin 1 → Nat :=
  let c0_i32_211 : BitVec 32 := 0#32
  let c1_i32_213 : BitVec 32 := 1#32
  let arg13 : BitVec 32 := Scf.iv c0_i32_211 c1_i32_213 k0_t25
  let c16_i32_215 : BitVec 32 := 16#32
  let v157 : BitVec 32 := Scalar.muli arg13 c16_i32_215
  let c8_i32 : BitVec 32 := 8#32
  let v158 : BitVec 32 := Scalar.muli v157 c8_i32
  let v159 : BitVec 32 := Scalar.addi v158 c0_i32_216
  let v160 : Index := Scalar.indexCast v159
  ![v160.toNat]

def k0_chk73 (v2 : IVec S16 32) (v200 : IVec S16 32) : Prop :=
  (∀ a x, ((![v200, v2] : Fin 2 → IVec S16 32) a x).toNat < S2048x16.size a)
theorem k0_idx81_inb : ∀ (v2 : IVec S16 32) (v200 : IVec S16 32) (k0_hw73 : k0_chk73 v2 v200), ∀ a x, ((![v200, v2] : Fin 2 → IVec S16 32) a x).toNat < S2048x16.size a := fun v2 v200 k0_hw73 => k0_hw73

def k0_chk74 (v2 : IVec S16 32) (v202 : IVec S16 32) : Prop :=
  (∀ a x, ((![v202, v2] : Fin 2 → IVec S16 32) a x).toNat < S2048x16.size a)
theorem k0_idx82_inb : ∀ (v2 : IVec S16 32) (v202 : IVec S16 32) (k0_hw74 : k0_chk74 v2 v202), ∀ a x, ((![v202, v2] : Fin 2 → IVec S16 32) a x).toNat < S2048x16.size a := fun v2 v202 k0_hw74 => k0_hw74

def k0_chk75 (v2 : IVec S16 32) (v204 : IVec S16 32) : Prop :=
  (∀ a x, ((![v204, v2] : Fin 2 → IVec S16 32) a x).toNat < S2048x16.size a)
theorem k0_idx83_inb : ∀ (v2 : IVec S16 32) (v204 : IVec S16 32) (k0_hw75 : k0_chk75 v2 v204), ∀ a x, ((![v204, v2] : Fin 2 → IVec S16 32) a x).toNat < S2048x16.size a := fun v2 v204 k0_hw75 => k0_hw75

def k0_chk76 (v2 : IVec S16 32) (v206 : IVec S16 32) : Prop :=
  (∀ a x, ((![v206, v2] : Fin 2 → IVec S16 32) a x).toNat < S2048x16.size a)
theorem k0_idx84_inb : ∀ (v2 : IVec S16 32) (v206 : IVec S16 32) (k0_hw76 : k0_chk76 v2 v206), ∀ a x, ((![v206, v2] : Fin 2 → IVec S16 32) a x).toNat < S2048x16.size a := fun v2 v206 k0_hw76 => k0_hw76

def k0_chk77 (v2 : IVec S16 32) (v208 : IVec S16 32) : Prop :=
  (∀ a x, ((![v208, v2] : Fin 2 → IVec S16 32) a x).toNat < S2048x16.size a)
theorem k0_idx85_inb : ∀ (v2 : IVec S16 32) (v208 : IVec S16 32) (k0_hw77 : k0_chk77 v2 v208), ∀ a x, ((![v208, v2] : Fin 2 → IVec S16 32) a x).toNat < S2048x16.size a := fun v2 v208 k0_hw77 => k0_hw77

def k0_chk78 (v2 : IVec S16 32) (v210 : IVec S16 32) : Prop :=
  (∀ a x, ((![v210, v2] : Fin 2 → IVec S16 32) a x).toNat < S2048x16.size a)
theorem k0_idx86_inb : ∀ (v2 : IVec S16 32) (v210 : IVec S16 32) (k0_hw78 : k0_chk78 v2 v210), ∀ a x, ((![v210, v2] : Fin 2 → IVec S16 32) a x).toNat < S2048x16.size a := fun v2 v210 k0_hw78 => k0_hw78

def k0_chk79 (v2 : IVec S16 32) (v212 : IVec S16 32) : Prop :=
  (∀ a x, ((![v212, v2] : Fin 2 → IVec S16 32) a x).toNat < S2048x16.size a)
theorem k0_idx87_inb : ∀ (v2 : IVec S16 32) (v212 : IVec S16 32) (k0_hw79 : k0_chk79 v2 v212), ∀ a x, ((![v212, v2] : Fin 2 → IVec S16 32) a x).toNat < S2048x16.size a := fun v2 v212 k0_hw79 => k0_hw79

def k0_chk80 (v2 : IVec S16 32) (v214 : IVec S16 32) : Prop :=
  (∀ a x, ((![v214, v2] : Fin 2 → IVec S16 32) a x).toNat < S2048x16.size a)
theorem k0_idx88_inb : ∀ (v2 : IVec S16 32) (v214 : IVec S16 32) (k0_hw80 : k0_chk80 v2 v214), ∀ a x, ((![v214, v2] : Fin 2 → IVec S16 32) a x).toNat < S2048x16.size a := fun v2 v214 k0_hw80 => k0_hw80

def k0_chk81 (v2 : IVec S16 32) (v248 : IVec S16 32) : Prop :=
  (∀ a x, ((![v248, v2] : Fin 2 → IVec S16 32) a x).toNat < S2048x16.size a)
theorem k0_idx89_inb : ∀ (v2 : IVec S16 32) (v248 : IVec S16 32) (k0_hw81 : k0_chk81 v2 v248), ∀ a x, ((![v248, v2] : Fin 2 → IVec S16 32) a x).toNat < S2048x16.size a := fun v2 v248 k0_hw81 => k0_hw81

def k0_chk82 (v2 : IVec S16 32) (v250 : IVec S16 32) : Prop :=
  (∀ a x, ((![v250, v2] : Fin 2 → IVec S16 32) a x).toNat < S2048x16.size a)
theorem k0_idx90_inb : ∀ (v2 : IVec S16 32) (v250 : IVec S16 32) (k0_hw82 : k0_chk82 v2 v250), ∀ a x, ((![v250, v2] : Fin 2 → IVec S16 32) a x).toNat < S2048x16.size a := fun v2 v250 k0_hw82 => k0_hw82

def k0_chk83 (v2 : IVec S16 32) (v252 : IVec S16 32) : Prop :=
  (∀ a x, ((![v252, v2] : Fin 2 → IVec S16 32) a x).toNat < S2048x16.size a)
theorem k0_idx91_inb : ∀ (v2 : IVec S16 32) (v252 : IVec S16 32) (k0_hw83 : k0_chk83 v2 v252), ∀ a x, ((![v252, v2] : Fin 2 → IVec S16 32) a x).toNat < S2048x16.size a := fun v2 v252 k0_hw83 => k0_hw83

def k0_chk84 (v2 : IVec S16 32) (v254 : IVec S16 32) : Prop :=
  (∀ a x, ((![v254, v2] : Fin 2 → IVec S16 32) a x).toNat < S2048x16.size a)
theorem k0_idx92_inb : ∀ (v2 : IVec S16 32) (v254 : IVec S16 32) (k0_hw84 : k0_chk84 v2 v254), ∀ a x, ((![v254, v2] : Fin 2 → IVec S16 32) a x).toNat < S2048x16.size a := fun v2 v254 k0_hw84 => k0_hw84

def k0_chk85 (v2 : IVec S16 32) (v256 : IVec S16 32) : Prop :=
  (∀ a x, ((![v256, v2] : Fin 2 → IVec S16 32) a x).toNat < S2048x16.size a)
theorem k0_idx93_inb : ∀ (v2 : IVec S16 32) (v256 : IVec S16 32) (k0_hw85 : k0_chk85 v2 v256), ∀ a x, ((![v256, v2] : Fin 2 → IVec S16 32) a x).toNat < S2048x16.size a := fun v2 v256 k0_hw85 => k0_hw85

def k0_chk86 (v2 : IVec S16 32) (v258 : IVec S16 32) : Prop :=
  (∀ a x, ((![v258, v2] : Fin 2 → IVec S16 32) a x).toNat < S2048x16.size a)
theorem k0_idx94_inb : ∀ (v2 : IVec S16 32) (v258 : IVec S16 32) (k0_hw86 : k0_chk86 v2 v258), ∀ a x, ((![v258, v2] : Fin 2 → IVec S16 32) a x).toNat < S2048x16.size a := fun v2 v258 k0_hw86 => k0_hw86

def k0_chk87 (v2 : IVec S16 32) (v260 : IVec S16 32) : Prop :=
  (∀ a x, ((![v260, v2] : Fin 2 → IVec S16 32) a x).toNat < S2048x16.size a)
theorem k0_idx95_inb : ∀ (v2 : IVec S16 32) (v260 : IVec S16 32) (k0_hw87 : k0_chk87 v2 v260), ∀ a x, ((![v260, v2] : Fin 2 → IVec S16 32) a x).toNat < S2048x16.size a := fun v2 v260 k0_hw87 => k0_hw87

def k0_chk88 (v2 : IVec S16 32) (v262 : IVec S16 32) : Prop :=
  (∀ a x, ((![v262, v2] : Fin 2 → IVec S16 32) a x).toNat < S2048x16.size a)
theorem k0_idx96_inb : ∀ (v2 : IVec S16 32) (v262 : IVec S16 32) (k0_hw88 : k0_chk88 v2 v262), ∀ a x, ((![v262, v2] : Fin 2 → IVec S16 32) a x).toNat < S2048x16.size a := fun v2 v262 k0_hw88 => k0_hw88
@[reducible] def k0_t26_loop : Scf.Loop 32 :=
  let c0_i32_142 : BitVec 32 := 0#32
  let c64_i32 : BitVec 32 := 64#32
  let v85 : BitVec 32 := Scalar.addi c0_i32_142 c64_i32
  let c1_i32_143 : BitVec 32 := 1#32
  ⟨c0_i32_142, v85, c1_i32_143⟩
@[reducible] def k0_t27_loop : Scf.Loop 32 :=
  let c0_i32_199 : BitVec 32 := 0#32
  let c16_i32_200 : BitVec 32 := 16#32
  let v138 : BitVec 32 := Scalar.addi c0_i32_199 c16_i32_200
  let c1_i32_201 : BitVec 32 := 1#32
  ⟨c0_i32_199, v138, c1_i32_201⟩
def k0_off33 (v13_1 : BitVec 32) (v15_1 : BitVec 32) (k0_t26 : Fin k0_t26_loop.trips) (k0_t27 : Fin k0_t27_loop.trips) : Fin 2 → Nat :=
  let c0_i32_216 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_214 : BitVec 32 := 1#32
  let v164 : BitVec 1 := Scalar.cmpi .eq v33 c1_i32_214
  let c1023_i32_215 : BitVec 32 := 1023#32
  let c0_i32_142 : BitVec 32 := 0#32
  let c1_i32_143 : BitVec 32 := 1#32
  let arg12 : BitVec 32 := Scf.iv c0_i32_142 c1_i32_143 k0_t26
  let c16_i32_213 : BitVec 32 := 16#32
  let v162 : BitVec 32 := Scalar.muli arg12 c16_i32_213
  let c0_i32_199 : BitVec 32 := 0#32
  let c1_i32_201 : BitVec 32 := 1#32
  let arg20 : BitVec 32 := Scf.iv c0_i32_199 c1_i32_201 k0_t27
  let v163 : BitVec 32 := Scalar.addi v162 arg20
  let v165 : BitVec 32 := Scalar.subi c1023_i32_215 v163
  let v166 : BitVec 32 := Scalar.select v164 v165 v163
  let v167 : BitVec 32 := Scalar.addi c0_i32_216 v166
  let v168 : Index := Scalar.indexCast v167
  let c0_217 : Index := 0#32
  ![v168.toNat, 0]

def k0_chk51 (v13_1 : BitVec 32) (v15_1 : BitVec 32) : Prop :=
  (∀ (k0_t15 : Fin k0_t15_loop.trips) (k0_t16 : Fin k0_t16_loop.trips), ∀ a, (k0_off21 v13_1 v15_1 k0_t15 k0_t16) a + S1x16.size a ≤ S2048x16.size a) ∧
  (∀ (k0_t26 : Fin k0_t26_loop.trips) (k0_t27 : Fin k0_t27_loop.trips), ∀ a, (k0_off33 v13_1 v15_1 k0_t26 k0_t27) a + S1x16.size a ≤ S2048x16.size a)
theorem k0_off21_inb : ∀ (v13_1 : BitVec 32) (v15_1 : BitVec 32) (k0_hw51 : k0_chk51 v13_1 v15_1) (k0_t15 : Fin k0_t15_loop.trips) (k0_t16 : Fin k0_t16_loop.trips), ∀ a, (k0_off21 v13_1 v15_1 k0_t15 k0_t16) a + S1x16.size a ≤ S2048x16.size a := fun v13_1 v15_1 k0_hw51 k0_t15 k0_t16 => k0_hw51.1 k0_t15 k0_t16
theorem k0_off33_inb : ∀ (v13_1 : BitVec 32) (v15_1 : BitVec 32) (k0_hw51 : k0_chk51 v13_1 v15_1) (k0_t26 : Fin k0_t26_loop.trips) (k0_t27 : Fin k0_t27_loop.trips), ∀ a, (k0_off33 v13_1 v15_1 k0_t26 k0_t27) a + S1x16.size a ≤ S2048x16.size a := fun v13_1 v15_1 k0_hw51 k0_t26 k0_t27 => k0_hw51.2 k0_t26 k0_t27

@[reducible] def k0_t28_loop : Scf.Loop 32 :=
  let c0_i32_147 : BitVec 32 := 0#32
  let c16_i32_148 : BitVec 32 := 16#32
  let v87 : BitVec 32 := Scalar.addi c0_i32_147 c16_i32_148
  let c1_i32_149 : BitVec 32 := 1#32
  ⟨c0_i32_147, v87, c1_i32_149⟩
def k0_off34 (v13_1 : BitVec 32) (v15_1 : BitVec 32) (v86_1 : BitVec 32) (k0_t28 : Fin k0_t28_loop.trips) : Fin 2 → Nat :=
  let c0_i32_201 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_199 : BitVec 32 := 1#32
  let v139 : BitVec 1 := Scalar.cmpi .eq v33 c1_i32_199
  let c1023_i32_200 : BitVec 32 := 1023#32
  let c16_i32_198 : BitVec 32 := 16#32
  let v137 : BitVec 32 := Scalar.muli v86_1 c16_i32_198
  let c0_i32_147 : BitVec 32 := 0#32
  let c1_i32_149 : BitVec 32 := 1#32
  let arg12 : BitVec 32 := Scf.iv c0_i32_147 c1_i32_149 k0_t28
  let v138 : BitVec 32 := Scalar.addi v137 arg12
  let v140 : BitVec 32 := Scalar.subi c1023_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk89 (v13_1 : BitVec 32) (v15_1 : BitVec 32) (v86_1 : BitVec 32) : Prop :=
  (∀ k0_t28 : Fin k0_t28_loop.trips, ∀ a, (k0_off34 v13_1 v15_1 v86_1 k0_t28) a + S1x16.size a ≤ S2048x16.size a)
theorem k0_off34_inb : ∀ (v13_1 : BitVec 32) (v15_1 : BitVec 32) (v86_1 : BitVec 32) (k0_hw89 : k0_chk89 v13_1 v15_1 v86_1) (k0_t28 : Fin k0_t28_loop.trips), ∀ a, (k0_off34 v13_1 v15_1 v86_1 k0_t28) a + S1x16.size a ≤ S2048x16.size a := fun v13_1 v15_1 v86_1 k0_hw89 k0_t28 => k0_hw89 k0_t28

@[reducible] def k0_t29_loop : Scf.Loop 32 :=
  let c0_i32_155 : BitVec 32 := 0#32
  let c16_i32_156 : BitVec 32 := 16#32
  let v94 : BitVec 32 := Scalar.addi c0_i32_155 c16_i32_156
  let c1_i32_157 : BitVec 32 := 1#32
  ⟨c0_i32_155, v94, c1_i32_157⟩
def k0_off35 (v13_1 : BitVec 32) (v15_1 : BitVec 32) (v86_4 : BitVec 32) (k0_t29 : Fin k0_t29_loop.trips) : Fin 2 → Nat :=
  let c0_i32_201 : BitVec 32 := 0#32
  let c16_i32_36 : BitVec 32 := 16#32
  let v16 : BitVec 32 := Scalar.muli v13_1 c16_i32_36
  let v17 : BitVec 32 := Scalar.addi v16 v15_1
  let c1024_i32 : BitVec 32 := 1024#32
  let v18 : BitVec 1 := Scalar.cmpi .slt v17 c1024_i32
  let c2047_i32 : BitVec 32 := 2047#32
  let v19 : BitVec 32 := Scalar.subi c2047_i32 v17
  let c1024_i32_37 : BitVec 32 := 1024#32
  let v20 : BitVec 32 := Scalar.subi v17 c1024_i32_37
  let v21 : BitVec 32 := Scalar.select v18 v19 v20
  let c1024_i32_51 : BitVec 32 := 1024#32
  let v32 : BitVec 1 := Scalar.cmpi .sge v21 c1024_i32_51
  let c1_i32_52 : BitVec 32 := 1#32
  let c0_i32_53 : BitVec 32 := 0#32
  let v33 : BitVec 32 := Scalar.select v32 c1_i32_52 c0_i32_53
  let c1_i32_199 : BitVec 32 := 1#32
  let v139 : BitVec 1 := Scalar.cmpi .eq v33 c1_i32_199
  let c1023_i32_200 : BitVec 32 := 1023#32
  let c16_i32_198 : BitVec 32 := 16#32
  let v137 : BitVec 32 := Scalar.muli v86_4 c16_i32_198
  let c0_i32_155 : BitVec 32 := 0#32
  let c1_i32_157 : BitVec 32 := 1#32
  let arg12 : BitVec 32 := Scf.iv c0_i32_155 c1_i32_157 k0_t29
  let v138 : BitVec 32 := Scalar.addi v137 arg12
  let v140 : BitVec 32 := Scalar.subi c1023_i32_200 v138
  let v141 : BitVec 32 := Scalar.select v139 v140 v138
  let v142 : BitVec 32 := Scalar.addi c0_i32_201 v141
  let v143 : Index := Scalar.indexCast v142
  let c0_202 : Index := 0#32
  ![v143.toNat, 0]

def k0_chk90 (v13_1 : BitVec 32) (v15_1 : BitVec 32) (v86_4 : BitVec 32) : Prop :=
  (∀ k0_t29 : Fin k0_t29_loop.trips, ∀ a, (k0_off35 v13_1 v15_1 v86_4 k0_t29) a + S1x16.size a ≤ S2048x16.size a)
theorem k0_off35_inb : ∀ (v13_1 : BitVec 32) (v15_1 : BitVec 32) (v86_4 : BitVec 32) (k0_hw90 : k0_chk90 v13_1 v15_1 v86_4) (k0_t29 : Fin k0_t29_loop.trips), ∀ a, (k0_off35 v13_1 v15_1 v86_4 k0_t29) a + S1x16.size a ≤ S2048x16.size a := fun v13_1 v15_1 v86_4 k0_hw90 k0_t29 => k0_hw90 k0_t29

@[reducible] def k0_t30_loop : Scf.Loop 32 :=
  let c0_i32_169 : BitVec 32 := 0#32
  let c64_i32_170 : BitVec 32 := 64#32
  let v101 : BitVec 32 := Scalar.addi c0_i32_169 c64_i32_170
  let c1_i32_171 : BitVec 32 := 1#32
  ⟨c0_i32_169, v101, c1_i32_171⟩
@[reducible] def k0_t31_loop : Scf.Loop 32 :=
  let c0_i32_199 : BitVec 32 := 0#32
  let c16_i32_200 : BitVec 32 := 16#32
  let v138 : BitVec 32 := Scalar.addi c0_i32_199 c16_i32_200
  let c1_i32_201 : BitVec 32 := 1#32
  ⟨c0_i32_199, v138, c1_i32_201⟩
def k0_off36 (v13_4 : BitVec 32) (v23_1 : BitVec 32) (k0_t30 : Fin k0_t30_loop.trips) (k0_t31 : Fin k0_t31_loop.trips) : Fin 2 → Nat :=
  let c1024_i32_216 : BitVec 32 := 1024#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_214 : BitVec 32 := 1#32
  let v164 : BitVec 1 := Scalar.cmpi .eq v35 c1_i32_214
  let c1023_i32_215 : BitVec 32 := 1023#32
  let c0_i32_169 : BitVec 32 := 0#32
  let c1_i32_171 : BitVec 32 := 1#32
  let arg12 : BitVec 32 := Scf.iv c0_i32_169 c1_i32_171 k0_t30
  let c16_i32_213 : BitVec 32 := 16#32
  let v162 : BitVec 32 := Scalar.muli arg12 c16_i32_213
  let c0_i32_199 : BitVec 32 := 0#32
  let c1_i32_201 : BitVec 32 := 1#32
  let arg20 : BitVec 32 := Scf.iv c0_i32_199 c1_i32_201 k0_t31
  let v163 : BitVec 32 := Scalar.addi v162 arg20
  let v165 : BitVec 32 := Scalar.subi c1023_i32_215 v163
  let v166 : BitVec 32 := Scalar.select v164 v165 v163
  let v167 : BitVec 32 := Scalar.addi c1024_i32_216 v166
  let v168 : Index := Scalar.indexCast v167
  let c0_217 : Index := 0#32
  ![v168.toNat, 0]

def k0_chk54 (v13_4 : BitVec 32) (v23_1 : BitVec 32) : Prop :=
  (∀ (k0_t19 : Fin k0_t19_loop.trips) (k0_t20 : Fin k0_t20_loop.trips), ∀ a, (k0_off24 v13_4 v23_1 k0_t19 k0_t20) a + S1x16.size a ≤ S2048x16.size a) ∧
  (∀ (k0_t30 : Fin k0_t30_loop.trips) (k0_t31 : Fin k0_t31_loop.trips), ∀ a, (k0_off36 v13_4 v23_1 k0_t30 k0_t31) a + S1x16.size a ≤ S2048x16.size a)
theorem k0_off24_inb : ∀ (v13_4 : BitVec 32) (v23_1 : BitVec 32) (k0_hw54 : k0_chk54 v13_4 v23_1) (k0_t19 : Fin k0_t19_loop.trips) (k0_t20 : Fin k0_t20_loop.trips), ∀ a, (k0_off24 v13_4 v23_1 k0_t19 k0_t20) a + S1x16.size a ≤ S2048x16.size a := fun v13_4 v23_1 k0_hw54 k0_t19 k0_t20 => k0_hw54.1 k0_t19 k0_t20
theorem k0_off36_inb : ∀ (v13_4 : BitVec 32) (v23_1 : BitVec 32) (k0_hw54 : k0_chk54 v13_4 v23_1) (k0_t30 : Fin k0_t30_loop.trips) (k0_t31 : Fin k0_t31_loop.trips), ∀ a, (k0_off36 v13_4 v23_1 k0_t30 k0_t31) a + S1x16.size a ≤ S2048x16.size a := fun v13_4 v23_1 k0_hw54 k0_t30 k0_t31 => k0_hw54.2 k0_t30 k0_t31

@[reducible] def k0_t32_loop : Scf.Loop 32 :=
  let c0_i32_175 : BitVec 32 := 0#32
  let c16_i32_176 : BitVec 32 := 16#32
  let v103 : BitVec 32 := Scalar.addi c0_i32_175 c16_i32_176
  let c1_i32_177 : BitVec 32 := 1#32
  ⟨c0_i32_175, v103, c1_i32_177⟩
def k0_off37 (v13_4 : BitVec 32) (v23_1 : BitVec 32) (v102_1 : BitVec 32) (k0_t32 : Fin k0_t32_loop.trips) : Fin 2 → Nat :=
  let c1024_i32_201 : BitVec 32 := 1024#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_199 : BitVec 32 := 1#32
  let v139 : BitVec 1 := Scalar.cmpi .eq v35 c1_i32_199
  let c1023_i32_200 : BitVec 32 := 1023#32
  let c16_i32_198 : BitVec 32 := 16#32
  let v137 : BitVec 32 := Scalar.muli v102_1 c16_i32_198
  let c0_i32_175 : BitVec 32 := 0#32
  let c1_i32_177 : BitVec 32 := 1#32
  let arg12 : BitVec 32 := Scf.iv c0_i32_175 c1_i32_177 k0_t32
  let v138 : BitVec 32 := Scalar.addi v137 arg12
  let v140 : BitVec 32 := Scalar.subi c1023_i32_200 v138
  let v141 : BitVec 32 := Scalar.select v139 v140 v138
  let v142 : BitVec 32 := Scalar.addi c1024_i32_201 v141
  let v143 : Index := Scalar.indexCast v142
  let c0_202 : Index := 0#32
  ![v143.toNat, 0]

def k0_chk91 (v13_4 : BitVec 32) (v23_1 : BitVec 32) (v102_1 : BitVec 32) : Prop :=
  (∀ k0_t32 : Fin k0_t32_loop.trips, ∀ a, (k0_off37 v13_4 v23_1 v102_1 k0_t32) a + S1x16.size a ≤ S2048x16.size a)
theorem k0_off37_inb : ∀ (v13_4 : BitVec 32) (v23_1 : BitVec 32) (v102_1 : BitVec 32) (k0_hw91 : k0_chk91 v13_4 v23_1 v102_1) (k0_t32 : Fin k0_t32_loop.trips), ∀ a, (k0_off37 v13_4 v23_1 v102_1 k0_t32) a + S1x16.size a ≤ S2048x16.size a := fun v13_4 v23_1 v102_1 k0_hw91 k0_t32 => k0_hw91 k0_t32

@[reducible] def k0_t33_loop : Scf.Loop 32 :=
  let c0_i32_184 : BitVec 32 := 0#32
  let c16_i32_185 : BitVec 32 := 16#32
  let v110 : BitVec 32 := Scalar.addi c0_i32_184 c16_i32_185
  let c1_i32_186 : BitVec 32 := 1#32
  ⟨c0_i32_184, v110, c1_i32_186⟩
def k0_off38 (v13_4 : BitVec 32) (v23_1 : BitVec 32) (v102_4 : BitVec 32) (k0_t33 : Fin k0_t33_loop.trips) : Fin 2 → Nat :=
  let c1024_i32_201 : BitVec 32 := 1024#32
  let c16_i32_45 : BitVec 32 := 16#32
  let v24 : BitVec 32 := Scalar.muli v13_4 c16_i32_45
  let v25 : BitVec 32 := Scalar.addi v24 v23_1
  let c1024_i32_46 : BitVec 32 := 1024#32
  let v26 : BitVec 1 := Scalar.cmpi .slt v25 c1024_i32_46
  let c2047_i32_47 : BitVec 32 := 2047#32
  let v27 : BitVec 32 := Scalar.subi c2047_i32_47 v25
  let c1024_i32_48 : BitVec 32 := 1024#32
  let v28 : BitVec 32 := Scalar.subi v25 c1024_i32_48
  let v29 : BitVec 32 := Scalar.select v26 v27 v28
  let c1024_i32_54 : BitVec 32 := 1024#32
  let v34 : BitVec 1 := Scalar.cmpi .sge v29 c1024_i32_54
  let c1_i32_55 : BitVec 32 := 1#32
  let c0_i32_56 : BitVec 32 := 0#32
  let v35 : BitVec 32 := Scalar.select v34 c1_i32_55 c0_i32_56
  let c1_i32_199 : BitVec 32 := 1#32
  let v139 : BitVec 1 := Scalar.cmpi .eq v35 c1_i32_199
  let c1023_i32_200 : BitVec 32 := 1023#32
  let c16_i32_198 : BitVec 32 := 16#32
  let v137 : BitVec 32 := Scalar.muli v102_4 c16_i32_198
  let c0_i32_184 : BitVec 32 := 0#32
  let c1_i32_186 : BitVec 32 := 1#32
  let arg12 : BitVec 32 := Scf.iv c0_i32_184 c1_i32_186 k0_t33
  let v138 : BitVec 32 := Scalar.addi v137 arg12
  let v140 : BitVec 32 := Scalar.subi c1023_i32_200 v138
  let v141 : BitVec 32 := Scalar.select v139 v140 v138
  let v142 : BitVec 32 := Scalar.addi c1024_i32_201 v141
  let v143 : Index := Scalar.indexCast v142
  let c0_202 : Index := 0#32
  ![v143.toNat, 0]

def k0_chk92 (v13_4 : BitVec 32) (v23_1 : BitVec 32) (v102_4 : BitVec 32) : Prop :=
  (∀ k0_t33 : Fin k0_t33_loop.trips, ∀ a, (k0_off38 v13_4 v23_1 v102_4 k0_t33) a + S1x16.size a ≤ S2048x16.size a)
theorem k0_off38_inb : ∀ (v13_4 : BitVec 32) (v23_1 : BitVec 32) (v102_4 : BitVec 32) (k0_hw92 : k0_chk92 v13_4 v23_1 v102_4) (k0_t33 : Fin k0_t33_loop.trips), ∀ a, (k0_off38 v13_4 v23_1 v102_4 k0_t33) a + S1x16.size a ≤ S2048x16.size a := fun v13_4 v23_1 v102_4 k0_hw92 k0_t33 => k0_hw92 k0_t33

def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198_r0 : BitVec 32 := 0#32
  ![v1.toNat, 0]
abbrev grid1 : Pipeline.Grid := ⟨1, ![32], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (i : grid1.Coords) : Fin 2 → Nat :=
  let arg0 : BitVec 32 := BitVec.ofNat 32 (i 0).val
  let v2 : Index := Scalar.indexCast arg0
  let c1 : Index := 1#32
  ![v2.toNat, 1]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S32x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x512x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1x512x512 : Shape := ⟨4, ![32, 1, 512, 512]⟩
abbrev S_ : Shape := ⟨0, ![]⟩
abbrev S32x262144 : Shape := ⟨2, ![32, 262144]⟩
abbrev S32x26214 : Shape := ⟨2, ![32, 26214]⟩
abbrev S32x26214x1 : Shape := ⟨3, ![32, 26214, 1]⟩
abbrev S32x26214x2 : Shape := ⟨3, ![32, 26214, 2]⟩
abbrev S32x512x512 : Shape := ⟨3, ![32, 512, 512]⟩

abbrev nBuf : Space → Nat
  | .hbm => 131
  | .vmem => 0
  | .smem => 0
  | _ => 0

abbrev hbmTy0_0 (i : Nat) : BufTy := match i % 128 with
  | 0 => ⟨S32x1x512x512, .i32⟩
  | 1 => ⟨S_, .i32⟩
  | 2 => ⟨S32x1x512x512, .i32⟩
  | 3 => ⟨S32x1x512x512, .i32⟩
  | 4 => ⟨S_, .i32⟩
  | 5 => ⟨S32x1x512x512, .i32⟩
  | 6 => ⟨S32x1x512x512, .i32⟩
  | 7 => ⟨S_, .i32⟩
  | 8 => ⟨S32x1x512x512, .i32⟩
  | 9 => ⟨S32x1x512x512, .i32⟩
  | 10 => ⟨S_, .i32⟩
  | 11 => ⟨S32x1x512x512, .i32⟩
  | 12 => ⟨S32x1x512x512, .i1⟩
  | 13 => ⟨S_, .i32⟩
  | 14 => ⟨S32x1x512x512, .i32⟩
  | 15 => ⟨S32x1x512x512, .i32⟩
  | 16 => ⟨S32x1x512x512, .i32⟩
  | 17 => ⟨S32x1x512x512, .f32⟩
  | 18 => ⟨S_, .i32⟩
  | 19 => ⟨S32x1x512x512, .i32⟩
  | 20 => ⟨S32x1x512x512, .i1⟩
  | 21 => ⟨S_, .i32⟩
  | 22 => ⟨S_, .i32⟩
  | 23 => ⟨S32x1x512x512, .i32⟩
  | 24 => ⟨S32x1x512x512, .i32⟩
  | 25 => ⟨S32x1x512x512, .f32⟩
  | 26 => ⟨S_, .f32⟩
  | 27 => ⟨S32x1x512x512, .f32⟩
  | 28 => ⟨S32x1x512x512, .f32⟩
  | 29 => ⟨S_, .f32⟩
  | 30 => ⟨S32x1x512x512, .f32⟩
  | 31 => ⟨S32x1x512x512, .f32⟩
  | 32 => ⟨S_, .f32⟩
  | 33 => ⟨S32x1x512x512, .f32⟩
  | 34 => ⟨S32x1x512x512, .f32⟩
  | 35 => ⟨S32x1x512x512, .f32⟩
  | 36 => ⟨S_, .i32⟩
  | 37 => ⟨S32x1x512x512, .i32⟩
  | 38 => ⟨S32x1x512x512, .i1⟩
  | 39 => ⟨S32x1x512x512, .f32⟩
  | 40 => ⟨S32x1x512x512, .f32⟩
  | 41 => ⟨S_, .f32⟩
  | 42 => ⟨S32x1x512x512, .f32⟩
  | 43 => ⟨S32x1x512x512, .i1⟩
  | 44 => ⟨S_, .f32⟩
  | 45 => ⟨S_, .f32⟩
  | 46 => ⟨S32x1x512x512, .f32⟩
  | 47 => ⟨S32x1x512x512, .f32⟩
  | 48 => ⟨S32x262144, .f32⟩
  | 49 => ⟨S32x262144, .i32⟩
  | 50 => ⟨S32x262144, .f32⟩
  | 51 => ⟨S32x262144, .i32⟩
  | 52 => ⟨S32x26214, .i32⟩
  | 53 => ⟨S_, .i32⟩
  | 54 => ⟨S32x262144, .i32⟩
  | 55 => ⟨S32x26214, .i32⟩
  | 56 => ⟨S_, .i32⟩
  | 57 => ⟨S32x26214, .i32⟩
  | 58 => ⟨S32x26214, .i1⟩
  | 59 => ⟨S_, .i32⟩
  | 60 => ⟨S32x26214, .i32⟩
  | 61 => ⟨S32x26214, .i32⟩
  | 62 => ⟨S32x26214, .i32⟩
  | 63 => ⟨S_, .i32⟩
  | 64 => ⟨S32x26214, .i32⟩
  | 65 => ⟨S32x26214, .i1⟩
  | 66 => ⟨S_, .i32⟩
  | 67 => ⟨S32x26214, .i32⟩
  | 68 => ⟨S32x26214, .i32⟩
  | 69 => ⟨S32x26214, .i32⟩
  | 70 => ⟨S32x26214x1, .i32⟩
  | 71 => ⟨S32x26214x1, .i32⟩
  | 72 => ⟨S32x26214x2, .i32⟩
  | 73 => ⟨S_, .i32⟩
  | 74 => ⟨S32x26214, .i32⟩
  | 75 => ⟨S32x262144, .i32⟩
  | 76 => ⟨S_, .i32⟩
  | 77 => ⟨S32x262144, .i32⟩
  | 78 => ⟨S32x26214, .i32⟩
  | 79 => ⟨S_, .i32⟩
  | 80 => ⟨S32x26214, .i32⟩
  | 81 => ⟨S32x26214, .i1⟩
  | 82 => ⟨S_, .i32⟩
  | 83 => ⟨S32x26214, .i32⟩
  | 84 => ⟨S32x26214, .i32⟩
  | 85 => ⟨S32x26214, .i32⟩
  | 86 => ⟨S_, .i32⟩
  | 87 => ⟨S32x26214, .i32⟩
  | 88 => ⟨S32x26214, .i1⟩
  | 89 => ⟨S_, .i32⟩
  | 90 => ⟨S32x26214, .i32⟩
  | 91 => ⟨S32x26214, .i32⟩
  | 92 => ⟨S32x26214, .i32⟩
  | 93 => ⟨S32x26214x1, .i32⟩
  | 94 => ⟨S32x26214x1, .i32⟩
  | 95 => ⟨S32x26214x2, .i32⟩
  | 96 => ⟨S_, .i32⟩
  | 97 => ⟨S32x26214, .i32⟩
  | 98 => ⟨S32x262144, .i32⟩
  | 99 => ⟨S32x262144, .i32⟩
  | 100 => ⟨S_, .i32⟩
  | 101 => ⟨S32x262144, .i32⟩
  | 102 => ⟨S32x262144, .i1⟩
  | 103 => ⟨S_, .i32⟩
  | 104 => ⟨S_, .i32⟩
  | 105 => ⟨S32x262144, .i32⟩
  | 106 => ⟨S32x262144, .i32⟩
  | 107 => ⟨S_, .i32⟩
  | 108 => ⟨S32x262144, .i32⟩
  | 109 => ⟨S32x262144, .i1⟩
  | 110 => ⟨S_, .i32⟩
  | 111 => ⟨S_, .i32⟩
  | 112 => ⟨S32x262144, .i32⟩
  | 113 => ⟨S32x262144, .i32⟩
  | 114 => ⟨S_, .i32⟩
  | 115 => ⟨S32x262144, .i32⟩
  | 116 => ⟨S_, .i32⟩
  | 117 => ⟨S32x262144, .i32⟩
  | 118 => ⟨S32x262144, .i1⟩
  | 119 => ⟨S_, .i32⟩
  | 120 => ⟨S_, .i32⟩
  | 121 => ⟨S32x262144, .i32⟩
  | 122 => ⟨S32x262144, .i32⟩
  | 123 => ⟨S_, .i32⟩
  | 124 => ⟨S32x262144, .i32⟩
  | 125 => ⟨S32x262144, .i1⟩
  | 126 => ⟨S_, .i32⟩
  | 127 => ⟨S_, .i32⟩
  | _ => ⟨S32x1x512x512, .i32⟩

abbrev hbmTy0_1 (i : Nat) : BufTy := match i % 128 with
  | 0 => ⟨S32x262144, .i32⟩
  | 1 => ⟨S32x262144, .i32⟩
  | 2 => ⟨S32x512x512, .i32⟩
  | _ => ⟨S32x1x512x512, .i32⟩

abbrev hbmTy (i : Nat) : BufTy := match i / 128 with
  | 0 => hbmTy0_0 i
  | 1 => hbmTy0_1 i
  | _ => ⟨S32x1x512x512, .i32⟩

abbrev bufTy : (tb : Table) → Fin (tcTables nBuf tb) → BufTy
  | .hbm, ⟨i, _⟩ => hbmTy i
  | _, _ => ⟨S32x1x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_v7 : Ref sig .tc := ⟨.hbm, 12, rfl⟩
abbrev main_c_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_4 : Ref sig .tc := ⟨.hbm, 18, rfl⟩
abbrev main_v12 : Ref sig .tc := ⟨.hbm, 19, rfl⟩
abbrev main_v13 : Ref sig .tc := ⟨.hbm, 20, rfl⟩
abbrev main_c_5 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_call3_v0 : Ref sig .tc := ⟨.hbm, 45, rfl⟩
abbrev main_call3_v1 : Ref sig .tc := ⟨.hbm, 46, rfl⟩
abbrev main_v29 : Ref sig .tc := ⟨.hbm, 47, rfl⟩
abbrev main_v30 : Ref sig .tc := ⟨.hbm, 48, rfl⟩
abbrev main_call4_v0 : Ref sig .tc := ⟨.hbm, 49, rfl⟩
abbrev main_call4_v1_0 : Ref sig .tc := ⟨.hbm, 50, rfl⟩
abbrev main_v31 : Ref sig .tc := ⟨.hbm, 51, rfl⟩
abbrev main_v32 : Ref sig .tc := ⟨.hbm, 52, rfl⟩
abbrev main_c_11 : Ref sig .tc := ⟨.hbm, 53, rfl⟩
abbrev main_v33 : Ref sig .tc := ⟨.hbm, 54, rfl⟩
abbrev main_v34 : Ref sig .tc := ⟨.hbm, 55, rfl⟩
abbrev main_c_12 : Ref sig .tc := ⟨.hbm, 56, rfl⟩
abbrev main_v35 : Ref sig .tc := ⟨.hbm, 57, rfl⟩
abbrev main_v36 : Ref sig .tc := ⟨.hbm, 58, rfl⟩
abbrev main_c_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_v41 : Ref sig .tc := ⟨.hbm, 65, rfl⟩
abbrev main_c_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_16 : Ref sig .tc := ⟨.hbm, 73, rfl⟩
abbrev main_v48 : Ref sig .tc := ⟨.hbm, 74, rfl⟩
abbrev main_v49 : Ref sig .tc := ⟨.hbm, 75, rfl⟩
abbrev main_c_17 : Ref sig .tc := ⟨.hbm, 76, rfl⟩
abbrev main_v50 : Ref sig .tc := ⟨.hbm, 77, rfl⟩
abbrev main_v51 : Ref sig .tc := ⟨.hbm, 78, rfl⟩
abbrev main_c_18 : Ref sig .tc := ⟨.hbm, 79, rfl⟩
abbrev main_v52 : Ref sig .tc := ⟨.hbm, 80, rfl⟩
abbrev main_v53 : Ref sig .tc := ⟨.hbm, 81, rfl⟩
abbrev main_c_19 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_20 : Ref sig .tc := ⟨.hbm, 86, rfl⟩
abbrev main_v57 : Ref sig .tc := ⟨.hbm, 87, rfl⟩
abbrev main_v58 : Ref sig .tc := ⟨.hbm, 88, rfl⟩
abbrev main_c_21 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_22 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_23 : Ref sig .tc := ⟨.hbm, 100, rfl⟩
abbrev main_v68 : Ref sig .tc := ⟨.hbm, 101, rfl⟩
abbrev main_v69 : Ref sig .tc := ⟨.hbm, 102, rfl⟩
abbrev main_c_24 : Ref sig .tc := ⟨.hbm, 103, rfl⟩
abbrev main_call5_v0 : Ref sig .tc := ⟨.hbm, 104, rfl⟩
abbrev main_call5_v1 : Ref sig .tc := ⟨.hbm, 105, rfl⟩
abbrev main_v70 : Ref sig .tc := ⟨.hbm, 106, rfl⟩
abbrev main_c_25 : Ref sig .tc := ⟨.hbm, 107, rfl⟩
abbrev main_v71 : Ref sig .tc := ⟨.hbm, 108, rfl⟩
abbrev main_v72 : Ref sig .tc := ⟨.hbm, 109, rfl⟩
abbrev main_c_26 : Ref sig .tc := ⟨.hbm, 110, rfl⟩
abbrev main_call6_v0 : Ref sig .tc := ⟨.hbm, 111, rfl⟩
abbrev main_call6_v1 : Ref sig .tc := ⟨.hbm, 112, rfl⟩
abbrev main_v73 : Ref sig .tc := ⟨.hbm, 113, rfl⟩
abbrev main_c_27 : Ref sig .tc := ⟨.hbm, 114, rfl⟩
abbrev main_v74 : Ref sig .tc := ⟨.hbm, 115, rfl⟩
abbrev main_c_28 : Ref sig .tc := ⟨.hbm, 116, rfl⟩
abbrev main_v75 : Ref sig .tc := ⟨.hbm, 117, rfl⟩
abbrev main_v76 : Ref sig .tc := ⟨.hbm, 118, rfl⟩
abbrev main_c_29 : Ref sig .tc := ⟨.hbm, 119, rfl⟩
abbrev main_call7_v0 : Ref sig .tc := ⟨.hbm, 120, rfl⟩
abbrev main_call7_v1 : Ref sig .tc := ⟨.hbm, 121, rfl⟩
abbrev main_v77 : Ref sig .tc := ⟨.hbm, 122, rfl⟩
abbrev main_c_30 : Ref sig .tc := ⟨.hbm, 123, rfl⟩
abbrev main_v78 : Ref sig .tc := ⟨.hbm, 124, rfl⟩
abbrev main_v79 : Ref sig .tc := ⟨.hbm, 125, rfl⟩
abbrev main_c_31 : Ref sig .tc := ⟨.hbm, 126, rfl⟩
abbrev main_call8_v0 : Ref sig .tc := ⟨.hbm, 127, rfl⟩
abbrev main_call8_v1 : Ref sig .tc := ⟨.hbm, 128, rfl⟩
abbrev main_v80 : Ref sig .tc := ⟨.hbm, 129, rfl⟩
abbrev main_v81 : Ref sig .tc := ⟨.hbm, 130, rfl⟩

abbrev nD : Nat := 1
abbrev τ : Topo := Topo.v7x

variable {F : FTy → Type} [FloatOps F]
-- ==== Proof.Base.lean ====
/-
  The set-up the proof of the SparseCore call shares: the program as the launch theorem reads it, the resource
  algebra, a tile's memrefs, and `owns`, the ownership of a whole scratch array together with what it reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program with its one TensorCore pipeline. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCore call's handshake semaphores are distinct and not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (URounds (GSem nD τ sig) Unit × Counters)

local notation "𝕄" => MT nD τ sig (HIx 1) (Elt F) ℕ UU ℕ

/-- The handshakes' rounds in the left factor. -/
abbrev EH : Emb UH (MT nD τ sig (HIx 1) (Elt F) ℕ UU ℕ) := embL

/-- The TensorCore pipeline's rounds in the middle factor; the transfers' counters are the last one. -/
def EP : Emb (URounds (GSem nD τ sig) Unit) (MT nD τ sig (HIx 1) (Elt F) ℕ UU ℕ) := (Emb.inl).trans embR

instance EP_lands : (EP (F := F)).LandsIn (upEmb : UEmb _ (MT nD τ sig (HIx 1) (Elt F) ℕ UU ℕ)) := by
  unfold EP; infer_instance

variable [FloatOps F]

/-- The SparseCore and the subcore of a grid point, and the thread that runs it. -/
abbrev cV (i : grid0.Coords) : Fin τ.nSC := (i 0).castLE hcore0
abbrev sV (i : grid0.Coords) : Fin τ.nSub := (i 1).castLE hsub0
abbrev thr (d : Dev nD) (i : grid0.Coords) : Thread nD τ := V d (cV i) (sV i)

/-- The kernel's program on a tile. -/
abbrev TProg (F : FTy → Type) (i : grid0.Coords) (α : Type) := Prog (TpuEff nD τ sig (Elt F) Λ₀ (.scVector (cV i) (sV i))) α

/-- The weakest precondition of a tile's program. -/
abbrev twp (d : Dev nD) (i : grid0.Coords) {α : Type} (p : TProg F i α) (Q : α → sProp 𝕄) : sProp 𝕄 :=
  wp frame (wpE (defs₀ (F := F)) 𝒱₀ (thr d i) none) Set.univ p Q

abbrev xV : Memref sig .scVector .hbm S32x262144 .i32 := Memref.whole main_v0_scv
abbrev oV : Memref sig .scVector .hbm S32x16 .i32 := Memref.whole main_v1_scv
abbrev b0 : Memref sig .scVector .vmem S8192 .i32 := Memref.whole cc0_scratch0
abbrev b1 : Memref sig .scVector .vmem S8192 .i32 := Memref.whole cc0_scratch1
abbrev hA : Memref sig .scVector .vmem S2048x16 .i32 := Memref.whole cc0_scratch2
abbrev hB : Memref sig .scVector .vmem S2048x16 .i32 := Memref.whole cc0_scratch3
abbrev hC : Memref sig .scVector .vmem S2048x16 .i32 := Memref.whole cc0_scratch4
abbrev oB : Memref sig .scVector .vmem S16 .i32 := Memref.whole cc0_scratch5

section Own

variable {s : Shape} (d : Dev nD) (i : grid0.Coords)

/-- A tile holds a scratch array of words whole, and it reads `H`. -/
def owns (m : Memref sig .scVector .vmem s .i32) (H : s.Idx → BitVec 32) : sProp 𝕄 :=
  iprop(∃ f : Buf (Elt F) (m.view.loc (thr d i)), ⌜m.view.read (Elt F) f = H⌝ ∗ (m.view.loc (thr d i) ↦{fullShare} f))

omit [FloatOps F] in
theorem owns_intro (m : Memref sig .scVector .vmem s .i32) (f : Buf (Elt F) (m.view.loc (thr d i))) :
    (m.view.loc (thr d i) ↦{fullShare} f : sProp 𝕄) ⊢ owns d i m (m.view.read (Elt F) f) := by
  unfold owns
  iintro H
  iexists f
  isplitr; · ipureintro; rfl
  iexact H

omit [FloatOps F] in
theorem owns_congr {m : Memref sig .scVector .vmem s .i32} {H H' : s.Idx → BitVec 32} (h : H = H') :
    (owns (F := F) d i m H : sProp 𝕄) ⊢ owns d i m H' := h ▸ .rfl

/-- A load from an owned array: the program goes on at what the array reads there. -/
theorem own_load {m : Memref sig .scVector .vmem s .i32} {r : LoadRect s} {hl : m.view.LoadsAt r} {α : Type}
    {k : (r.shape.Idx → BitVec 32) → TProg F i α} {Q : α → sProp 𝕄} {H : s.Idx → BitVec 32} :
    (owns d i m H : sProp 𝕄)
      ⊢ iprop((owns d i m H -∗ twp d i (k (fun x => H (r.idx x))) Q) -∗ twp d i (.op (.load m r hl) k) Q) := by
  iintro Ho Hk
  unfold owns
  icases Ho with ⟨%f, %hf, Hp⟩
  iapply (wp_load 𝒱₀ (thr d i) none Set.univ (m := m) (S := Finset.univ) (Finset.subset_univ _)) $$ Hp
  iintro Hp
  have e : (m.view.readAt (Elt F) r f) = fun x => H (r.idx x) := by
    funext x; rw [View.readAt_apply, hf]
  rw [e]
  iapply Hk
  iexists f
  isplitr; · ipureintro; exact hf
  iexact Hp

/-- A store of all of a rectangle of an owned array. -/
theorem own_store {m : Memref sig .scVector .vmem s .i32} {r : Rect s} {w : r.shape.Idx → BitVec 32}
    {hx : (m.access r).Stores Finset.univ} {hm : (Finset.univ : Finset r.shape.Idx) = Finset.univ ∨ ∀ a, r.stride a = 1} {α : Type}
    {k : PUnit → TProg F i α} {Q : α → sProp 𝕄} {H : s.Idx → BitVec 32} (H' : s.Idx → BitVec 32)
    (h₁ : ∀ x, H' (r.emb x) = w x) (h₂ : ∀ y, (∀ x, r.emb x ≠ y) → H' y = H y) :
    (owns d i m H : sProp 𝕄)
      ⊢ iprop((owns d i m H' -∗ twp d i (k ⟨⟩) Q) -∗ twp d i (.op (.store m r w Finset.univ hx hm) k) Q) := by
  iintro Ho Hk
  unfold owns
  icases Ho with ⟨%f, %hf, Hp⟩
  iapply (wp_store 𝒱₀ (thr d i) none Set.univ (m := m) (r := r) (Mk := Finset.univ) (S := Finset.univ) (Finset.subset_univ _)) $$ Hp
  iintro Hp
  iapply Hk
  iexists _
  isplitr
  · ipureintro
    show m.view.read (Elt F) ((m.view.slice r).write (Elt F) f w Finset.univ) = H'
    funext y
    by_cases hy : ∃ x, r.emb x = y
    · obtain ⟨x, rfl⟩ := hy
      exact (View.read_slice_write_emb (Val := Elt F) (v := m.view) r f w (Finset.mem_univ x)).trans (h₁ x).symm
    · have hy' : ∀ x, r.emb x ≠ y := fun x hx => hy ⟨x, hx⟩
      rw [View.read_slice_write_of_not_mem, hf, h₂ y hy']
      intro hm
      obtain ⟨x, -, hx⟩ := Finset.mem_map.mp hm
      exact hy' x hx
  · iexact Hp

/-- An indexed store into an owned array. -/
theorem own_storeIdx {m : Memref sig .scVector .vmem s .i32} {dd : Fin 1 → ℕ} {idxs : Fin s.rank → IVec ⟨1, dd⟩ 32}
    {v : Vec F ⟨1, dd⟩ .i32} {mask : IVec ⟨1, dd⟩ 1} {add : Bool} {h : ∀ a x, (idxs a x).toNat < s.size a}
    {hs : (m.access (.whole s)).Stores Finset.univ} {α : Type}
    {k : PUnit → TProg F i α} {Q : α → sProp 𝕄} {H : s.Idx → BitVec 32} (H' : s.Idx → BitVec 32)
    (hH : storeIdx (F := F) (e := .i32) H idxs v mask add h = H') :
    (owns d i m H : sProp 𝕄)
      ⊢ iprop((owns d i m H' -∗ twp d i (k ⟨⟩) Q) -∗ twp d i (SparseCore.vectorStoreIdx (p := (thr d i).2) m idxs v mask add h hs >>= k) Q) := by
  rw [show twp d i (SparseCore.vectorStoreIdx (p := (thr d i).2) m idxs v mask add h hs >>= k) Q = twp d i _ Q from
    congrArg (fun p => twp d i p Q) (SparseCore.vectorStoreIdx_bind (c := thr d i) m idxs v mask add h hs k)]
  iintro Ho Hk
  iapply (own_load d i) $$ Ho
  iintro Ho
  iapply (own_store d i H' ?h1 ?h2) $$ Ho
  case h1 =>
    intro x
    rw [← hH]
    show storeIdx H idxs v mask add h ((Rect.whole s).emb x) = storeIdx (fun x => H ((Rect.whole s).idx x)) idxs v mask add h x
    have e : (fun x => H ((Rect.whole s).idx x)) = H := by
      funext x; exact congrArg H (Rect.emb_whole_apply s x)
    rw [e, Rect.emb_whole_apply]
  case h2 => exact fun y hy => absurd (Rect.emb_whole_apply s y) (hy y)
  iexact Hk

/-- A check that holds is passed. -/
theorem own_assume {P : Prop} (h : P) {dP : Decidable P} {α : Type} {k : PLift P → TProg F i α} {Q : α → sProp 𝕄} :
    (twp d i (k ⟨h⟩) Q : sProp 𝕄) ⊢ twp d i (.op (.assume P dP) k) Q := by
  unfold twp
  rw [wp_assume_of _ _ _ _ h]

/-- A pure program returns its value. -/
theorem own_ret {α : Type} {a : α} {Q : α → sProp 𝕄} : (Q a : sProp 𝕄) ⊢ twp d i (.ret a) Q := by
  unfold twp
  rw [wp_ret]
  iintro H
  imodintro
  iexact H

/-- A counted loop at the head of a program, by its invariant. -/
theorem own_for {σ : Type} {lp : Scf.Loop 32} {ok : lp.OK} {init : σ} {body : Fin lp.trips → σ → TProg F i σ} {β : Type} {kk : σ → TProg F i β}
    {Q : β → sProp 𝕄} (I : ℕ → σ → sProp 𝕄)
    (hbody : ∀ (k : Fin lp.trips) (acc : σ), I k.val acc ⊢ twp d i (body k acc) (I (k.val + 1))) :
    I 0 init ⊢ iprop((∀ acc, I lp.trips acc -∗ twp d i (kk acc) Q) -∗ twp d i (Scf.Loop.for lp ok init body >>= kk) Q) :=
  Scf.wp_for_bind _ _ _ lp.lb lp.ub lp.st ok init body I hbody

end Own

end Cert.Proof
-- ==== Proof.Hist.lean ====
/-
  The histogram a tile keeps: row `r`, lane `l` counts the words at positions `16 * i + l` that belong to row `r`.
  One masked adding scatter of sixteen lanes counts one more position of every lane.
-/
module

public import proofs.«01_k».proof.Proof.Base

@[expose] public section

noncomputable section

namespace Cert.Proof

open Cert.KernelIdeal Cert.KernelIdeal.Gen
open Idealize.ShloMosaic

/-- Of the first `k` words of lane `l`, those with `p`. -/
def cnt (p : BitVec 32 → Bool) (X : ℕ → BitVec 32) (l k : ℕ) : ℕ := ((Finset.range k).filter fun i => p (X (16 * i + l)) = true).card

theorem cnt_zero (p : BitVec 32 → Bool) (X : ℕ → BitVec 32) (l : ℕ) : cnt p X l 0 = 0 := by simp [cnt]

theorem cnt_succ (p : BitVec 32 → Bool) (X : ℕ → BitVec 32) (l k : ℕ) :
    cnt p X l (k + 1) = cnt p X l k + if p (X (16 * k + l)) = true then 1 else 0 := by
  unfold cnt
  rw [Finset.range_add_one, Finset.filter_insert]
  split
  · rw [Finset.card_insert_of_notMem (by simp)]
  · rfl

/-- A histogram over the base `C` after `k` words of every lane, a word `v` counted in row `r` where `P r v`. -/
def addH (C : S2048x16.Idx → BitVec 32) (P : ℕ → BitVec 32 → Bool) (X : ℕ → BitVec 32) (k : ℕ) : S2048x16.Idx → BitVec 32 :=
  fun j => C j + BitVec.ofNat 32 (cnt (P (j 0).val) X (j 1).val k)

theorem addH_zero (C : S2048x16.Idx → BitVec 32) (P : ℕ → BitVec 32 → Bool) (X : ℕ → BitVec 32) : addH C P X 0 = C := by
  funext j; simp [addH, cnt_zero]

theorem addH_comm (C : S2048x16.Idx → BitVec 32) (P P' : ℕ → BitVec 32 → Bool) (X : ℕ → BitVec 32) (k k' : ℕ) :
    addH (addH C P X k) P' X k' = addH (addH C P' X k') P X k := by
  funext j; simp only [addH]; rw [BitVec.add_assoc, BitVec.add_comm (BitVec.ofNat 32 _), ← BitVec.add_assoc]

/-- Sixteen lanes' numbers. -/
theorem ofLane_val (k : Fin 16) : ((Shape.ofLane (d := ![16]) k : S16.Idx) 0).val = k.val := rfl

theorem S16_idx_ext {x y : S16.Idx} (h : (x 0).val = (y 0).val) : x = y := by
  funext a; obtain rfl : a = 0 := Subsingleton.elim _ _; exact Fin.ext h

theorem S2048_idx_ext {x y : S2048x16.Idx} (h0 : (x 0).val = (y 0).val) (h1 : (x 1).val = (y 1).val) : x = y := by
  funext a; fin_cases a
  · exact Fin.ext h0
  · exact Fin.ext h1

/-- A fold over lanes, each of which can change one place's value once: the place reads its own lane's change. -/
theorem foldl_lane {n : ℕ} {ι : Type} (f : (ι → BitVec 32) → Fin n → ι → BitVec 32) (j : ι) (k₀ : Fin n) (e : BitVec 32)
    (h₁ : ∀ g, f g k₀ j = g j + e) (h₂ : ∀ g k, k ≠ k₀ → f g k j = g j) :
    ∀ (L : List (Fin n)) (g : ι → BitVec 32), L.Nodup → L.foldl f g j = g j + if k₀ ∈ L then e else 0#32 := by
  intro L
  induction L with
  | nil => intro g _; simp
  | cons k L ih =>
    intro g hn
    obtain ⟨hk, hL⟩ := List.nodup_cons.mp hn
    rw [List.foldl_cons, ih _ hL]
    by_cases hj : k = k₀
    · subst hj
      rw [if_neg hk, if_pos List.mem_cons_self, h₁]
      simp
    · rw [h₂ _ _ hj]
      have : (k₀ ∈ k :: L) ↔ k₀ ∈ L := by simp [Ne.symm hj]
      simp only [this]

/-- What the masked adding scatter of the lanes' ones leaves: one added where a lane whose mask is set names that row. -/
theorem storeIdx_lanes {F : FTy → Type} [FloatOps F] (H : S2048x16.Idx → BitVec 32) (row v2 : IVec S16 32) (v3 : Vec F S16 .i32) (mask : IVec S16 1)
    (h : ∀ (a : Fin 2) x, ((![row, v2] : Fin 2 → IVec S16 32) a x).toNat < S2048x16.size a)
    (hv2 : ∀ x, (v2 x).toNat = (x 0).val) (hv3 : ∀ x, v3 x = (1#32 : BitVec 32)) (j : S2048x16.Idx) :
    storeIdx (F := F) (e := .i32) (s := S2048x16) H ![row, v2] v3 mask true h j
      = H j + if mask (Shape.ofLane (d := ![16]) (j 1)) = 1 ∧ (row (Shape.ofLane (d := ![16]) (j 1))).toNat = (j 0).val then 1#32 else 0#32 := by
  unfold storeIdx
  refine (foldl_lane (n := (![16] : Fin 1 → ℕ) 0) _ j (j 1)
    (if mask (Shape.ofLane (d := ![16]) (j 1)) = 1 ∧ (row (Shape.ofLane (d := ![16]) (j 1))).toNat = (j 0).val then 1#32 else 0#32)
    ?_ ?_ (List.finRange _) H (List.nodup_finRange _)).trans ?_
  · intro g
    dsimp only
    rcases Decidable.em (mask (Shape.ofLane (d := ![16]) (j 1)) = 1) with hm | hm
    · rw [if_pos hm]
      rcases Decidable.em ((row (Shape.ofLane (d := ![16]) (j 1))).toNat = (j 0).val) with hr | hr
      · have hi : (idxAt (s := S2048x16) ![row, v2] h (Shape.ofLane (d := ![16]) (j 1)) : S2048x16.Idx) = j :=
          S2048_idx_ext hr (hv2 _)
        rw [if_pos (And.intro hm hr), hi, if_pos (fun _ => rfl), hv3, if_pos rfl]
        rfl
      · rw [if_neg (fun hh => hr (And.right hh)), if_neg (fun hh => hr (hh 0).symm)]
        exact (BitVec.add_zero _).symm
    · rw [if_neg hm, if_neg (fun hh => hm (And.left hh))]
      exact (BitVec.add_zero _).symm
  · intro g k hk
    dsimp only
    rcases Decidable.em (mask (Shape.ofLane (d := ![16]) k) = 1) with hm | hm
    · rw [if_pos hm, if_neg]
      intro hh
      exact hk (Fin.ext ((hh 1).trans (hv2 _)).symm)
    · rw [if_neg hm]
  · exact congrArg (fun z => H j + z) (if_pos (List.mem_finRange _))

/-- One scatter counts one more word of every lane. -/
theorem storeIdx_addH {F : FTy → Type} [FloatOps F] {C : S2048x16.Idx → BitVec 32} {P : ℕ → BitVec 32 → Bool} {X : ℕ → BitVec 32} {k : ℕ}
    {row v2 : IVec S16 32} {v3 : Vec F S16 .i32} {mask : IVec S16 1}
    {h : ∀ (a : Fin 2) x, ((![row, v2] : Fin 2 → IVec S16 32) a x).toNat < S2048x16.size a}
    (hv2 : ∀ x, (v2 x).toNat = (x 0).val) (hv3 : ∀ x, v3 x = (1#32 : BitVec 32))
    (hP : ∀ (x : S16.Idx) (r : ℕ), r < 2048 → ((mask x = 1 ∧ (row x).toNat = r) ↔ P r (X (16 * k + (x 0).val)) = true)) :
    storeIdx (F := F) (e := .i32) (s := S2048x16) (addH C P X k) ![row, v2] v3 mask true h = addH C P X (k + 1) := by
  funext j
  rw [storeIdx_lanes _ _ _ _ _ _ hv2 hv3]
  have hp := hP (Shape.ofLane (d := ![16]) (j 1)) (j 0).val (j 0).isLt
  simp only [addH, cnt_succ]
  rw [BitVec.add_assoc]
  congr 1
  by_cases hh : P (j 0).val (X (16 * k + (j 1).val)) = true
  · rw [if_pos (hp.mpr hh), if_pos hh, BitVec.ofNat_add]
  · rw [if_neg (fun h' => hh (hp.mp h')), if_neg hh]; simp

end Cert.Proof
-- ==== Proof.Pass1.lean ====
/-
  Pass 1: one trip of the loop over a chunk loads sixteen vectors of words and scatters a one for each into the
  histogram of the top eleven bits.
-/
module

public import proofs.«01_k».proof.Proof.Hist

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- What a staging buffer reads when it holds the words from position `16 * b` on. -/
def chunkOf (X : ℕ → BitVec 32) (b : ℕ) : S8192.Idx → BitVec 32 := fun j => X (16 * b + (j 0).val)

section
variable (d : Dev nD) (i : grid0.Coords)

/-- A load of sixteen words of a staged chunk: a vector of the words at those positions. -/
theorem own_chunk {m : Memref sig .scVector .vmem S8192 .i32} {off : Fin 1 → ℕ} {inb : ∀ a, off a + S16.size a ≤ S8192.size a}
    {hl : m.view.LoadsAt (Rect.unit (s := S8192) off S16.size inb).toLoadRect} {α : Type}
    {k : (S16.Idx → BitVec 32) → TProg F i α} {Q : α → sProp 𝕄} {X : ℕ → BitVec 32} {b : ℕ} (n : ℕ) (hoff : off 0 = 16 * n) :
    (owns d i m (chunkOf X b) : sProp 𝕄)
      ⊢ iprop((∀ v : S16.Idx → BitVec 32, ⌜∀ x, v x = X (16 * (b + n) + (x 0).val)⌝ -∗ owns d i m (chunkOf X b) -∗ twp d i (k v) Q)
        -∗ twp d i (.op (.load m (Rect.unit (s := S8192) off S16.size inb).toLoadRect hl) k) Q) := by
  iintro Ho Hk
  iapply (own_load d i) $$ Ho
  iintro Ho
  iapply Hk $$ %_ %(by
    intro x
    simp only [chunkOf]
    congr 1
    have e : ((((Rect.unit (s := S8192) off S16.size inb).toLoadRect).idx x 0 : Fin _) : ℕ) = off 0 + 1 * (x 0).val := LoadRect.idx_apply _ _ _
    rw [e, hoff]; ring) Ho

/-- The scatter of one vector of words: one more word of every lane is counted. -/
theorem own_count {m : Memref sig .scVector .vmem S2048x16 .i32} {row v2 : IVec S16 32} {v3 : Vec F S16 .i32} {mask : IVec S16 1}
    {h : ∀ (a : Fin 2) x, ((![row, v2] : Fin 2 → IVec S16 32) a x).toNat < S2048x16.size a}
    {hs : (m.access (.whole S2048x16)).Stores Finset.univ} {α : Type}
    {k : PUnit → TProg F i α} {Q : α → sProp 𝕄} {C : S2048x16.Idx → BitVec 32} {P : ℕ → BitVec 32 → Bool} {X : ℕ → BitVec 32} {n : ℕ}
    (hv2 : ∀ x, (v2 x).toNat = (x 0).val) (hv3 : ∀ x, v3 x = (1#32 : BitVec 32))
    (hP : ∀ (x : S16.Idx) (r : ℕ), r < 2048 → ((mask x = 1 ∧ (row x).toNat = r) ↔ P r (X (16 * n + (x 0).val)) = true)) :
    (owns d i m (addH C P X n) : sProp 𝕄)
      ⊢ iprop((owns d i m (addH C P X (n + 1)) -∗ twp d i (k ⟨⟩) Q)
        -∗ twp d i (SparseCore.vectorStoreIdx (p := (thr d i).2) m ![row, v2] v3 mask true h hs >>= k) Q) :=
  own_storeIdx d i _ (storeIdx_addH hv2 hv3 hP)

end

/-- The indices of a scatter are inside the histogram. -/
theorem chk_of {row v2 : IVec S16 32} (hr : ∀ x, (row x).toNat < 2048) (hv2 : ∀ x, (v2 x).toNat = (x 0).val) :
    ∀ (a : Fin 2) (x : S16.Idx), ((![row, v2] : Fin 2 → IVec S16 32) a x).toNat < S2048x16.size a := by
  intro a x
  fin_cases a
  · exact hr x
  · show (v2 x).toNat < 16
    rw [hv2]; exact (x 0).isLt

/-- Pass 1 counts a word in the row of its top eleven bits. -/
def P1 (r : ℕ) (v : BitVec 32) : Bool := decide ((v >>> 21).toNat = r)

theorem row1 (v : IVec S16 32) (x : S16.Idx) : (shrui v (broadcast S16 21#32)) x = v x >>> 21 := rfl

theorem row1_lt (v : IVec S16 32) (x : S16.Idx) : ((shrui v (broadcast S16 21#32)) x).toNat < 2048 := by
  rw [row1, BitVec.toNat_ushiftRight, Nat.shiftRight_eq_div_pow]
  have := (v x).isLt
  omega

theorem hP1 {v : IVec S16 32} {X : ℕ → BitVec 32} {n : ℕ} (hv : ∀ x, v x = X (16 * n + (x 0).val)) (x : S16.Idx) (r : ℕ) (hr : r < 2048) :
    ((1#1 : BitVec 1) = 1 ∧ ((shrui v (broadcast S16 21#32)) x).toNat = r) ↔ P1 r (X (16 * n + (x 0).val)) = true := by
  rw [row1, hv x]
  simp [P1]

theorem off7 (t : Fin k0_t5_loop.trips) (u : Fin 16) : k0_off7 t (BitVec.ofNat 32 (16 * u.val)) 0 = 16 * (16 * t.val + u.val) := by
  have ht : t.val < 32 := t.isLt
  have hu := u.isLt
  simp only [k0_off7, Scf.iv, Scalar.muli, Scalar.addi]
  simp [IntOp.addi, IntOp.muli, Scalar.indexCast]
  omega

/-- One trip of pass 1's loop over a chunk. -/
theorem t5_step (d : Dev nD) (i : grid0.Coords) (arg2 harg2 arg3 harg3 arg4 harg4 arg5 harg5 arg6 harg6 arg7 harg7 arg8 harg8 arg9 harg9 arg10 arg11 r)
    {v2 : IVec S16 32} (hv2 : ∀ x, (v2 x).toNat = (x 0).val) {X : ℕ → BitVec 32} {C : S2048x16.Idx → BitVec 32} {b : ℕ} (t : Fin k0_t5_loop.trips) (u : Unit) :
    iprop(owns d i arg4 (chunkOf X b) ∗ owns d i arg6 (addH C P1 X (b + 16 * t.val)) : sProp 𝕄)
      ⊢ twp d i (k0_t5_body (F := F) i arg2 harg2 arg3 harg3 arg4 harg4 arg5 harg5 arg6 harg6 arg7 harg7 arg8 harg8 arg9 harg9 arg10 arg11 r v2 t u)
        fun _ => iprop(owns d i arg4 (chunkOf X b) ∗ owns d i arg6 (addH C P1 X (b + 16 * (t.val + 1)))) := by
  have ht : t.val < 32 := t.isLt
  have hv3 : ∀ x, (k0_pay152 : IVec S16 32) x = 1#32 := fun _ => rfl
  unfold k0_t5_body
  rw [k0_part4_eq_skeleton, k0_part5_eq_skeleton]
  unfold k0_part4_skel k0_part5_skel
  simp only [Prog.lift, Prog.bind_op, Prog.bind_ret, Prog.pure_eq_ret]
  iintro ⟨Hb, Hh⟩
  iapply (own_chunk d i (16 * t.val + 0) (off7 t 0)) $$ Hb
  iintro %w0 %hw0 Hb
  iapply (own_chunk d i (16 * t.val + 1) (off7 t 1)) $$ Hb
  iintro %w1 %hw1 Hb
  iapply (own_chunk d i (16 * t.val + 2) (off7 t 2)) $$ Hb
  iintro %w2 %hw2 Hb
  iapply (own_chunk d i (16 * t.val + 3) (off7 t 3)) $$ Hb
  iintro %w3 %hw3 Hb
  iapply (own_chunk d i (16 * t.val + 4) (off7 t 4)) $$ Hb
  iintro %w4 %hw4 Hb
  iapply (own_chunk d i (16 * t.val + 5) (off7 t 5)) $$ Hb
  iintro %w5 %hw5 Hb
  iapply (own_chunk d i (16 * t.val + 6) (off7 t 6)) $$ Hb
  iintro %w6 %hw6 Hb
  iapply (own_chunk d i (16 * t.val + 7) (off7 t 7)) $$ Hb
  iintro %w7 %hw7 Hb
  iapply (own_chunk d i (16 * t.val + 8) (off7 t 8)) $$ Hb
  iintro %w8 %hw8 Hb
  iapply (own_chunk d i (16 * t.val + 9) (off7 t 9)) $$ Hb
  iintro %w9 %hw9 Hb
  iapply (own_chunk d i (16 * t.val + 10) (off7 t 10)) $$ Hb
  iintro %w10 %hw10 Hb
  iapply (own_chunk d i (16 * t.val + 11) (off7 t 11)) $$ Hb
  iintro %w11 %hw11 Hb
  iapply (own_chunk d i (16 * t.val + 12) (off7 t 12)) $$ Hb
  iintro %w12 %hw12 Hb
  iapply (own_chunk d i (16 * t.val + 13) (off7 t 13)) $$ Hb
  iintro %w13 %hw13 Hb
  iapply (own_chunk d i (16 * t.val + 14) (off7 t 14)) $$ Hb
  iintro %w14 %hw14 Hb
  iapply (own_chunk d i (16 * t.val + 15) (off7 t 15)) $$ Hb
  iintro %w15 %hw15 Hb
  iapply (own_assume d i (chk_of (row1_lt w0) hv2))
  iapply (own_assume d i (chk_of (row1_lt w1) hv2))
  iapply (own_assume d i (chk_of (row1_lt w2) hv2))
  iapply (own_assume d i (chk_of (row1_lt w3) hv2))
  iapply (own_assume d i (chk_of (row1_lt w4) hv2))
  iapply (own_assume d i (chk_of (row1_lt w5) hv2))
  iapply (own_assume d i (chk_of (row1_lt w6) hv2))
  iapply (own_assume d i (chk_of (row1_lt w7) hv2))
  iapply (own_assume d i (chk_of (row1_lt w8) hv2))
  iapply (own_assume d i (chk_of (row1_lt w9) hv2))
  iapply (own_assume d i (chk_of (row1_lt w10) hv2))
  iapply (own_assume d i (chk_of (row1_lt w11) hv2))
  iapply (own_assume d i (chk_of (row1_lt w12) hv2))
  iapply (own_assume d i (chk_of (row1_lt w13) hv2))
  iapply (own_assume d i (chk_of (row1_lt w14) hv2))
  iapply (own_assume d i (chk_of (row1_lt w15) hv2))
  iapply (own_count d i hv2 hv3 (hP1 hw0)) $$ Hh
  iintro Hh
  iapply (own_count d i hv2 hv3 (hP1 hw1)) $$ Hh
  iintro Hh
  iapply (own_count d i hv2 hv3 (hP1 hw2)) $$ Hh
  iintro Hh
  iapply (own_count d i hv2 hv3 (hP1 hw3)) $$ Hh
  iintro Hh
  iapply (own_count d i hv2 hv3 (hP1 hw4)) $$ Hh
  iintro Hh
  iapply (own_count d i hv2 hv3 (hP1 hw5)) $$ Hh
  iintro Hh
  iapply (own_count d i hv2 hv3 (hP1 hw6)) $$ Hh
  iintro Hh
  iapply (own_count d i hv2 hv3 (hP1 hw7)) $$ Hh
  iintro Hh
  iapply (own_count d i hv2 hv3 (hP1 hw8)) $$ Hh
  iintro Hh
  iapply (own_count d i hv2 hv3 (hP1 hw9)) $$ Hh
  iintro Hh
  iapply (own_count d i hv2 hv3 (hP1 hw10)) $$ Hh
  iintro Hh
  iapply (own_count d i hv2 hv3 (hP1 hw11)) $$ Hh
  iintro Hh
  iapply (own_count d i hv2 hv3 (hP1 hw12)) $$ Hh
  iintro Hh
  iapply (own_count d i hv2 hv3 (hP1 hw13)) $$ Hh
  iintro Hh
  iapply (own_count d i hv2 hv3 (hP1 hw14)) $$ Hh
  iintro Hh
  iapply (own_count d i hv2 hv3 (hP1 hw15)) $$ Hh
  iintro Hh
  iapply (own_ret d i)
  isplitl [Hb]; · iexact Hb
  iexact Hh

end Cert.Proof
-- ==== Proof.Pass23.lean ====
/-
  Passes 2 and 3: one trip of the loop over a chunk loads eight vectors of words and scatters ones, masked by the
  word's bits above, into the two histograms of the next bits.
-/
module

public import proofs.«01_k».proof.Proof.Pass1

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- Pass 2 counts, of the words whose top eleven bits are `b`, each in the row of its next eleven bits. -/
def P2 (b : BitVec 32) (r : ℕ) (v : BitVec 32) : Bool := decide (v >>> 21 = b ∧ ((v >>> 10) &&& 2047#32).toNat = r)

/-- Pass 3 counts, of the words whose top twenty-two bits are `p`, each in the row of its low ten bits, from row `o` on. -/
def P3 (o : ℕ) (p : BitVec 32) (r : ℕ) (v : BitVec 32) : Bool := decide (v >>> 10 = p ∧ (v &&& 1023#32).toNat + o = r)

theorem cmpi_eq_one (u w : IVec S16 32) (x : S16.Idx) : (cmpi .eq u w) x = 1 ↔ u x = w x := by
  show BitVec.ofBool (u x == w x) = 1 ↔ _
  by_cases h : u x = w x
  · simp [h]
  · rw [show (u x == w x) = false from beq_false_of_ne h]
    exact iff_of_false (by decide) h

theorem row2_lt (v : IVec S16 32) (x : S16.Idx) :
    ((andi (shrui v (broadcast S16 10#32)) (broadcast S16 2047#32)) x).toNat < 2048 := by
  show ((v x >>> 10) &&& 2047#32).toNat < 2048
  rw [BitVec.toNat_and]
  exact lt_of_le_of_lt Nat.and_le_right (by decide)

theorem row3_lt (v : IVec S16 32) (x : S16.Idx) : ((andi v (broadcast S16 1023#32)) x).toNat < 1024 := by
  show (v x &&& 1023#32).toNat < 1024
  rw [BitVec.toNat_and]
  exact lt_of_le_of_lt Nat.and_le_right (by decide)

theorem row3_lt' (v : IVec S16 32) (x : S16.Idx) : ((andi v (broadcast S16 1023#32)) x).toNat < 2048 :=
  (row3_lt v x).trans (by decide)

theorem row3_add (v : IVec S16 32) (x : S16.Idx) :
    ((addi (andi v (broadcast S16 1023#32)) (broadcast S16 1024#32)) x).toNat = (v x &&& 1023#32).toNat + 1024 := by
  have := row3_lt v x
  show ((v x &&& 1023#32) + 1024#32).toNat = _
  rw [BitVec.toNat_add]
  have h : (v x &&& 1023#32).toNat < 1024 := this
  simp only [BitVec.toNat_ofNat]
  omega

theorem row3h_lt (v : IVec S16 32) (x : S16.Idx) :
    ((addi (andi v (broadcast S16 1023#32)) (broadcast S16 1024#32)) x).toNat < 2048 := by
  have h : (v x &&& 1023#32).toNat < 1024 := row3_lt v x
  rw [row3_add]; omega

theorem hP2 (b : BitVec 32) {v : IVec S16 32} {X : ℕ → BitVec 32} {n : ℕ} (hv : ∀ x, v x = X (16 * n + (x 0).val)) (x : S16.Idx) (r : ℕ)
    (hr : r < 2048) :
    ((cmpi .eq (shrui v (broadcast S16 21#32)) (broadcast S16 b)) x = 1
      ∧ ((andi (shrui v (broadcast S16 10#32)) (broadcast S16 2047#32)) x).toNat = r) ↔ P2 b r (X (16 * n + (x 0).val)) = true := by
  rw [cmpi_eq_one, ← hv x]
  simp only [P2, decide_eq_true_eq]
  exact Iff.rfl

theorem hP3l (p : BitVec 32) {v : IVec S16 32} {X : ℕ → BitVec 32} {n : ℕ} (hv : ∀ x, v x = X (16 * n + (x 0).val)) (x : S16.Idx) (r : ℕ)
    (hr : r < 2048) :
    ((cmpi .eq (shrui v (broadcast S16 10#32)) (broadcast S16 p)) x = 1
      ∧ ((andi v (broadcast S16 1023#32)) x).toNat = r) ↔ P3 0 p r (X (16 * n + (x 0).val)) = true := by
  rw [cmpi_eq_one, ← hv x]
  simp only [P3, decide_eq_true_eq]
  exact Iff.rfl

theorem hP3h (p : BitVec 32) {v : IVec S16 32} {X : ℕ → BitVec 32} {n : ℕ} (hv : ∀ x, v x = X (16 * n + (x 0).val)) (x : S16.Idx) (r : ℕ)
    (hr : r < 2048) :
    ((cmpi .eq (shrui v (broadcast S16 10#32)) (broadcast S16 p)) x = 1
      ∧ ((addi (andi v (broadcast S16 1023#32)) (broadcast S16 1024#32)) x).toNat = r) ↔ P3 1024 p r (X (16 * n + (x 0).val)) = true := by
  rw [cmpi_eq_one, row3_add, ← hv x]
  simp only [P3, decide_eq_true_eq]
  exact Iff.rfl

theorem off18 (t : Fin k0_t13_loop.trips) (u : Fin 8) : k0_off18 t (BitVec.ofNat 32 (16 * u.val)) 0 = 16 * (8 * t.val + u.val) := by
  have ht : t.val < 64 := t.isLt
  have hu := u.isLt
  simp only [k0_off18, Scf.iv, Scalar.muli, Scalar.addi]
  simp [IntOp.addi, IntOp.muli, Scalar.indexCast]
  omega

theorem off30 (t : Fin k0_t24_loop.trips) (u : Fin 8) : k0_off30 t (BitVec.ofNat 32 (16 * u.val)) 0 = 16 * (8 * t.val + u.val) :=
  off18 t u

/-- One trip of pass 2's loop over a chunk. -/
theorem t13_step (d : Dev nD) (i : grid0.Coords) (arg2 harg2 arg3 harg3 arg4 harg4 arg5 harg5 arg6 harg6 arg7 harg7 arg8 harg8 arg9 harg9 arg10 arg11 r)
    {v2 v3 : IVec S16 32} (hv2 : ∀ x, (v2 x).toNat = (x 0).val) (hv3 : ∀ x, v3 x = 1#32) (v13_1 v15_1 hw51 v21 v29 v30 v33)
    {X : ℕ → BitVec 32} {C C' : S2048x16.Idx → BitVec 32} {b : ℕ} (t : Fin k0_t13_loop.trips) (u : Unit) :
    iprop(owns d i arg4 (chunkOf X b) ∗ owns d i arg7 (addH C (P2 v21) X (b + 8 * t.val)) ∗ owns d i arg8 (addH C' (P2 v29) X (b + 8 * t.val)) : sProp 𝕄)
      ⊢ twp d i (k0_t13_body (F := F) i arg2 harg2 arg3 harg3 arg4 harg4 arg5 harg5 arg6 harg6 arg7 harg7 arg8 harg8 arg9 harg9 arg10 arg11 r
          v2 v3 v13_1 v15_1 hw51 v21 v29 v30 v33 t u)
        fun _ => iprop(owns d i arg4 (chunkOf X b) ∗ owns d i arg7 (addH C (P2 v21) X (b + 8 * (t.val + 1)))
          ∗ owns d i arg8 (addH C' (P2 v29) X (b + 8 * (t.val + 1)))) := by
  unfold k0_t13_body
  rw [k0_part9_eq_skeleton, k0_part10_eq_skeleton]
  unfold k0_part9_skel k0_part10_skel
  simp only [Prog.lift, Prog.bind_op, Prog.bind_ret, Prog.pure_eq_ret]
  iintro ⟨Hb, Hh, Hk⟩
  iapply (own_chunk d i (8 * t.val + 0) (off18 t 0)) $$ Hb
  iintro %w0 %hw0 Hb
  iapply (own_chunk d i (8 * t.val + 1) (off18 t 1)) $$ Hb
  iintro %w1 %hw1 Hb
  iapply (own_chunk d i (8 * t.val + 2) (off18 t 2)) $$ Hb
  iintro %w2 %hw2 Hb
  iapply (own_chunk d i (8 * t.val + 3) (off18 t 3)) $$ Hb
  iintro %w3 %hw3 Hb
  iapply (own_chunk d i (8 * t.val + 4) (off18 t 4)) $$ Hb
  iintro %w4 %hw4 Hb
  iapply (own_chunk d i (8 * t.val + 5) (off18 t 5)) $$ Hb
  iintro %w5 %hw5 Hb
  iapply (own_chunk d i (8 * t.val + 6) (off18 t 6)) $$ Hb
  iintro %w6 %hw6 Hb
  iapply (own_chunk d i (8 * t.val + 7) (off18 t 7)) $$ Hb
  iintro %w7 %hw7 Hb
  iapply (own_assume d i (And.intro (chk_of (row2_lt w0) hv2) (chk_of (row2_lt w0) hv2)))
  iapply (own_assume d i (And.intro (chk_of (row2_lt w1) hv2) (chk_of (row2_lt w1) hv2)))
  iapply (own_assume d i (And.intro (chk_of (row2_lt w2) hv2) (chk_of (row2_lt w2) hv2)))
  iapply (own_assume d i (And.intro (chk_of (row2_lt w3) hv2) (chk_of (row2_lt w3) hv2)))
  iapply (own_assume d i (And.intro (chk_of (row2_lt w4) hv2) (chk_of (row2_lt w4) hv2)))
  iapply (own_assume d i (And.intro (chk_of (row2_lt w5) hv2) (chk_of (row2_lt w5) hv2)))
  iapply (own_assume d i (And.intro (chk_of (row2_lt w6) hv2) (chk_of (row2_lt w6) hv2)))
  iapply (own_assume d i (And.intro (chk_of (row2_lt w7) hv2) (chk_of (row2_lt w7) hv2)))
  iapply (own_count d i hv2 hv3 (hP2 v21 hw0)) $$ Hh
  iintro Hh
  iapply (own_count d i hv2 hv3 (hP2 v21 hw1)) $$ Hh
  iintro Hh
  iapply (own_count d i hv2 hv3 (hP2 v21 hw2)) $$ Hh
  iintro Hh
  iapply (own_count d i hv2 hv3 (hP2 v21 hw3)) $$ Hh
  iintro Hh
  iapply (own_count d i hv2 hv3 (hP2 v21 hw4)) $$ Hh
  iintro Hh
  iapply (own_count d i hv2 hv3 (hP2 v21 hw5)) $$ Hh
  iintro Hh
  iapply (own_count d i hv2 hv3 (hP2 v21 hw6)) $$ Hh
  iintro Hh
  iapply (own_count d i hv2 hv3 (hP2 v21 hw7)) $$ Hh
  iintro Hh
  iapply (own_count d i hv2 hv3 (hP2 v29 hw0)) $$ Hk
  iintro Hk
  iapply (own_count d i hv2 hv3 (hP2 v29 hw1)) $$ Hk
  iintro Hk
  iapply (own_count d i hv2 hv3 (hP2 v29 hw2)) $$ Hk
  iintro Hk
  iapply (own_count d i hv2 hv3 (hP2 v29 hw3)) $$ Hk
  iintro Hk
  iapply (own_count d i hv2 hv3 (hP2 v29 hw4)) $$ Hk
  iintro Hk
  iapply (own_count d i hv2 hv3 (hP2 v29 hw5)) $$ Hk
  iintro Hk
  iapply (own_count d i hv2 hv3 (hP2 v29 hw6)) $$ Hk
  iintro Hk
  iapply (own_count d i hv2 hv3 (hP2 v29 hw7)) $$ Hk
  iintro Hk
  iapply (own_ret d i)
  isplitl [Hb]; · iexact Hb
  isplitl [Hh]; · iexact Hh
  iexact Hk

/-- One trip of pass 3's loop over a chunk. -/
theorem t24_step (d : Dev nD) (i : grid0.Coords) (arg2 harg2 arg3 harg3 arg4 harg4 arg5 harg5 arg6 harg6 arg7 harg7 arg8 harg8 arg9 harg9 arg10 arg11 r)
    {v2 v3 : IVec S16 32} (hv2 : ∀ x, (v2 x).toNat = (x 0).val) (hv3 : ∀ x, v3 x = 1#32) (v13_1 v15_1 hw51 v33 v74 v77 v79)
    {X : ℕ → BitVec 32} {C : S2048x16.Idx → BitVec 32} {b : ℕ} (t : Fin k0_t24_loop.trips) (u : Unit) :
    iprop(owns d i arg4 (chunkOf X b) ∗ owns d i arg6 (addH (addH C (P3 1024 v79) X (b + 8 * t.val)) (P3 0 v77) X (b + 8 * t.val)) : sProp 𝕄)
      ⊢ twp d i (k0_t24_body (F := F) i arg2 harg2 arg3 harg3 arg4 harg4 arg5 harg5 arg6 harg6 arg7 harg7 arg8 harg8 arg9 harg9 arg10 arg11 r
          v2 v3 v13_1 v15_1 hw51 v33 v74 v77 v79 t u)
        fun _ => iprop(owns d i arg4 (chunkOf X b)
          ∗ owns d i arg6 (addH (addH C (P3 1024 v79) X (b + 8 * (t.val + 1))) (P3 0 v77) X (b + 8 * (t.val + 1)))) := by
  unfold k0_t24_body
  rw [k0_part13_eq_skeleton, k0_part14_eq_skeleton]
  unfold k0_part13_skel k0_part14_skel
  simp only [Prog.lift, Prog.bind_op, Prog.bind_ret, Prog.pure_eq_ret]
  iintro ⟨Hb, Hh⟩
  iapply (own_chunk d i (8 * t.val + 0) (off30 t 0)) $$ Hb
  iintro %w0 %hw0 Hb
  iapply (own_chunk d i (8 * t.val + 1) (off30 t 1)) $$ Hb
  iintro %w1 %hw1 Hb
  iapply (own_chunk d i (8 * t.val + 2) (off30 t 2)) $$ Hb
  iintro %w2 %hw2 Hb
  iapply (own_chunk d i (8 * t.val + 3) (off30 t 3)) $$ Hb
  iintro %w3 %hw3 Hb
  iapply (own_chunk d i (8 * t.val + 4) (off30 t 4)) $$ Hb
  iintro %w4 %hw4 Hb
  iapply (own_chunk d i (8 * t.val + 5) (off30 t 5)) $$ Hb
  iintro %w5 %hw5 Hb
  iapply (own_chunk d i (8 * t.val + 6) (off30 t 6)) $$ Hb
  iintro %w6 %hw6 Hb
  iapply (own_chunk d i (8 * t.val + 7) (off30 t 7)) $$ Hb
  iintro %w7 %hw7 Hb
  iapply (own_assume d i (chk_of (row3_lt' w0) hv2))
  iapply (own_assume d i (chk_of (row3_lt' w1) hv2))
  iapply (own_assume d i (chk_of (row3_lt' w2) hv2))
  iapply (own_assume d i (chk_of (row3_lt' w3) hv2))
  iapply (own_assume d i (chk_of (row3_lt' w4) hv2))
  iapply (own_assume d i (chk_of (row3_lt' w5) hv2))
  iapply (own_assume d i (chk_of (row3_lt' w6) hv2))
  iapply (own_assume d i (chk_of (row3_lt' w7) hv2))
  iapply (own_count d i hv2 hv3 (hP3l v77 hw0)) $$ Hh
  iintro Hh
  iapply (own_count d i hv2 hv3 (hP3l v77 hw1)) $$ Hh
  iintro Hh
  iapply (own_count d i hv2 hv3 (hP3l v77 hw2)) $$ Hh
  iintro Hh
  iapply (own_count d i hv2 hv3 (hP3l v77 hw3)) $$ Hh
  iintro Hh
  iapply (own_count d i hv2 hv3 (hP3l v77 hw4)) $$ Hh
  iintro Hh
  iapply (own_count d i hv2 hv3 (hP3l v77 hw5)) $$ Hh
  iintro Hh
  iapply (own_count d i hv2 hv3 (hP3l v77 hw6)) $$ Hh
  iintro Hh
  iapply (own_count d i hv2 hv3 (hP3l v77 hw7)) $$ Hh
  iintro Hh
  ihave Hh := (owns_congr d i (addH_comm C (P3 1024 v79) (P3 0 v77) X _ _)) $$ Hh
  iapply (own_assume d i (chk_of (row3h_lt w0) hv2))
  iapply (own_count d i hv2 hv3 (hP3h v79 hw0)) $$ Hh
  iintro Hh
  iapply (own_assume d i (chk_of (row3h_lt w1) hv2))
  iapply (own_count d i hv2 hv3 (hP3h v79 hw1)) $$ Hh
  iintro Hh
  iapply (own_assume d i (chk_of (row3h_lt w2) hv2))
  iapply (own_count d i hv2 hv3 (hP3h v79 hw2)) $$ Hh
  iintro Hh
  iapply (own_assume d i (chk_of (row3h_lt w3) hv2))
  iapply (own_count d i hv2 hv3 (hP3h v79 hw3)) $$ Hh
  iintro Hh
  iapply (own_assume d i (chk_of (row3h_lt w4) hv2))
  iapply (own_count d i hv2 hv3 (hP3h v79 hw4)) $$ Hh
  iintro Hh
  iapply (own_assume d i (chk_of (row3h_lt w5) hv2))
  iapply (own_count d i hv2 hv3 (hP3h v79 hw5)) $$ Hh
  iintro Hh
  iapply (own_assume d i (chk_of (row3h_lt w6) hv2))
  iapply (own_count d i hv2 hv3 (hP3h v79 hw6)) $$ Hh
  iintro Hh
  iapply (own_assume d i (chk_of (row3h_lt w7) hv2))
  iapply (own_count d i hv2 hv3 (hP3h v79 hw7)) $$ Hh
  iintro Hh
  ihave Hh := (owns_congr d i (addH_comm C (P3 0 v77) (P3 1024 v79) X _ _)) $$ Hh
  iapply (own_ret d i)
  isplitl [Hb]; · iexact Hb
  iexact Hh

end Cert.Proof
-- ==== Proof.Copy.lean ====
/-
  The tiles' copies: a chunk of the tile's row of words brought to a scratch buffer, its issue and its wait.
-/
module

public import proofs.«01_k».proof.Proof.Pass23
public import Idealize.ShloMosaic.Lib.Transfers
public import Idealize.ShloMosaic.Lib.SparseCore.Scatter

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- The elements of one row of the array of words. -/
def rowSet (w : ℕ) : Finset S32x262144.Idx := Finset.univ.filter fun j => (j 0).val = w

/-- One row of the array of words, by position. -/
def rowOf (f : S32x262144.Idx → BitVec 32) (w n : ℕ) : BitVec 32 :=
  if h : w < 32 ∧ n < 262144 then f (fun | 0 => ⟨w, h.1⟩ | 1 => ⟨n, h.2⟩) else 0#32

/-- The slice of the array of words a copy reads. -/
abbrev srcM (off : Fin 2 → ℕ) (inb : ∀ a, off a + S1x8192.size a ≤ S32x262144.size a) : Memref sig .scVector .hbm S8192 .i32 :=
  ((Memref.whole main_v0_scv : Memref sig .scVector .hbm S32x262144 .i32).slice (Rect.unit (s := S32x262144) off S1x8192.size inb) (fun _ => rfl)).squeeze
    S8192 squeezes_S1x8192_S8192

theorem src_read {off : Fin 2 → ℕ} {inb : ∀ a, off a + S1x8192.size a ≤ S32x262144.size a} {w b : ℕ} (h0 : off 0 = w) (h1 : off 1 = 16 * b)
    (f : S32x262144.Idx → BitVec 32) : (srcM off inb).view.read (Elt F) f = (chunkOf (rowOf f w) b : S8192.Idx → BitVec 32) := by
  funext x
  have hw : w < 32 := by
    have := inb 0
    have e : off 0 + 1 ≤ 32 := this
    omega
  have hb : 16 * b + 8192 ≤ 262144 := by
    have := inb 1
    have e : off 1 + 8192 ≤ 262144 := this
    omega
  have hx : (x 0).val < 8192 := (x 0).isLt
  unfold chunkOf rowOf
  rw [dif_pos ⟨hw, by omega⟩]
  show f ((Rect.unit (s := S32x262144) off S1x8192.size inb).emb (Shape.reshapeEquiv _ x)) = _
  refine congrArg f ?_
  have e : ∀ h, (Shape.reshapeEquiv (s := S1x8192) h x) = (Fin.cons (⟨0, Nat.one_pos⟩ : Fin 1) x : S1x8192.Idx) := fun h => Shape.reshapeEquiv_cons_one h x
  rw [e]
  funext a
  apply Fin.ext
  rw [Rect.emb_apply]
  fin_cases a
  · show off 0 + 1 * 0 = w
    omega
  · show off 1 + 1 * (x 0).val = 16 * b + (x 0).val
    omega

theorem src_set {off : Fin 2 → ℕ} {inb : ∀ a, off a + S1x8192.size a ≤ S32x262144.size a} {w : ℕ} (h0 : off 0 = w) :
    (srcM off inb).view.set ⊆ rowSet w := by
  intro j hj
  simp only [View.set_reshape, Memref.view_squeeze, Memref.view_slice, Memref.view_whole, View.set_slice_whole] at hj
  have := Rect.mem_set_unit.mp hj 0
  have h2 : off 0 ≤ (j 0).val ∧ (j 0).val < off 0 + 1 := this
  unfold rowSet
  rw [Finset.mem_filter]
  exact ⟨Finset.mem_univ _, by omega⟩

variable [FloatOps F]

section
variable (d : Dev nD) (i : grid0.Coords)

/-- A share of one row of the array of words. -/
def xs (w : ℕ) (f : S32x262144.Idx → BitVec 32) (q : PosShare TreeShare) : sProp 𝕄 :=
  ((Memref.whole main_v0_scv : Memref sig .scVector .hbm S32x262144 .i32).view.loc (thr d i) ↦[rowSet w]{q} f)

/-- A copy in flight: at its wait the buffer holds chunk `b` of the row, and the row's share is back. -/
def pend (sem : DmaSem sig) (m : Memref sig .scVector .vmem S8192 .i32) (w : ℕ) (f : S32x262144.Idx → BitVec 32) (b : ℕ) (q : PosShare TreeShare) : sProp 𝕄 :=
  Transfers.Flight countersEmb (thr d i) (.dma sem) none (m.view.dmaCredit)
    iprop(owns d i m (chunkOf (rowOf f w) b) ∗ xs d i w f q)

theorem own_issue {m : Memref sig .scVector .vmem S8192 .i32} {sem : DmaSem sig} {H : S8192.Idx → BitVec 32} {w b : ℕ}
    {f : S32x262144.Idx → BitVec 32} {q : PosShare TreeShare} {off : Fin 2 → ℕ} {inb : ∀ a, off a + S1x8192.size a ≤ S32x262144.size a}
    (h0 : off 0 = w) (h1 : off 1 = 16 * b) {hsrc : (srcM off inb).view.WordExact} {hdst : m.view.WordExact}
    {hsem : DmaTarget.Typed (nD := nD) (p := (thr d i).2) .hbm (.dma sem) (.here m)} {α : Type} {k : PUnit → TProg F i α} {Q : α → sProp 𝕄} :
    iprop(owns d i m H ∗ xs d i w f q ∗ semVal (thr d i, .dma sem) 0)
      ⊢ iprop((pend d i sem m w f b q -∗ twp d i (k ⟨⟩) Q)
        -∗ twp d i (.op (.enqueueDma (srcM off inb) (.here m) (.dma sem) hsrc hdst hsem) k) Q) := by
  unfold owns xs
  iintro ⟨⟨%g, %hg, Hm⟩, Hx, Hv⟩ Hk
  ihave ⟨Hx1, Hx2⟩ := ((pointsTo_split_subset (src_set (inb := inb) h0)).1) $$ Hx
  iapply (Transfers.wp_dmaLocal countersEmb 𝒱₀ (thr d i) none (src := srcM off inb) (dst := m) (sm := .dma sem) (q := q) (Sd := Finset.univ)
    none m.view.dmaCredit rfl (View.amount_pos m.view (.dma sem) (show 0 < S8192.numel by decide)) (Finset.subset_univ _)) $$ [Hx1 Hm Hv]
  · isplitl [Hx1]; · iexact Hx1
    isplitl [Hm]; · iexact Hm
    iexact Hv
  iintro Hf
  iapply Hk
  unfold pend
  ihave Hf2 := (Transfers.Flight_frame countersEmb (thr d i)) $$ [Hx2 Hf]
  · isplitl [Hx2]; · iexact Hx2
    iexact Hf
  iapply (Transfers.Flight_mono countersEmb (thr d i) ?hm) $$ Hf2
  case hm =>
    unfold owns xs
    iintro ⟨Hx2, Hm, Hx1⟩
    isplitl [Hm]
    · iexists (m.view.write (Elt F) g ((srcM off inb).view.read (Elt F) f) Finset.univ)
      isplitr
      · ipureintro
        exact (View.read_write_univ (Val := Elt F) _ _).trans (src_read (inb := inb) h0 h1 f)
      · iexact Hm
    · iapply ((pointsTo_split_subset (src_set (inb := inb) h0)).2)
      isplitl [Hx1]; · iexact Hx1
      iexact Hx2

/-- What a tile may wait for, and what it has waited for beyond the launch's. -/
def wts (O : CellTallies nD τ sig (HIx 1)) (W : Waits sig (HIx 1)) : sProp 𝕄 :=
  iprop(∃ W', ⌜∀ p ∈ W', p ∈ W ∨ p.2 = none⌝ ∗ owes (thr d i) O W')

theorem own_wait {m : Memref sig .scVector .vmem S8192 .i32} {sem : DmaSem sig} {w b : ℕ}
    {f : S32x262144.Idx → BitVec 32} {q : PosShare TreeShare} {O : CellTallies nD τ sig (HIx 1)} {W : Waits sig (HIx 1)} (hO : ∀ g, O g none = 0)
    {srcw : Memref sig .scVector .hbm S8192 .i32} {hsrc : srcw.view.WordExact} {hdst : m.view.WordExact}
    {α : Type} {k : PUnit → TProg F i α} {Q : α → sProp 𝕄} :
    iprop(levAts (K (F := F)).L (K (F := F)).lev ∗ pend d i sem m w f b q ∗ wts d i O W)
      ⊢ iprop((iprop(owns d i m (chunkOf (rowOf f w) b) ∗ xs d i w f q ∗ semVal (thr d i, .dma sem) 0 ∗ wts d i O W) -∗ twp d i (k ⟨⟩) Q)
        -∗ twp d i (.op (.waitDma2 sem srcw m hsrc hdst) k) Q) := by
  unfold pend wts
  iintro ⟨Hlv, Hf, %W', %hW', HO⟩ Hk
  ihave Hmw := ((K (F := F)).mayWait_none (thr := thr d i) (SemLoc.dma sem) hO) $$ Hlv
  iapply (Transfers.wp_waitLocalO countersEmb 𝒱₀ (thr d i) none none (dstw := m) rfl) $$ [Hf HO Hmw]
  · isplitl [Hf]; · iexact Hf
    isplitl [HO]; · iexact HO
    iexact Hmw
  iintro ⟨⟨Hm, Hx⟩, Hv, HO⟩
  iapply Hk
  isplitl [Hm]; · iexact Hm
  isplitl [Hx]; · iexact Hx
  isplitl [Hv]; · iexact Hv
  iexists (insert (SemLoc.dma sem, (none : HIx 1)) W')
  isplitr
  · ipureintro
    intro p hp
    rcases Finset.mem_insert.mp hp with hp | hp
    · exact .inr (hp ▸ rfl)
    · exact hW' p hp
  · iexact HO

end

end Cert.Proof
-- ==== Proof.Pass.lean ====
/-
  A pass over the tile's row: chunks of 8192 words copied alternately to two buffers, each counted into the histograms
  while the next one is under way. Stated for any counting loop, so each of the kernel's three passes is an instance.
-/
module

public import proofs.«01_k».proof.Proof.Copy

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- The row a tile works on. -/
def wOf (i : grid0.Coords) : ℕ := 2 * (i 1).val + (i 0).val

theorem wOf_lt (i : grid0.Coords) : wOf i < 32 := by
  have h0 : (i 0).val < 2 := (i 0).isLt
  have h1 : (i 1).val < 16 := (i 1).isLt
  unfold wOf; omega

theorem word_w (i : grid0.Coords) : (Scalar.addi (Scalar.muli (BitVec.ofNat 32 (i 1).val) 2#32) (BitVec.ofNat 32 (i 0).val)).toNat = wOf i := by
  have h0 : (i 0).val < 2 := (i 0).isLt
  have h1 : (i 1).val < 16 := (i 1).isLt
  unfold wOf
  simp [Scalar.addi, Scalar.muli, IntOp.addi, IntOp.muli]
  omega

/-- One trip of a pass: issue the odd chunk, count the even one, issue the next even one, count the odd one. -/
def passBody (F : FTy → Type) [FloatOps F] (i : grid0.Coords) (offA : Fin k0_t4_loop.trips → Fin 2 → ℕ) (inbA : ∀ t a, offA t a + S1x8192.size a ≤ S32x262144.size a)
    (offW offW' : Fin 2 → ℕ) (inbW : ∀ a, offW a + S1x8192.size a ≤ S32x262144.size a) (inbW' : ∀ a, offW' a + S1x8192.size a ≤ S32x262144.size a)
    (c : Fin k0_t4_loop.trips → BitVec 1) (offB : Fin k0_t4_loop.trips → Fin 2 → ℕ)
    (inbB : ∀ t, c t = 1#1 → ∀ a, offB t a + S1x8192.size a ≤ S32x262144.size a) (in4 in5 : TProg F i Unit)
    (arg4 : Memref sig .scVector .vmem S8192 .i32) (harg4 : arg4.IsWhole) (arg5 : Memref sig .scVector .vmem S8192 .i32) (harg5 : arg5.IsWhole)
    (arg10 arg11 : DmaSems sig S_) : Fin k0_t4_loop.trips → Unit → TProg F i Unit := fun t _ => do
  Prog.lift (.enqueueDma (srcM (offA t) (inbA t)) (.here arg5) (.dma arg11.sem) ((View.wordExact_bits rfl).reshape _ _) harg5.wordExact ⟨Or.inl rfl, trivial⟩)
  Prog.lift (.waitDma2 arg10.sem (srcM offW inbW) arg4 ((View.wordExact_bits rfl).reshape _ _) harg4.wordExact)
  in4
  if h : c t = 1#1 then do
    Prog.lift (.enqueueDma (srcM (offB t) (inbB t h)) (.here arg4) (.dma arg10.sem) ((View.wordExact_bits rfl).reshape _ _) harg4.wordExact ⟨Or.inl rfl, trivial⟩)
    pure ⟨⟩
  else do
    pure ⟨⟩
  Prog.lift (.waitDma2 arg11.sem (srcM offW' inbW') arg5 ((View.wordExact_bits rfl).reshape _ _) harg5.wordExact)
  in5
  pure ⟨⟩

section
variable (d : Dev nD) (i : grid0.Coords)

/-- The counting of a chunk in buffer `m`: histograms at `b` vectors become histograms at `b + 512`. -/
def Counts (m : Memref sig .scVector .vmem S8192 .i32) (X : ℕ → BitVec 32) (Hs : ℕ → sProp 𝕄) (inn : TProg F i Unit) : Prop :=
  ∀ (b : ℕ) (β : Type) (kk : Unit → TProg F i β) (Q : β → sProp 𝕄),
    iprop(owns d i m (chunkOf X b) ∗ Hs b) ⊢ iprop((iprop(owns d i m (chunkOf X b) ∗ Hs (b + 512)) -∗ twp d i (kk ⟨⟩) Q) -∗ twp d i (inn >>= kk) Q)

/-- A buffer at whatever it holds. -/
def some8 (m : Memref sig .scVector .vmem S8192 .i32) : sProp 𝕄 := iprop(∃ H : S8192.Idx → BitVec 32, owns d i m H)

/-- Before trip `n` the copy of the next even chunk is under way; after the last, none is. -/
def evenP (m : Memref sig .scVector .vmem S8192 .i32) (sem : DmaSem sig) (f : S32x262144.Idx → BitVec 32) (q : PosShare TreeShare) (n : ℕ) : sProp 𝕄 :=
  if n < 16 then pend d i sem m (wOf i) f (1024 * n) q else iprop(some8 d i m ∗ xs d i (wOf i) f q ∗ semVal (thr d i, .dma sem) 0)

def passI (arg4 arg5 : Memref sig .scVector .vmem S8192 .i32) (arg10 arg11 : DmaSems sig S_) (f : S32x262144.Idx → BitVec 32) (qL qR : PosShare TreeShare)
    (O : CellTallies nD τ sig (HIx 1)) (W : Waits sig (HIx 1)) (Hs : ℕ → sProp 𝕄) (n : ℕ) : sProp 𝕄 :=
  iprop(levAts (K (F := F)).L (K (F := F)).lev ∗ evenP d i arg4 arg10.sem f qL n ∗ some8 d i arg5 ∗ xs d i (wOf i) f qR
    ∗ semVal (thr d i, .dma arg11.sem) 0 ∗ wts d i O W ∗ Hs (1024 * n))

theorem passBody_step {offA : Fin k0_t4_loop.trips → Fin 2 → ℕ} {inbA : ∀ t a, offA t a + S1x8192.size a ≤ S32x262144.size a}
    {offW offW' : Fin 2 → ℕ} {inbW : ∀ a, offW a + S1x8192.size a ≤ S32x262144.size a} {inbW' : ∀ a, offW' a + S1x8192.size a ≤ S32x262144.size a}
    {c : Fin k0_t4_loop.trips → BitVec 1} {offB : Fin k0_t4_loop.trips → Fin 2 → ℕ}
    {inbB : ∀ t, c t = 1#1 → ∀ a, offB t a + S1x8192.size a ≤ S32x262144.size a} {in4 in5 : TProg F i Unit}
    {arg4 : Memref sig .scVector .vmem S8192 .i32} {harg4 : arg4.IsWhole} {arg5 : Memref sig .scVector .vmem S8192 .i32} {harg5 : arg5.IsWhole}
    {arg10 arg11 : DmaSems sig S_} {f : S32x262144.Idx → BitVec 32} {qL qR : PosShare TreeShare}
    {O : CellTallies nD τ sig (HIx 1)} {W : Waits sig (HIx 1)} {Hs : ℕ → sProp 𝕄} (hO : ∀ g, O g none = 0)
    (hA0 : ∀ t, offA t 0 = wOf i) (hA1 : ∀ t, offA t 1 = 16 * (1024 * t.val + 512)) (hB0 : ∀ t, offB t 0 = wOf i)
    (hB1 : ∀ t, offB t 1 = 16 * (1024 * (t.val + 1))) (hc : ∀ t, c t = 1#1 ↔ t.val < 15)
    (h4 : Counts d i arg4 (rowOf f (wOf i)) Hs in4) (h5 : Counts d i arg5 (rowOf f (wOf i)) Hs in5) (t : Fin k0_t4_loop.trips) (u : Unit) :
    (passI d i arg4 arg5 arg10 arg11 f qL qR O W Hs t.val : sProp 𝕄)
      ⊢ twp d i (passBody F i offA inbA offW offW' inbW inbW' c offB inbB in4 in5 arg4 harg4 arg5 harg5 arg10 arg11 t u)
        fun _ => passI d i arg4 arg5 arg10 arg11 f qL qR O W Hs (t.val + 1) := by
  have ht : t.val < 16 := t.isLt
  have e16 : (evenP d i arg4 arg10.sem f qL t.val : sProp 𝕄) = pend d i arg10.sem arg4 (wOf i) f (1024 * t.val) qL := if_pos ht
  unfold passBody
  simp only [Prog.lift, Prog.bind_op, Prog.bind_ret, Prog.pure_eq_ret]
  unfold passI
  rw [e16]
  unfold some8
  iintro ⟨#Hlv, Hp, ⟨%H5, H5⟩, Hx, Hv, Hw, Hh⟩
  iapply (own_issue d i (hA0 t) (hA1 t)) $$ [H5 Hx Hv]
  · isplitl [H5]; · iexact H5
    isplitl [Hx]; · iexact Hx
    iexact Hv
  iintro Hp5
  iapply (own_wait d i hO) $$ [Hp Hw]
  · isplitr; · iexact Hlv
    isplitl [Hp]; · iexact Hp
    iexact Hw
  iintro ⟨H4, Hx, Hv, Hw⟩
  iapply (h4 (1024 * t.val) _ _ _) $$ [H4 Hh]
  · isplitl [H4]; · iexact H4
    iexact Hh
  iintro ⟨H4, Hh⟩
  by_cases hb : c t = 1#1
  · have h15 : t.val + 1 < 16 := by have := (hc t).mp hb; omega
    have e16' : (evenP d i arg4 arg10.sem f qL (t.val + 1) : sProp 𝕄) = pend d i arg10.sem arg4 (wOf i) f (1024 * (t.val + 1)) qL := if_pos h15
    rw [e16']
    simp only [dif_pos hb, Prog.bind_op, Prog.bind_ret]
    iapply (own_issue d i (hB0 t) (hB1 t)) $$ [H4 Hx Hv]
    · isplitl [H4]; · iexact H4
      isplitl [Hx]; · iexact Hx
      iexact Hv
    iintro Hp
    iapply (own_wait d i hO) $$ [Hp5 Hw]
    · isplitr; · iexact Hlv
      isplitl [Hp5]; · iexact Hp5
      iexact Hw
    iintro ⟨H5, Hx, Hv, Hw⟩
    iapply (h5 (1024 * t.val + 512) _ _ _) $$ [H5 Hh]
    · isplitl [H5]; · iexact H5
      iexact Hh
    iintro ⟨H5, Hh⟩
    iapply (own_ret d i)
    isplitr; · iexact Hlv
    isplitl [Hp]; · iexact Hp
    isplitl [H5]; · iexists _; iexact H5
    isplitl [Hx]; · iexact Hx
    isplitl [Hv]; · iexact Hv
    isplitl [Hw]; · iexact Hw
    iapply (Entails.of_eq (congrArg Hs (by ring))) $$ Hh
  · have h15 : ¬ t.val + 1 < 16 := by have := mt (hc t).mpr hb; omega
    have e16' : (evenP d i arg4 arg10.sem f qL (t.val + 1) : sProp 𝕄) = iprop(some8 d i arg4 ∗ xs d i (wOf i) f qL ∗ semVal (thr d i, .dma arg10.sem) 0) :=
      if_neg h15
    rw [e16']
    simp only [dif_neg hb, Prog.bind_op, Prog.bind_ret]
    iapply (own_wait d i hO) $$ [Hp5 Hw]
    · isplitr; · iexact Hlv
      isplitl [Hp5]; · iexact Hp5
      iexact Hw
    iintro ⟨H5, Hx5, Hv5, Hw⟩
    iapply (h5 (1024 * t.val + 512) _ _ _) $$ [H5 Hh]
    · isplitl [H5]; · iexact H5
      iexact Hh
    iintro ⟨H5, Hh⟩
    iapply (own_ret d i)
    isplitr; · iexact Hlv
    isplitl [H4 Hx Hv]
    · isplitl [H4]; · unfold some8; iexists _; iexact H4
      isplitl [Hx]; · iexact Hx
      iexact Hv
    isplitl [H5]; · iexists _; iexact H5
    isplitl [Hx5]; · iexact Hx5
    isplitl [Hv5]; · iexact Hv5
    isplitl [Hw]; · iexact Hw
    iapply (Entails.of_eq (congrArg Hs (by ring))) $$ Hh

/-- A pass, from the issue of its first chunk's copy on. -/
theorem pass_loop {offA : Fin k0_t4_loop.trips → Fin 2 → ℕ} {inbA : ∀ t a, offA t a + S1x8192.size a ≤ S32x262144.size a}
    {offW offW' : Fin 2 → ℕ} {inbW : ∀ a, offW a + S1x8192.size a ≤ S32x262144.size a} {inbW' : ∀ a, offW' a + S1x8192.size a ≤ S32x262144.size a}
    {c : Fin k0_t4_loop.trips → BitVec 1} {offB : Fin k0_t4_loop.trips → Fin 2 → ℕ}
    {inbB : ∀ t, c t = 1#1 → ∀ a, offB t a + S1x8192.size a ≤ S32x262144.size a} {in4 in5 : TProg F i Unit}
    {arg4 : Memref sig .scVector .vmem S8192 .i32} {harg4 : arg4.IsWhole} {arg5 : Memref sig .scVector .vmem S8192 .i32} {harg5 : arg5.IsWhole}
    {arg10 arg11 : DmaSems sig S_} {f : S32x262144.Idx → BitVec 32} {qL qR : PosShare TreeShare}
    {O : CellTallies nD τ sig (HIx 1)} {W : Waits sig (HIx 1)} {Hs : ℕ → sProp 𝕄} (hO : ∀ g, O g none = 0)
    (hA0 : ∀ t, offA t 0 = wOf i) (hA1 : ∀ t, offA t 1 = 16 * (1024 * t.val + 512)) (hB0 : ∀ t, offB t 0 = wOf i)
    (hB1 : ∀ t, offB t 1 = 16 * (1024 * (t.val + 1))) (hc : ∀ t, c t = 1#1 ↔ t.val < 15)
    (h4 : Counts d i arg4 (rowOf f (wOf i)) Hs in4) (h5 : Counts d i arg5 (rowOf f (wOf i)) Hs in5)
    {β : Type} {kk : Unit → TProg F i β} {Q : β → sProp 𝕄} :
    iprop(levAts (K (F := F)).L (K (F := F)).lev ∗ pend d i arg10.sem arg4 (wOf i) f 0 qL ∗ some8 d i arg5 ∗ xs d i (wOf i) f qR
        ∗ semVal (thr d i, .dma arg11.sem) 0 ∗ wts d i O W ∗ Hs 0)
      ⊢ iprop((iprop(some8 d i arg4 ∗ xs d i (wOf i) f qL ∗ semVal (thr d i, .dma arg10.sem) 0 ∗ some8 d i arg5 ∗ xs d i (wOf i) f qR
            ∗ semVal (thr d i, .dma arg11.sem) 0 ∗ wts d i O W ∗ Hs 16384) -∗ twp d i (kk ⟨⟩) Q)
        -∗ twp d i (Scf.Loop.for k0_t4_loop k0_t4_ok ⟨⟩
            (passBody F i offA inbA offW offW' inbW inbW' c offB inbB in4 in5 arg4 harg4 arg5 harg5 arg10 arg11) >>= kk) Q) := by
  iintro H Hk
  iapply (own_for d i (fun n _ => passI d i arg4 arg5 arg10 arg11 f qL qR O W Hs n)
    (passBody_step d i hO hA0 hA1 hB0 hB1 hc h4 h5)) $$ [H]
  · unfold passI
    rw [show (evenP d i arg4 arg10.sem f qL 0 : sProp 𝕄) = pend d i arg10.sem arg4 (wOf i) f 0 qL from if_pos (by decide)]
    iexact H
  · iintro %_ HI
    unfold passI
    rw [show (evenP d i arg4 arg10.sem f qL k0_t4_loop.trips : sProp 𝕄)
      = iprop(some8 d i arg4 ∗ xs d i (wOf i) f qL ∗ semVal (thr d i, .dma arg10.sem) 0) from if_neg (by decide)]
    icases HI with ⟨-, ⟨H4, Hx4, Hv4⟩, H5, Hx5, Hv5, Hw, Hh⟩
    iapply Hk
    isplitl [H4]; · iexact H4
    isplitl [Hx4]; · iexact Hx4
    isplitl [Hv4]; · iexact Hv4
    isplitl [H5]; · iexact H5
    isplitl [Hx5]; · iexact Hx5
    isplitl [Hv5]; · iexact Hv5
    isplitl [Hw]; · iexact Hw
    iapply (Entails.of_eq (congrArg Hs (by decide : 1024 * k0_t4_loop.trips = 16384))) $$ Hh

end

end Cert.Proof
-- ==== Proof.PassInst.lean ====
/-
  The kernel's three passes over the tile's row, as instances of `passBody`: the offsets of their copies, their counting
  loops, and what each leaves in the histograms.
-/
module

public import proofs.«01_k».proof.Proof.Pass

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

theorem off4_row (i : grid0.Coords) : k0_off4 i 0 = wOf i := word_w i
theorem off4_col (i : grid0.Coords) : k0_off4 i 1 = 16 * 0 := rfl
theorem off15_row (i : grid0.Coords) : k0_off15 i 0 = wOf i := word_w i
theorem off15_col (i : grid0.Coords) : k0_off15 i 1 = 16 * 0 := rfl
theorem off27_row (i : grid0.Coords) : k0_off27 i 0 = wOf i := word_w i
theorem off27_col (i : grid0.Coords) : k0_off27 i 1 = 16 * 0 := rfl
theorem off5_row (i : grid0.Coords) (t : Fin k0_t4_loop.trips) : k0_off5 i t 0 = wOf i := word_w i
theorem off5_col (i : grid0.Coords) (t : Fin k0_t4_loop.trips) : k0_off5 i t 1 = 16 * (1024 * t.val + 512) := by
  change (Scalar.muli (Scalar.addi (Scalar.muli (Scf.iv 0#32 1#32 t) 2#32) 1#32) 8192#32).toNat = _
  revert t; decide
theorem off16_row (i : grid0.Coords) (t : Fin k0_t12_loop.trips) : k0_off16 i t 0 = wOf i := word_w i
theorem off16_col (i : grid0.Coords) (t : Fin k0_t12_loop.trips) : k0_off16 i t 1 = 16 * (1024 * t.val + 512) := by
  change (Scalar.muli (Scalar.addi (Scalar.muli (Scf.iv 0#32 1#32 t) 2#32) 1#32) 8192#32).toNat = _
  revert t; decide
theorem off28_row (i : grid0.Coords) (t : Fin k0_t23_loop.trips) : k0_off28 i t 0 = wOf i := word_w i
theorem off28_col (i : grid0.Coords) (t : Fin k0_t23_loop.trips) : k0_off28 i t 1 = 16 * (1024 * t.val + 512) := by
  change (Scalar.muli (Scalar.addi (Scalar.muli (Scf.iv 0#32 1#32 t) 2#32) 1#32) 8192#32).toNat = _
  revert t; decide
theorem off8_row (i : grid0.Coords) (t : Fin k0_t4_loop.trips) : k0_off8 i t 0 = wOf i := word_w i
theorem off8_col (i : grid0.Coords) (t : Fin k0_t4_loop.trips) : k0_off8 i t 1 = 16 * (1024 * (t.val + 1)) := by
  change (Scalar.muli (Scalar.addi (Scalar.muli (Scf.iv 0#32 1#32 t) 2#32) 2#32) 8192#32).toNat = _
  revert t; decide
theorem off19_row (i : grid0.Coords) (t : Fin k0_t12_loop.trips) : k0_off19 i t 0 = wOf i := word_w i
theorem off19_col (i : grid0.Coords) (t : Fin k0_t12_loop.trips) : k0_off19 i t 1 = 16 * (1024 * (t.val + 1)) := by
  change (Scalar.muli (Scalar.addi (Scalar.muli (Scf.iv 0#32 1#32 t) 2#32) 2#32) 8192#32).toNat = _
  revert t; decide
theorem off31_row (i : grid0.Coords) (t : Fin k0_t23_loop.trips) : k0_off31 i t 0 = wOf i := word_w i
theorem off31_col (i : grid0.Coords) (t : Fin k0_t23_loop.trips) : k0_off31 i t 1 = 16 * (1024 * (t.val + 1)) := by
  change (Scalar.muli (Scalar.addi (Scalar.muli (Scf.iv 0#32 1#32 t) 2#32) 2#32) 8192#32).toNat = _
  revert t; decide
theorem cond1_iff (t : Fin k0_t4_loop.trips) : k0_cond1 t = 1#1 ↔ t.val < 15 := by revert t; decide
theorem cond2_iff (t : Fin k0_t12_loop.trips) : k0_cond2 t = 1#1 ↔ t.val < 15 := by revert t; decide
theorem cond3_iff (t : Fin k0_t23_loop.trips) : k0_cond3 t = 1#1 ↔ t.val < 15 := by revert t; decide
theorem t6_eq (F : FTy → Type) [FloatOps F] (i : grid0.Coords) hx arg3 harg3 arg4 harg4 arg5 harg5 arg6 harg6 arg7 harg7 arg8 harg8 arg9 harg9 arg10 arg11 r v2 :
    k0_t6_body (F := F) i xV hx arg3 harg3 arg4 harg4 arg5 harg5 arg6 harg6 arg7 harg7 arg8 harg8 arg9 harg9 arg10 arg11 r v2
      = k0_t5_body (F := F) i xV hx arg3 harg3 arg5 harg5 arg4 harg4 arg6 harg6 arg7 harg7 arg8 harg8 arg9 harg9 arg10 arg11 r v2 := rfl

theorem t4_eq (F : FTy → Type) [FloatOps F] (i : grid0.Coords) hx arg3 harg3 arg4 harg4 arg5 harg5 arg6 harg6 arg7 harg7 arg8 harg8 arg9 harg9 arg10 arg11 r v2 :
    k0_t4_body (F := F) i xV hx arg3 harg3 arg4 harg4 arg5 harg5 arg6 harg6 arg7 harg7 arg8 harg8 arg9 harg9 arg10 arg11 r v2
      = passBody F i (k0_off5 i) (k0_off5_inb i) (k0_off6 i) (k0_off9 i) (k0_off6_inb i) (k0_off9_inb i) k0_cond1 (k0_off8 i) (k0_off8_inb i)
          (Scf.Loop.for k0_t5_loop k0_t5_ok ⟨⟩ (k0_t5_body (F := F) i xV hx arg3 harg3 arg4 harg4 arg5 harg5 arg6 harg6 arg7 harg7 arg8 harg8 arg9 harg9 arg10 arg11 r v2))
          (Scf.Loop.for k0_t6_loop k0_t6_ok ⟨⟩ (k0_t6_body (F := F) i xV hx arg3 harg3 arg4 harg4 arg5 harg5 arg6 harg6 arg7 harg7 arg8 harg8 arg9 harg9 arg10 arg11 r v2))
          arg4 harg4 arg5 harg5 arg10 arg11 := rfl

theorem t14_eq (F : FTy → Type) [FloatOps F] (i : grid0.Coords) hx arg3 harg3 arg4 harg4 arg5 harg5 arg6 harg6 arg7 harg7 arg8 harg8 arg9 harg9 arg10 arg11 r v2 v3 v13_1 v15_1 hw51 v21 v29 v30 v33 :
    k0_t14_body (F := F) i xV hx arg3 harg3 arg4 harg4 arg5 harg5 arg6 harg6 arg7 harg7 arg8 harg8 arg9 harg9 arg10 arg11 r v2 v3 v13_1 v15_1 hw51 v21 v29 v30 v33
      = k0_t13_body (F := F) i xV hx arg3 harg3 arg5 harg5 arg4 harg4 arg6 harg6 arg7 harg7 arg8 harg8 arg9 harg9 arg10 arg11 r v2 v3 v13_1 v15_1 hw51 v21 v29 v30 v33 := rfl

theorem t12_eq (F : FTy → Type) [FloatOps F] (i : grid0.Coords) hx arg3 harg3 arg4 harg4 arg5 harg5 arg6 harg6 arg7 harg7 arg8 harg8 arg9 harg9 arg10 arg11 r v2 v3 v13_1 v15_1 hw51 v21 v29 v30 v33 :
    k0_t12_body (F := F) i xV hx arg3 harg3 arg4 harg4 arg5 harg5 arg6 harg6 arg7 harg7 arg8 harg8 arg9 harg9 arg10 arg11 r v2 v3 v13_1 v15_1 hw51 v21 v29 v30 v33
      = passBody F i (k0_off16 i) (k0_off16_inb i) (k0_off17 i) (k0_off17 i) (k0_off17_inb i) (k0_off17_inb i) k0_cond2 (k0_off19 i) (k0_off19_inb i)
          (Scf.Loop.for k0_t13_loop k0_t13_ok ⟨⟩ (k0_t13_body (F := F) i xV hx arg3 harg3 arg4 harg4 arg5 harg5 arg6 harg6 arg7 harg7 arg8 harg8 arg9 harg9 arg10 arg11 r v2 v3 v13_1 v15_1 hw51 v21 v29 v30 v33))
          (Scf.Loop.for k0_t14_loop k0_t14_ok ⟨⟩ (k0_t14_body (F := F) i xV hx arg3 harg3 arg4 harg4 arg5 harg5 arg6 harg6 arg7 harg7 arg8 harg8 arg9 harg9 arg10 arg11 r v2 v3 v13_1 v15_1 hw51 v21 v29 v30 v33))
          arg4 harg4 arg5 harg5 arg10 arg11 := rfl

theorem t25_eq (F : FTy → Type) [FloatOps F] (i : grid0.Coords) hx arg3 harg3 arg4 harg4 arg5 harg5 arg6 harg6 arg7 harg7 arg8 harg8 arg9 harg9 arg10 arg11 r v2 v3 v13_1 v15_1 hw51 v33 v74 v77 v79 :
    k0_t25_body (F := F) i xV hx arg3 harg3 arg4 harg4 arg5 harg5 arg6 harg6 arg7 harg7 arg8 harg8 arg9 harg9 arg10 arg11 r v2 v3 v13_1 v15_1 hw51 v33 v74 v77 v79
      = k0_t24_body (F := F) i xV hx arg3 harg3 arg5 harg5 arg4 harg4 arg6 harg6 arg7 harg7 arg8 harg8 arg9 harg9 arg10 arg11 r v2 v3 v13_1 v15_1 hw51 v33 v74 v77 v79 := rfl

theorem t23_eq (F : FTy → Type) [FloatOps F] (i : grid0.Coords) hx arg3 harg3 arg4 harg4 arg5 harg5 arg6 harg6 arg7 harg7 arg8 harg8 arg9 harg9 arg10 arg11 r v2 v3 v13_1 v15_1 hw51 v33 v74 v77 v79 :
    k0_t23_body (F := F) i xV hx arg3 harg3 arg4 harg4 arg5 harg5 arg6 harg6 arg7 harg7 arg8 harg8 arg9 harg9 arg10 arg11 r v2 v3 v13_1 v15_1 hw51 v33 v74 v77 v79
      = passBody F i (k0_off28 i) (k0_off28_inb i) (k0_off29 i) (k0_off29 i) (k0_off29_inb i) (k0_off29_inb i) k0_cond3 (k0_off31 i) (k0_off31_inb i)
          (Scf.Loop.for k0_t24_loop k0_t24_ok ⟨⟩ (k0_t24_body (F := F) i xV hx arg3 harg3 arg4 harg4 arg5 harg5 arg6 harg6 arg7 harg7 arg8 harg8 arg9 harg9 arg10 arg11 r v2 v3 v13_1 v15_1 hw51 v33 v74 v77 v79))
          (Scf.Loop.for k0_t25_loop k0_t25_ok ⟨⟩ (k0_t25_body (F := F) i xV hx arg3 harg3 arg4 harg4 arg5 harg5 arg6 harg6 arg7 harg7 arg8 harg8 arg9 harg9 arg10 arg11 r v2 v3 v13_1 v15_1 hw51 v33 v74 v77 v79))
          arg4 harg4 arg5 harg5 arg10 arg11 := rfl

/-- The counting loop t5 counts the chunk in `arg4`. -/
theorem t5_counts (d : Dev nD) (i : grid0.Coords) (hx) (arg3) (harg3) (arg4) (harg4) (arg5) (harg5) (arg6) (harg6) (arg7) (harg7) (arg8) (harg8) (arg9) (harg9) (arg10) (arg11) (r) {v2 : IVec S16 32} (hv2 : ∀ x, (v2 x).toNat = (x 0).val)
    {X : ℕ → BitVec 32} {C : S2048x16.Idx → BitVec 32} :
    Counts d i arg4 X (fun b => owns d i arg6 (addH C P1 X b))
      (Scf.Loop.for k0_t5_loop k0_t5_ok ⟨⟩ (k0_t5_body (F := F) i xV hx arg3 harg3 arg4 harg4 arg5 harg5 arg6 harg6 arg7 harg7 arg8 harg8 arg9 harg9 arg10 arg11 r v2)) := by
  intro b β kk Q
  iintro H Hkk
  iapply (own_for d i (fun n _ => iprop(owns d i arg4 (chunkOf X b) ∗ owns d i arg6 (addH C P1 X (b + 16 * n))))
    (fun t u => t5_step d i xV hx arg3 harg3 arg4 harg4 arg5 harg5 arg6 harg6 arg7 harg7 arg8 harg8 arg9 harg9 arg10 arg11 r hv2 t u)) $$ [H]
  · iexact H
  · iintro %_ H
    iapply Hkk
    iexact H

/-- The counting loop t6 counts the chunk in `arg5`. -/
theorem t6_counts (d : Dev nD) (i : grid0.Coords) (hx) (arg3) (harg3) (arg4) (harg4) (arg5) (harg5) (arg6) (harg6) (arg7) (harg7) (arg8) (harg8) (arg9) (harg9) (arg10) (arg11) (r) {v2 : IVec S16 32} (hv2 : ∀ x, (v2 x).toNat = (x 0).val)
    {X : ℕ → BitVec 32} {C : S2048x16.Idx → BitVec 32} :
    Counts d i arg5 X (fun b => owns d i arg6 (addH C P1 X b))
      (Scf.Loop.for k0_t6_loop k0_t6_ok ⟨⟩ (k0_t6_body (F := F) i xV hx arg3 harg3 arg4 harg4 arg5 harg5 arg6 harg6 arg7 harg7 arg8 harg8 arg9 harg9 arg10 arg11 r v2)) := by
  intro b β kk Q
  rw [t6_eq]
  iintro H Hkk
  iapply (own_for d i (fun n _ => iprop(owns d i arg5 (chunkOf X b) ∗ owns d i arg6 (addH C P1 X (b + 16 * n))))
    (fun t u => t5_step d i xV hx arg3 harg3 arg5 harg5 arg4 harg4 arg6 harg6 arg7 harg7 arg8 harg8 arg9 harg9 arg10 arg11 r hv2 t u)) $$ [H]
  · iexact H
  · iintro %_ H
    iapply Hkk
    iexact H

/-- The pass of loop t4: every word of the row counted, 16384 vectors of 16. -/
theorem t4_pass (d : Dev nD) (i : grid0.Coords) (hx) (arg3) (harg3) (arg4) (harg4) (arg5) (harg5) (arg6) (harg6) (arg7) (harg7) (arg8) (harg8) (arg9) (harg9) (arg10) (arg11) (r) {v2 : IVec S16 32} (hv2 : ∀ x, (v2 x).toNat = (x 0).val)
    {f : S32x262144.Idx → BitVec 32} {C : S2048x16.Idx → BitVec 32} {qL qR : PosShare TreeShare} {O : CellTallies nD τ sig (HIx 1)} {W : Waits sig (HIx 1)} (hO : ∀ g, O g none = 0)
    {β : Type} {kk : Unit → TProg F i β} {Q : β → sProp 𝕄} :
    iprop(levAts (K (F := F)).L (K (F := F)).lev ∗ pend d i arg10.sem arg4 (wOf i) f 0 qL ∗ some8 d i arg5 ∗ xs d i (wOf i) f qR
        ∗ semVal (thr d i, .dma arg11.sem) 0 ∗ wts d i O W ∗ owns d i arg6 (addH C P1 (rowOf f (wOf i)) 0))
      ⊢ iprop((iprop(some8 d i arg4 ∗ xs d i (wOf i) f qL ∗ semVal (thr d i, .dma arg10.sem) 0 ∗ some8 d i arg5 ∗ xs d i (wOf i) f qR
            ∗ semVal (thr d i, .dma arg11.sem) 0 ∗ wts d i O W ∗ owns d i arg6 (addH C P1 (rowOf f (wOf i)) 16384)) -∗ twp d i (kk ⟨⟩) Q)
        -∗ twp d i (Scf.Loop.for k0_t4_loop k0_t4_ok ⟨⟩ (k0_t4_body (F := F) i xV hx arg3 harg3 arg4 harg4 arg5 harg5 arg6 harg6 arg7 harg7 arg8 harg8 arg9 harg9 arg10 arg11 r v2) >>= kk) Q) := by
  rw [t4_eq]
  exact pass_loop d i (Hs := fun b => owns d i arg6 (addH C P1 (rowOf f (wOf i)) b)) hO (off5_row i) (off5_col i) (off8_row i) (off8_col i) cond1_iff
    (t5_counts d i hx arg3 harg3 arg4 harg4 arg5 harg5 arg6 harg6 arg7 harg7 arg8 harg8 arg9 harg9 arg10 arg11 r hv2 ) (t6_counts d i hx arg3 harg3 arg4 harg4 arg5 harg5 arg6 harg6 arg7 harg7 arg8 harg8 arg9 harg9 arg10 arg11 r hv2 )

/-- The counting loop t13 counts the chunk in `arg4`. -/
theorem t13_counts (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v21) (v29) (v30) (v33)
    {X : ℕ → BitVec 32} {C C' : S2048x16.Idx → BitVec 32} :
    Counts d i arg4 X (fun b => iprop(owns d i arg7 (addH C (P2 v21) X b) ∗ owns d i arg8 (addH C' (P2 v29) X b)))
      (Scf.Loop.for k0_t13_loop k0_t13_ok ⟨⟩ (k0_t13_body (F := F) i xV hx arg3 harg3 arg4 harg4 arg5 harg5 arg6 harg6 arg7 harg7 arg8 harg8 arg9 harg9 arg10 arg11 r v2 v3 v13_1 v15_1 hw51 v21 v29 v30 v33)) := by
  intro b β kk Q
  iintro H Hkk
  iapply (own_for d i (fun n _ => iprop(owns d i arg4 (chunkOf X b) ∗ (owns d i arg7 (addH C (P2 v21) X (b + 8 * n)) ∗ owns d i arg8 (addH C' (P2 v29) X (b + 8 * n)))))
    (fun t u => t13_step d i xV hx arg3 harg3 arg4 harg4 arg5 harg5 arg6 harg6 arg7 harg7 arg8 harg8 arg9 harg9 arg10 arg11 r hv2 hv3 v13_1 v15_1 hw51 v21 v29 v30 v33 t u)) $$ [H]
  · iexact H
  · iintro %_ H
    iapply Hkk
    iexact H

/-- The counting loop t14 counts the chunk in `arg5`. -/
theorem t14_counts (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v21) (v29) (v30) (v33)
    {X : ℕ → BitVec 32} {C C' : S2048x16.Idx → BitVec 32} :
    Counts d i arg5 X (fun b => iprop(owns d i arg7 (addH C (P2 v21) X b) ∗ owns d i arg8 (addH C' (P2 v29) X b)))
      (Scf.Loop.for k0_t14_loop k0_t14_ok ⟨⟩ (k0_t14_body (F := F) i xV hx arg3 harg3 arg4 harg4 arg5 harg5 arg6 harg6 arg7 harg7 arg8 harg8 arg9 harg9 arg10 arg11 r v2 v3 v13_1 v15_1 hw51 v21 v29 v30 v33)) := by
  intro b β kk Q
  rw [t14_eq]
  iintro H Hkk
  iapply (own_for d i (fun n _ => iprop(owns d i arg5 (chunkOf X b) ∗ (owns d i arg7 (addH C (P2 v21) X (b + 8 * n)) ∗ owns d i arg8 (addH C' (P2 v29) X (b + 8 * n)))))
    (fun t u => t13_step d i xV hx arg3 harg3 arg5 harg5 arg4 harg4 arg6 harg6 arg7 harg7 arg8 harg8 arg9 harg9 arg10 arg11 r hv2 hv3 v13_1 v15_1 hw51 v21 v29 v30 v33 t u)) $$ [H]
  · iexact H
  · iintro %_ H
    iapply Hkk
    iexact H

/-- The pass of loop t12: every word of the row counted, 16384 vectors of 16. -/
theorem t12_pass (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v21) (v29) (v30) (v33)
    {f : S32x262144.Idx → BitVec 32} {C C' : S2048x16.Idx → BitVec 32} {qL qR : PosShare TreeShare} {O : CellTallies nD τ sig (HIx 1)} {W : Waits sig (HIx 1)} (hO : ∀ g, O g none = 0)
    {β : Type} {kk : Unit → TProg F i β} {Q : β → sProp 𝕄} :
    iprop(levAts (K (F := F)).L (K (F := F)).lev ∗ pend d i arg10.sem arg4 (wOf i) f 0 qL ∗ some8 d i arg5 ∗ xs d i (wOf i) f qR
        ∗ semVal (thr d i, .dma arg11.sem) 0 ∗ wts d i O W ∗ iprop(owns d i arg7 (addH C (P2 v21) (rowOf f (wOf i)) 0) ∗ owns d i arg8 (addH C' (P2 v29) (rowOf f (wOf i)) 0)))
      ⊢ iprop((iprop(some8 d i arg4 ∗ xs d i (wOf i) f qL ∗ semVal (thr d i, .dma arg10.sem) 0 ∗ some8 d i arg5 ∗ xs d i (wOf i) f qR
            ∗ semVal (thr d i, .dma arg11.sem) 0 ∗ wts d i O W ∗ iprop(owns d i arg7 (addH C (P2 v21) (rowOf f (wOf i)) 16384) ∗ owns d i arg8 (addH C' (P2 v29) (rowOf f (wOf i)) 16384))) -∗ twp d i (kk ⟨⟩) Q)
        -∗ twp d i (Scf.Loop.for k0_t12_loop k0_t12_ok ⟨⟩ (k0_t12_body (F := F) i xV hx arg3 harg3 arg4 harg4 arg5 harg5 arg6 harg6 arg7 harg7 arg8 harg8 arg9 harg9 arg10 arg11 r v2 v3 v13_1 v15_1 hw51 v21 v29 v30 v33) >>= kk) Q) := by
  rw [t12_eq]
  exact pass_loop d i (Hs := fun b => iprop(owns d i arg7 (addH C (P2 v21) (rowOf f (wOf i)) b) ∗ owns d i arg8 (addH C' (P2 v29) (rowOf f (wOf i)) b))) hO (off16_row i) (off16_col i) (off19_row i) (off19_col i) cond2_iff
    (t13_counts d i hx arg3 harg3 arg4 harg4 arg5 harg5 arg6 harg6 arg7 harg7 arg8 harg8 arg9 harg9 arg10 arg11 r hv2 hv3 v13_1 v15_1 hw51 v21 v29 v30 v33) (t14_counts d i hx arg3 harg3 arg4 harg4 arg5 harg5 arg6 harg6 arg7 harg7 arg8 harg8 arg9 harg9 arg10 arg11 r hv2 hv3 v13_1 v15_1 hw51 v21 v29 v30 v33)

/-- The counting loop t24 counts the chunk in `arg4`. -/
theorem t24_counts (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v33) (v74) (v77) (v79)
    {X : ℕ → BitVec 32} {C : S2048x16.Idx → BitVec 32} :
    Counts d i arg4 X (fun b => owns d i arg6 (addH (addH C (P3 1024 v79) X b) (P3 0 v77) X b))
      (Scf.Loop.for k0_t24_loop k0_t24_ok ⟨⟩ (k0_t24_body (F := F) i xV hx arg3 harg3 arg4 harg4 arg5 harg5 arg6 harg6 arg7 harg7 arg8 harg8 arg9 harg9 arg10 arg11 r v2 v3 v13_1 v15_1 hw51 v33 v74 v77 v79)) := by
  intro b β kk Q
  iintro H Hkk
  iapply (own_for d i (fun n _ => iprop(owns d i arg4 (chunkOf X b) ∗ owns d i arg6 (addH (addH C (P3 1024 v79) X (b + 8 * n)) (P3 0 v77) X (b + 8 * n))))
    (fun t u => t24_step d i xV hx arg3 harg3 arg4 harg4 arg5 harg5 arg6 harg6 arg7 harg7 arg8 harg8 arg9 harg9 arg10 arg11 r hv2 hv3 v13_1 v15_1 hw51 v33 v74 v77 v79 t u)) $$ [H]
  · iexact H
  · iintro %_ H
    iapply Hkk
    iexact H

/-- The counting loop t25 counts the chunk in `arg5`. -/
theorem t25_counts (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v33) (v74) (v77) (v79)
    {X : ℕ → BitVec 32} {C : S2048x16.Idx → BitVec 32} :
    Counts d i arg5 X (fun b => owns d i arg6 (addH (addH C (P3 1024 v79) X b) (P3 0 v77) X b))
      (Scf.Loop.for k0_t25_loop k0_t25_ok ⟨⟩ (k0_t25_body (F := F) i xV hx arg3 harg3 arg4 harg4 arg5 harg5 arg6 harg6 arg7 harg7 arg8 harg8 arg9 harg9 arg10 arg11 r v2 v3 v13_1 v15_1 hw51 v33 v74 v77 v79)) := by
  intro b β kk Q
  rw [t25_eq]
  iintro H Hkk
  iapply (own_for d i (fun n _ => iprop(owns d i arg5 (chunkOf X b) ∗ owns d i arg6 (addH (addH C (P3 1024 v79) X (b + 8 * n)) (P3 0 v77) X (b + 8 * n))))
    (fun t u => t24_step d i xV hx arg3 harg3 arg5 harg5 arg4 harg4 arg6 harg6 arg7 harg7 arg8 harg8 arg9 harg9 arg10 arg11 r hv2 hv3 v13_1 v15_1 hw51 v33 v74 v77 v79 t u)) $$ [H]
  · iexact H
  · iintro %_ H
    iapply Hkk
    iexact H

/-- The pass of loop t23: every word of the row counted, 16384 vectors of 16. -/
theorem t23_pass (d : Dev nD) (i : grid0.Coords) (hx) (arg3) (harg3) (arg4) (harg4) (arg5) (harg5) (arg6) (harg6) (arg7) (harg7) (arg8) (harg8) (arg9) (harg9) (arg10) (arg11) (r) {v2 v3 : IVec S16 32} (hv2 : ∀ x, (v2 x).toNat = (x 0).val) (hv3 : ∀ x, v3 x = 1#32) (v13_1) (v15_1) (hw51) (v33) (v74) (v77) (v79)
    {f : S32x262144.Idx → BitVec 32} {C : S2048x16.Idx → BitVec 32} {qL qR : PosShare TreeShare} {O : CellTallies nD τ sig (HIx 1)} {W : Waits sig (HIx 1)} (hO : ∀ g, O g none = 0)
    {β : Type} {kk : Unit → TProg F i β} {Q : β → sProp 𝕄} :
    iprop(levAts (K (F := F)).L (K (F := F)).lev ∗ pend d i arg10.sem arg4 (wOf i) f 0 qL ∗ some8 d i arg5 ∗ xs d i (wOf i) f qR
        ∗ semVal (thr d i, .dma arg11.sem) 0 ∗ wts d i O W ∗ owns d i arg6 (addH (addH C (P3 1024 v79) (rowOf f (wOf i)) 0) (P3 0 v77) (rowOf f (wOf i)) 0))
      ⊢ iprop((iprop(some8 d i arg4 ∗ xs d i (wOf i) f qL ∗ semVal (thr d i, .dma arg10.sem) 0 ∗ some8 d i arg5 ∗ xs d i (wOf i) f qR
            ∗ semVal (thr d i, .dma arg11.sem) 0 ∗ wts d i O W ∗ owns d i arg6 (addH (addH C (P3 1024 v79) (rowOf f (wOf i)) 16384) (P3 0 v77) (rowOf f (wOf i)) 16384)) -∗ twp d i (kk ⟨⟩) Q)
        -∗ twp d i (Scf.Loop.for k0_t23_loop k0_t23_ok ⟨⟩ (k0_t23_body (F := F) i xV hx arg3 harg3 arg4 harg4 arg5 harg5 arg6 harg6 arg7 harg7 arg8 harg8 arg9 harg9 arg10 arg11 r v2 v3 v13_1 v15_1 hw51 v33 v74 v77 v79) >>= kk) Q) := by
  rw [t23_eq]
  exact pass_loop d i (Hs := fun b => owns d i arg6 (addH (addH C (P3 1024 v79) (rowOf f (wOf i)) b) (P3 0 v77) (rowOf f (wOf i)) b)) hO (off28_row i) (off28_col i) (off31_row i) (off31_col i) cond3_iff
    (t24_counts d i hx arg3 harg3 arg4 harg4 arg5 harg5 arg6 harg6 arg7 harg7 arg8 harg8 arg9 harg9 arg10 arg11 r hv2 hv3 v13_1 v15_1 hw51 v33 v74 v77 v79) (t25_counts d i hx arg3 harg3 arg4 harg4 arg5 harg5 arg6 harg6 arg7 harg7 arg8 harg8 arg9 harg9 arg10 arg11 r hv2 hv3 v13_1 v15_1 hw51 v33 v74 v77 v79)

end Cert.Proof
-- ==== Proof.Cross.lean ====
/-
  The arithmetic of a scan: sums of words that count, the finder of the first crossing, and the word that says which.
-/
module

public import proofs.«01_k».proof.Proof.Hist

@[expose] public section

noncomputable section

namespace Cert.Proof

open Cert.KernelIdeal Cert.KernelIdeal.Gen
open Idealize.ShloMosaic

/-- The sum of the first `l` terms. -/
def cum (R : ℕ → ℕ) (l : ℕ) : ℕ := ∑ k ∈ Finset.range l, R k

theorem cum_succ (R : ℕ → ℕ) (l : ℕ) : cum R (l + 1) = cum R l + R l := Finset.sum_range_succ _ _

theorem cum_add (R : ℕ → ℕ) (l n : ℕ) : cum R (l + n) = cum R l + ∑ k ∈ Finset.range n, R (l + k) := Finset.sum_range_add _ _ _

theorem cum_mono (R : ℕ → ℕ) {l l' : ℕ} (h : l ≤ l') : cum R l ≤ cum R l' :=
  Finset.sum_le_sum_of_subset (fun x hx => Finset.mem_range.mpr (lt_of_lt_of_le (Finset.mem_range.mp hx) h))

/-- The crossing of `K` by a running sum: the place where the sum was below and is no longer. -/
def Cross (C : ℕ → ℕ) (K N : ℕ) (g c : BitVec 32) : Prop :=
  ∃ m < N, g = BitVec.ofNat 32 m ∧ c = BitVec.ofNat 32 (C m) ∧ C m < K ∧ K ≤ C (m + 1)

/-- A finder's state after `n` steps: the crossing is among them and kept, or the sum is still below. -/
def Fnd (C : ℕ → ℕ) (K n : ℕ) (g c f : BitVec 32) : Prop :=
  (f = 1#32 ∧ Cross C K n g c) ∨ (f = 0#32 ∧ C n < K)

/-- Whether this step is the first at or above the threshold. -/
def fcross (f c' k : BitVec 32) : BitVec 32 :=
  Scalar.muli (Scalar.subi 1#32 f) (Scalar.select (Scalar.cmpi .sge c' k) 1#32 0#32)

theorem sge_ofNat {a : ℕ} {k : BitVec 32} (ha : a < 2 ^ 31) (hk : k.toNat < 2 ^ 31) :
    Scalar.cmpi .sge (BitVec.ofNat 32 a) k = if k.toNat ≤ a then 1#1 else 0#1 := by
  show BitVec.ofBool (k.sle (BitVec.ofNat 32 a)) = _
  have e : k.sle (BitVec.ofNat 32 a) = decide (k.toNat ≤ a) := by
    have h1 : (BitVec.ofNat 32 a).toNat = a := by rw [BitVec.toNat_ofNat]; omega
    rw [BitVec.sle_eq_decide]
    rw [BitVec.toInt_eq_toNat_of_lt (by omega), BitVec.toInt_eq_toNat_of_lt (by omega), h1]
    simp
  rw [e]
  by_cases h : k.toNat ≤ a <;> simp [h]

theorem Fnd_zero {C : ℕ → ℕ} {K : ℕ} (g c : BitVec 32) (h : C 0 < K) : Fnd C K 0 g c 0#32 := Or.inr ⟨rfl, h⟩

theorem Fnd_step {C : ℕ → ℕ} {K n : ℕ} {g c f k : BitVec 32} (hb : C (n + 1) < 2 ^ 31)
    (hk : k.toNat = K) (hk' : K < 2 ^ 31) (h : Fnd C K n g c f) :
    Fnd C K (n + 1)
      (Scalar.select (Scalar.cmpi .eq (fcross f (BitVec.ofNat 32 (C (n + 1))) k) 1#32) (BitVec.ofNat 32 n) g)
      (Scalar.select (Scalar.cmpi .eq (fcross f (BitVec.ofNat 32 (C (n + 1))) k) 1#32) (BitVec.ofNat 32 (C n)) c)
      (Scalar.ori f (fcross f (BitVec.ofNat 32 (C (n + 1))) k)) := by
  unfold fcross
  rw [sge_ofNat hb (by omega), hk]
  rcases h with ⟨rfl, m, hm, hg, hc, h1, h2⟩ | ⟨rfl, h1⟩
  · have e : Scalar.muli (Scalar.subi 1#32 1#32) (Scalar.select (if K ≤ C (n + 1) then 1#1 else 0#1) 1#32 0#32) = 0#32 := by
      split <;> rfl
    rw [e]
    exact Or.inl ⟨rfl, m, by omega, hg, hc, h1, h2⟩
  · by_cases h2 : K ≤ C (n + 1)
    · rw [if_pos h2]
      exact Or.inl ⟨rfl, n, by omega, rfl, rfl, h1, h2⟩
    · rw [if_neg h2]
      exact Or.inr ⟨rfl, by omega⟩

theorem Fnd_end {C : ℕ → ℕ} {K N : ℕ} {g c f : BitVec 32} (h : Fnd C K N g c f) (hK : K ≤ C N) : Cross C K N g c := by
  rcases h with ⟨-, h⟩ | ⟨-, h⟩
  · exact h
  · omega

/-- A histogram of words that count. -/
def histN (Hn : ℕ → ℕ → ℕ) : S2048x16.Idx → BitVec 32 := fun j => BitVec.ofNat 32 (Hn (j 0).val (j 1).val)

/-- The sum over the sixteen lanes of a vector of counts. -/
theorem scan_sum {v : IVec S16 32} {n : ℕ → ℕ} (hv : ∀ x, v x = BitVec.ofNat 32 (n (x 0).val)) :
    extractAt ![15] (scan .sum v) inpos_S16_p15 = BitVec.ofNat 32 (∑ l ∈ Finset.range 16, n l) := by
  have h1 : extractAt ![15] (scan .sum v) inpos_S16_p15
      = [1, 2, 3, 4, 5, 6, 7, 8, 9, 10, 11, 12, 13, 14, 15].foldl (fun (r : BitVec 32) (k : Fin 16) => r + v (Shape.ofLane (d := ![16]) k))
        (v (Shape.ofLane (d := ![16]) (0 : Fin 16))) := rfl
  rw [h1]
  simp only [List.foldl_cons, List.foldl_nil, hv, Finset.sum_range_succ, Finset.sum_range_zero, BitVec.ofNat_add, Nat.zero_add]
  rfl

/-- A row load read as a vector of lanes. -/
theorem row_cast {α : Type} (ld : S1x16.Idx → α) (x : S16.Idx) :
    shapeCast S16 ld shapeCasts_S1x16_S16 x = ld (fun | 0 => (0 : Fin 1) | 1 => (x 0 : Fin 16)) := by
  unfold shapeCast
  congr 1
  have : x = Shape.ofLane (d := ![16]) (x 0) := S16_idx_ext rfl
  rw [this]
  generalize (x 0 : Fin 16) = k
  revert k
  decide

end Cert.Proof
-- ==== Proof.Zero.lean ====
/-
  The loops that clear a histogram, eight rows a trip.
-/
module

public import proofs.«01_k».proof.Proof.Cross

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

section
variable (d : Dev nD) (i : grid0.Coords)

/-- A histogram whose rows below `r` are cleared. -/
def zeroTo (m : Memref sig .scVector .vmem S2048x16 .i32) (r : ℕ) : sProp 𝕄 :=
  iprop(∃ H : S2048x16.Idx → BitVec 32, ⌜∀ j, (j 0).val < r → H j = 0#32⌝ ∗ owns d i m H)

omit [FloatOps F] in
theorem zeroTo_intro (m : Memref sig .scVector .vmem S2048x16 .i32) (H : S2048x16.Idx → BitVec 32) : (owns d i m H : sProp 𝕄) ⊢ zeroTo d i m 0 := by
  unfold zeroTo
  iintro Ho
  iexists H
  isplitr
  · ipureintro; exact fun j hj => absurd hj (Nat.not_lt_zero _)
  · iexact Ho

omit [FloatOps F] in
theorem zeroTo_all (m : Memref sig .scVector .vmem S2048x16 .i32) : (zeroTo d i m 2048 : sProp 𝕄) ⊢ owns d i m (fun _ => 0#32) := by
  unfold zeroTo
  iintro ⟨%H, %hH, Ho⟩
  iapply (owns_congr d i (H := H) (funext fun j => hH j (j 0).isLt)) $$ Ho

/-- A row's clearing: its load, whose value is not used, and the store of zeros. -/
theorem own_zero {m : Memref sig .scVector .vmem S2048x16 .i32} {r : ℕ} {off : Fin 2 → ℕ} {inb : ∀ a, off a + S1x16.size a ≤ S2048x16.size a}
    {hl : m.view.LoadsAt (Rect.unit (s := S2048x16) off S1x16.size inb).toLoadRect} {w : S1x16.Idx → BitVec 32}
    {hx : (m.access (Rect.unit (s := S2048x16) off S1x16.size inb)).Stores Finset.univ}
    {hm : (Finset.univ : Finset S1x16.Idx) = Finset.univ ∨ ∀ a, (Rect.unit (s := S2048x16) off S1x16.size inb).stride a = 1} {α : Type}
    {k : PUnit → TProg F i α} {Q : α → sProp 𝕄} (h0 : off 0 = r) (h1 : off 1 = 0) (hw : ∀ x, w x = 0#32) :
    (zeroTo d i m r : sProp 𝕄)
      ⊢ iprop((zeroTo d i m (r + 1) -∗ twp d i (k ⟨⟩) Q)
        -∗ twp d i (.op (.load m (Rect.unit (s := S2048x16) off S1x16.size inb).toLoadRect hl) fun _ =>
            .op (.store m (Rect.unit (s := S2048x16) off S1x16.size inb) w Finset.univ hx hm) k) Q) := by
  have e0 : ∀ x : S1x16.Idx, ((Rect.unit (s := S2048x16) off S1x16.size inb).emb x 0).val = r := by
    intro x
    have : ((Rect.unit (s := S2048x16) off S1x16.size inb).emb x 0).val = off 0 + 1 * (x 0).val := Rect.emb_apply _ _ _
    have hx0 : (x 0).val < 1 := (x 0).isLt
    omega
  unfold zeroTo
  iintro ⟨%H, %hH, Ho⟩ Hk
  iapply (own_load d i) $$ Ho
  iintro Ho
  iapply (own_store d i (fun j => if (j 0).val = r then 0#32 else H j) ?a ?b) $$ Ho
  case a =>
    intro x
    have := e0 x
    simp only [this, if_true]
    exact (hw x).symm
  case b =>
    intro y hy
    refine if_neg fun hr => hy (fun | 0 => (0 : Fin 1) | 1 => (y 1 : Fin 16)) ?_
    refine S2048_idx_ext ?_ ?_
    · rw [e0, hr]
    · have : ((Rect.unit (s := S2048x16) off S1x16.size inb).emb (fun | 0 => (0 : Fin 1) | 1 => (y 1 : Fin 16)) 1).val = off 1 + 1 * (y 1).val :=
        Rect.emb_apply _ _ _
      rw [this, h1]; omega
  iintro Ho
  iapply Hk
  iexists (fun j => if (j 0).val = r then 0#32 else H j)
  isplitr
  · ipureintro
    intro j hj
    show (if (j 0).val = r then 0#32 else H j) = 0#32
    by_cases hr : (j 0).val = r
    · exact if_pos hr
    · exact (if_neg hr).trans (hH j (by omega))
  · iexact Ho

end

theorem off1 (t : Fin k0_t1_loop.trips) (u : Fin 8) : k0_off1 t (BitVec.ofNat 32 u.val) 0 = 8 * t.val + u.val := by
  have ht : t.val < 256 := t.isLt
  have hu := u.isLt
  simp only [k0_off1, Scf.iv, Scalar.muli, Scalar.addi]
  simp [IntOp.addi, IntOp.muli, Scalar.indexCast]
  omega

/-- One trip of a clearing loop. -/
theorem t1_step (d : Dev nD) (i : grid0.Coords) (arg2 harg2 arg3 harg3 arg4 harg4 arg5 harg5 arg6 harg6 arg7 harg7 arg8 harg8 arg9 harg9 arg10 arg11 r)
    (t : Fin k0_t1_loop.trips) (u : Unit) :
    (zeroTo d i arg6 (8 * t.val) : sProp 𝕄)
      ⊢ twp d i (k0_t1_body (F := F) i arg2 harg2 arg3 harg3 arg4 harg4 arg5 harg5 arg6 harg6 arg7 harg7 arg8 harg8 arg9 harg9 arg10 arg11 r t u)
        fun _ => zeroTo d i arg6 (8 * (t.val + 1)) := by
  unfold k0_t1_body
  rw [k0_part1_eq_skeleton]
  unfold k0_part1_skel
  simp only [Prog.lift, Prog.bind_op, Prog.bind_ret, Prog.pure_eq_ret]
  iintro Hz
  iapply (own_zero d i (r := 8 * t.val + 0) (off1 t 0) rfl (fun _ => rfl)) $$ Hz
  iintro Hz
  iapply (own_zero d i (r := 8 * t.val + 1) (off1 t 1) rfl (fun _ => rfl)) $$ Hz
  iintro Hz
  iapply (own_zero d i (r := 8 * t.val + 2) (off1 t 2) rfl (fun _ => rfl)) $$ Hz
  iintro Hz
  iapply (own_zero d i (r := 8 * t.val + 3) (off1 t 3) rfl (fun _ => rfl)) $$ Hz
  iintro Hz
  iapply (own_zero d i (r := 8 * t.val + 4) (off1 t 4) rfl (fun _ => rfl)) $$ Hz
  iintro Hz
  iapply (own_zero d i (r := 8 * t.val + 5) (off1 t 5) rfl (fun _ => rfl)) $$ Hz
  iintro Hz
  iapply (own_zero d i (r := 8 * t.val + 6) (off1 t 6) rfl (fun _ => rfl)) $$ Hz
  iintro Hz
  iapply (own_zero d i (r := 8 * t.val + 7) (off1 t 7) rfl (fun _ => rfl)) $$ Hz
  iintro Hz
  iapply (own_ret d i)
  iexact Hz

/-- One trip of a clearing loop. -/
theorem t2_step (d : Dev nD) (i : grid0.Coords) (arg2 harg2 arg3 harg3 arg4 harg4 arg5 harg5 arg6 harg6 arg7 harg7 arg8 harg8 arg9 harg9 arg10 arg11 r)
    (t : Fin k0_t2_loop.trips) (u : Unit) :
    (zeroTo d i arg7 (8 * t.val) : sProp 𝕄)
      ⊢ twp d i (k0_t2_body (F := F) i arg2 harg2 arg3 harg3 arg4 harg4 arg5 harg5 arg6 harg6 arg7 harg7 arg8 harg8 arg9 harg9 arg10 arg11 r t u)
        fun _ => zeroTo d i arg7 (8 * (t.val + 1)) := by
  unfold k0_t2_body
  rw [k0_part2_eq_skeleton]
  unfold k0_part2_skel
  simp only [Prog.lift, Prog.bind_op, Prog.bind_ret, Prog.pure_eq_ret]
  iintro Hz
  iapply (own_zero d i (r := 8 * t.val + 0) (off1 t 0) rfl (fun _ => rfl)) $$ Hz
  iintro Hz
  iapply (own_zero d i (r := 8 * t.val + 1) (off1 t 1) rfl (fun _ => rfl)) $$ Hz
  iintro Hz
  iapply (own_zero d i (r := 8 * t.val + 2) (off1 t 2) rfl (fun _ => rfl)) $$ Hz
  iintro Hz
  iapply (own_zero d i (r := 8 * t.val + 3) (off1 t 3) rfl (fun _ => rfl)) $$ Hz
  iintro Hz
  iapply (own_zero d i (r := 8 * t.val + 4) (off1 t 4) rfl (fun _ => rfl)) $$ Hz
  iintro Hz
  iapply (own_zero d i (r := 8 * t.val + 5) (off1 t 5) rfl (fun _ => rfl)) $$ Hz
  iintro Hz
  iapply (own_zero d i (r := 8 * t.val + 6) (off1 t 6) rfl (fun _ => rfl)) $$ Hz
  iintro Hz
  iapply (own_zero d i (r := 8 * t.val + 7) (off1 t 7) rfl (fun _ => rfl)) $$ Hz
  iintro Hz
  iapply (own_ret d i)
  iexact Hz

/-- One trip of a clearing loop. -/
theorem t3_step (d : Dev nD) (i : grid0.Coords) (arg2 harg2 arg3 harg3 arg4 harg4 arg5 harg5 arg6 harg6 arg7 harg7 arg8 harg8 arg9 harg9 arg10 arg11 r)
    (t : Fin k0_t3_loop.trips) (u : Unit) :
    (zeroTo d i arg8 (8 * t.val) : sProp 𝕄)
      ⊢ twp d i (k0_t3_body (F := F) i arg2 harg2 arg3 harg3 arg4 harg4 arg5 harg5 arg6 harg6 arg7 harg7 arg8 harg8 arg9 harg9 arg10 arg11 r t u)
        fun _ => zeroTo d i arg8 (8 * (t.val + 1)) := by
  unfold k0_t3_body
  rw [k0_part3_eq_skeleton]
  unfold k0_part3_skel
  simp only [Prog.lift, Prog.bind_op, Prog.bind_ret, Prog.pure_eq_ret]
  iintro Hz
  iapply (own_zero d i (r := 8 * t.val + 0) (off1 t 0) rfl (fun _ => rfl)) $$ Hz
  iintro Hz
  iapply (own_zero d i (r := 8 * t.val + 1) (off1 t 1) rfl (fun _ => rfl)) $$ Hz
  iintro Hz
  iapply (own_zero d i (r := 8 * t.val + 2) (off1 t 2) rfl (fun _ => rfl)) $$ Hz
  iintro Hz
  iapply (own_zero d i (r := 8 * t.val + 3) (off1 t 3) rfl (fun _ => rfl)) $$ Hz
  iintro Hz
  iapply (own_zero d i (r := 8 * t.val + 4) (off1 t 4) rfl (fun _ => rfl)) $$ Hz
  iintro Hz
  iapply (own_zero d i (r := 8 * t.val + 5) (off1 t 5) rfl (fun _ => rfl)) $$ Hz
  iintro Hz
  iapply (own_zero d i (r := 8 * t.val + 6) (off1 t 6) rfl (fun _ => rfl)) $$ Hz
  iintro Hz
  iapply (own_zero d i (r := 8 * t.val + 7) (off1 t 7) rfl (fun _ => rfl)) $$ Hz
  iintro Hz
  iapply (own_ret d i)
  iexact Hz

/-- One trip of a clearing loop. -/
theorem t11_step (d : Dev nD) (i : grid0.Coords) (arg2 harg2 arg3 harg3 arg4 harg4 arg5 harg5 arg6 harg6 arg7 harg7 arg8 harg8 arg9 harg9 arg10 arg11 r v13_1 v13_2 v13_4 v13_5 hw34 hw33)
    (t : Fin k0_t11_loop.trips) (u : Unit) :
    (zeroTo d i arg6 (8 * t.val) : sProp 𝕄)
      ⊢ twp d i (k0_t11_body (F := F) i arg2 harg2 arg3 harg3 arg4 harg4 arg5 harg5 arg6 harg6 arg7 harg7 arg8 harg8 arg9 harg9 arg10 arg11 r v13_1 v13_2 v13_4 v13_5 hw34 hw33 t u)
        fun _ => zeroTo d i arg6 (8 * (t.val + 1)) := by
  unfold k0_t11_body
  rw [k0_part8_eq_skeleton]
  unfold k0_part8_skel
  simp only [Prog.lift, Prog.bind_op, Prog.bind_ret, Prog.pure_eq_ret]
  iintro Hz
  iapply (own_zero d i (r := 8 * t.val + 0) (off1 t 0) rfl (fun _ => rfl)) $$ Hz
  iintro Hz
  iapply (own_zero d i (r := 8 * t.val + 1) (off1 t 1) rfl (fun _ => rfl)) $$ Hz
  iintro Hz
  iapply (own_zero d i (r := 8 * t.val + 2) (off1 t 2) rfl (fun _ => rfl)) $$ Hz
  iintro Hz
  iapply (own_zero d i (r := 8 * t.val + 3) (off1 t 3) rfl (fun _ => rfl)) $$ Hz
  iintro Hz
  iapply (own_zero d i (r := 8 * t.val + 4) (off1 t 4) rfl (fun _ => rfl)) $$ Hz
  iintro Hz
  iapply (own_zero d i (r := 8 * t.val + 5) (off1 t 5) rfl (fun _ => rfl)) $$ Hz
  iintro Hz
  iapply (own_zero d i (r := 8 * t.val + 6) (off1 t 6) rfl (fun _ => rfl)) $$ Hz
  iintro Hz
  iapply (own_zero d i (r := 8 * t.val + 7) (off1 t 7) rfl (fun _ => rfl)) $$ Hz
  iintro Hz
  iapply (own_ret d i)
  iexact Hz

end Cert.Proof
-- ==== Proof.Scan.lean ====
/-
  The scans of a histogram: the loop over groups of sixteen logical rows with its two crossing finders, the loop that
  sums a group, and the drill into a crossing's group. Each is stated for any family of row offsets, so every scan of
  the kernel is an instance.
-/
module

public import proofs.«01_k».proof.Proof.Cross

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

abbrev W7 : Type := BitVec 32 × BitVec 32 × BitVec 32 × BitVec 32 × BitVec 32 × BitVec 32 × BitVec 32
abbrev W4 : Type := BitVec 32 × BitVec 32 × BitVec 32 × BitVec 32

section Progs
variable (F) (i : grid0.Coords) (m : Memref sig .scVector .vmem S2048x16 .i32)

/-- One trip of the loop that sums a group's rows. -/
def sumBody (off : Fin k0_t8_loop.trips → Fin 2 → ℕ) (inb : ∀ t a, off t a + S1x16.size a ≤ S2048x16.size a) :
    Fin k0_t8_loop.trips → IVec S16 32 → TProg F i (IVec S16 32) := fun t acc =>
  .op (.load m (Rect.unit (s := S2048x16) (off t) S1x16.size (inb t)).toLoadRect (View.loadsAt_vmem h_S1x16)) fun ld =>
    .ret (k0_pay166 (F := F) acc ld)

/-- The carried values of a group scan after a group whose sum is `s`. -/
def groupStep (k1 k2 g s : BitVec 32) : W7 → W7 := fun (c, ga, ca, fa, gb, cb, fb) =>
  (Scalar.addi c s,
    Scalar.select (Scalar.cmpi .eq (fcross fa (Scalar.addi c s) k1) 1#32) g ga,
    Scalar.select (Scalar.cmpi .eq (fcross fa (Scalar.addi c s) k1) 1#32) c ca,
    Scalar.ori fa (fcross fa (Scalar.addi c s) k1),
    Scalar.select (Scalar.cmpi .eq (fcross fb (Scalar.addi c s) k2) 1#32) g gb,
    Scalar.select (Scalar.cmpi .eq (fcross fb (Scalar.addi c s) k2) 1#32) c cb,
    Scalar.ori fb (fcross fb (Scalar.addi c s) k2))

/-- One trip of the loop over groups. -/
def groupBody {lp : Scf.Loop 32} (off : Fin lp.trips → Fin k0_t8_loop.trips → Fin 2 → ℕ)
    (inb : ∀ g t a, off g t a + S1x16.size a ≤ S2048x16.size a) (k1 k2 : BitVec 32) :
    Fin lp.trips → W7 → TProg F i W7 := fun g a =>
  Scf.Loop.for k0_t8_loop k0_t8_ok k0_pay165 (sumBody F i m (off g) (inb g)) >>= fun v =>
    .ret (groupStep k1 k2 (Scf.iv 0#32 1#32 g) (extractAt ![15] (k0_pay167 v) inpos_S16_p15) a)

/-- The carried values of a drill after a row whose sum is `s`. -/
def drillStep (k b s : BitVec 32) : W4 → W4 := fun (c, g, cb, f) =>
  (Scalar.addi c s,
    Scalar.select (Scalar.cmpi .eq (fcross f (Scalar.addi c s) k) 1#32) b g,
    Scalar.select (Scalar.cmpi .eq (fcross f (Scalar.addi c s) k) 1#32) c cb,
    Scalar.ori f (fcross f (Scalar.addi c s) k))

/-- One trip of a drill. -/
def drillBody (off : Fin k0_t9_loop.trips → Fin 2 → ℕ) (inb : ∀ t a, off t a + S1x16.size a ≤ S2048x16.size a) (k : BitVec 32) :
    Fin k0_t9_loop.trips → W4 → TProg F i W4 := fun t a =>
  .op (.load m (Rect.unit (s := S2048x16) (off t) S1x16.size (inb t)).toLoadRect (View.loadsAt_vmem h_S1x16)) fun ld =>
    .ret (drillStep k (Scf.iv 0#32 1#32 t) (extractAt ![15] (k0_pay168 (F := F) ld) inpos_S16_p15) a)

end Progs

theorem iv_ofNat (n : ℕ) : Scf.iv (0#32) 1#32 n = BitVec.ofNat 32 n := by
  simp [Scf.iv]

/-- A group step keeps both finders. -/
theorem groupStep_fnd {C : ℕ → ℕ} {K1 K2 n : ℕ} {k1 k2 c ga ca fa gb cb fb s : BitVec 32} (hb : C (n + 1) < 2 ^ 31)
    (hk1 : k1.toNat = K1) (hk2 : k2.toNat = K2) (hK1 : K1 < 2 ^ 31) (hK2 : K2 < 2 ^ 31)
    (hc : c = BitVec.ofNat 32 (C n)) (hs : Scalar.addi c s = BitVec.ofNat 32 (C (n + 1))) (ha : Fnd C K1 n ga ca fa) (hb' : Fnd C K2 n gb cb fb)
    (a : W7) (hae : a = groupStep k1 k2 (Scf.iv 0#32 1#32 n) s (c, ga, ca, fa, gb, cb, fb)) :
    a.1 = BitVec.ofNat 32 (C (n + 1)) ∧ Fnd C K1 (n + 1) a.2.1 a.2.2.1 a.2.2.2.1 ∧ Fnd C K2 (n + 1) a.2.2.2.2.1 a.2.2.2.2.2.1 a.2.2.2.2.2.2 := by
  subst hae
  rw [iv_ofNat]
  simp only [groupStep, hs]
  subst hc
  exact ⟨trivial, Fnd_step hb hk1 hK1 ha, Fnd_step hb hk2 hK2 hb'⟩

/-- A drill step keeps its finder. -/
theorem drillStep_fnd {C : ℕ → ℕ} {K n : ℕ} {k c g cb f s : BitVec 32} (hb : C (n + 1) < 2 ^ 31)
    (hk : k.toNat = K) (hK : K < 2 ^ 31)
    (hc : c = BitVec.ofNat 32 (C n)) (hs : Scalar.addi c s = BitVec.ofNat 32 (C (n + 1))) (ha : Fnd C K n g cb f)
    (a : W4) (hae : a = drillStep k (Scf.iv 0#32 1#32 n) s (c, g, cb, f)) :
    a.1 = BitVec.ofNat 32 (C (n + 1)) ∧ Fnd C K (n + 1) a.2.1 a.2.2.1 a.2.2.2 := by
  subst hae
  rw [iv_ofNat]
  simp only [drillStep, hs]
  subst hc
  exact ⟨trivial, Fnd_step hb hk hK ha⟩

section Specs
variable (d : Dev nD) (i : grid0.Coords) {m : Memref sig .scVector .vmem S2048x16 .i32} {Hn : ℕ → ℕ → ℕ} {ρ : ℕ → ℕ}

/-- A row load from a histogram, cast to a vector of lanes: the row's counts. -/
theorem load_row {off : Fin 2 → ℕ} {inb : ∀ a, off a + S1x16.size a ≤ S2048x16.size a} (x : S16.Idx) {r : ℕ} (h0 : off 0 = r) (h1 : off 1 = 0) :
    shapeCast S16 (fun y => histN Hn ((Rect.unit (s := S2048x16) off S1x16.size inb).toLoadRect.idx y) : S1x16.Idx → BitVec 32) shapeCasts_S1x16_S16 x
      = BitVec.ofNat 32 (Hn r (x 0).val) := by
  rw [row_cast]
  unfold histN
  refine congrArg (BitVec.ofNat 32) (congrArg₂ Hn ?_ ?_)
  · rw [LoadRect.idx_apply]
    show off 0 + 1 * 0 = r
    omega
  · rw [LoadRect.idx_apply]
    show off 1 + 1 * (x 0).val = (x 0).val
    omega

theorem addi_ofNat (a b : ℕ) : Scalar.addi (BitVec.ofNat 32 a) (BitVec.ofNat 32 b) = BitVec.ofNat 32 (a + b) :=
  (BitVec.ofNat_add a b).symm

/-- The sum of a group's sixteen rows, lane by lane. -/
theorem sum_loop {off : Fin k0_t8_loop.trips → Fin 2 → ℕ} {inb : ∀ t a, off t a + S1x16.size a ≤ S2048x16.size a} {base : ℕ}
    (h0 : ∀ t, off t 0 = ρ (base + t.val)) (h1 : ∀ t, off t 1 = 0) {β : Type} {kk : IVec S16 32 → TProg F i β} {Q : β → sProp 𝕄} :
    (owns d i m (histN Hn) : sProp 𝕄)
      ⊢ iprop((∀ v : IVec S16 32, ⌜∀ x, v x = BitVec.ofNat 32 (∑ u ∈ Finset.range 16, Hn (ρ (base + u)) (x 0).val)⌝ -∗ owns d i m (histN Hn)
          -∗ twp d i (kk v) Q)
        -∗ twp d i (Scf.Loop.for k0_t8_loop k0_t8_ok k0_pay165 (sumBody F i m off inb) >>= kk) Q) := by
  iintro Ho Hk
  iapply (own_for d i (fun n v => iprop(⌜∀ x, v x = BitVec.ofNat 32 (∑ u ∈ Finset.range n, Hn (ρ (base + u)) (x 0).val)⌝ ∗ owns d i m (histN Hn)))
    ?step) $$ [Ho]
  case step =>
    intro t acc
    iintro ⟨%hacc, Ho⟩
    unfold sumBody
    iapply (own_load d i) $$ Ho
    iintro Ho
    iapply (own_ret d i)
    isplitr
    · ipureintro
      intro x
      show (acc x : BitVec 32) + shapeCast S16 _ shapeCasts_S1x16_S16 x = _
      rw [hacc x, Finset.sum_range_succ, BitVec.ofNat_add]
      exact congrArg (fun z : BitVec 32 => _ + z) (load_row x (h0 t) (h1 t))
    · iexact Ho
  · isplitr
    · ipureintro
      intro x
      simp [k0_pay165]
      rfl
    · iexact Ho
  · iintro %acc ⟨%hacc, Ho⟩
    iapply Hk $$ %acc %hacc Ho

/-- The sum of a logical row. -/
def rowSum (Hn : ℕ → ℕ → ℕ) (ρ : ℕ → ℕ) (l : ℕ) : ℕ := ∑ x ∈ Finset.range 16, Hn (ρ l) x

theorem group_sum (Hn : ℕ → ℕ → ℕ) (ρ : ℕ → ℕ) (g : ℕ) :
    cum (rowSum Hn ρ) (16 * (g + 1)) = cum (rowSum Hn ρ) (16 * g) + ∑ x ∈ Finset.range 16, ∑ u ∈ Finset.range 16, Hn (ρ (16 * g + u)) x := by
  rw [show 16 * (g + 1) = 16 * g + 16 by ring, cum_add, Finset.sum_comm]
  rfl

/-- The group scan finds the group in which the running sum crosses either threshold. -/
theorem group_scan {lp : Scf.Loop 32} {ok : lp.OK} {off : Fin lp.trips → Fin k0_t8_loop.trips → Fin 2 → ℕ}
    {inb : ∀ g t a, off g t a + S1x16.size a ≤ S2048x16.size a} {k1 k2 : BitVec 32} {K1 K2 : ℕ}
    (h0 : ∀ g t, off g t 0 = ρ (16 * g.val + t.val)) (h1 : ∀ g t, off g t 1 = 0)
    (hk1 : k1.toNat = K1) (hk2 : k2.toNat = K2) (hb : cum (rowSum Hn ρ) (16 * lp.trips) < 2 ^ 31)
    (h01 : 0 < K1) (h02 : 0 < K2) (hK1 : K1 ≤ cum (rowSum Hn ρ) (16 * lp.trips)) (hK2 : K2 ≤ cum (rowSum Hn ρ) (16 * lp.trips))
    {β : Type} {kk : W7 → TProg F i β} {Q : β → sProp 𝕄} :
    (owns d i m (histN Hn) : sProp 𝕄)
      ⊢ iprop((∀ a : W7, ⌜Cross (fun g => cum (rowSum Hn ρ) (16 * g)) K1 lp.trips a.2.1 a.2.2.1
            ∧ Cross (fun g => cum (rowSum Hn ρ) (16 * g)) K2 lp.trips a.2.2.2.2.1 a.2.2.2.2.2.1⌝ -∗ owns d i m (histN Hn) -∗ twp d i (kk a) Q)
        -∗ twp d i (Scf.Loop.for lp ok (0#32, 0#32, 0#32, 0#32, 0#32, 0#32, 0#32) (groupBody F i m off inb k1 k2) >>= kk) Q) := by
  have hmono : ∀ n, n ≤ lp.trips → cum (rowSum Hn ρ) (16 * n) < 2 ^ 31 := fun n hn => lt_of_le_of_lt (cum_mono _ (by omega)) hb
  iintro Ho Hk
  iapply (own_for d i (fun n (a : W7) => iprop(⌜a.1 = BitVec.ofNat 32 (cum (rowSum Hn ρ) (16 * n))
      ∧ Fnd (fun g => cum (rowSum Hn ρ) (16 * g)) K1 n a.2.1 a.2.2.1 a.2.2.2.1
      ∧ Fnd (fun g => cum (rowSum Hn ρ) (16 * g)) K2 n a.2.2.2.2.1 a.2.2.2.2.2.1 a.2.2.2.2.2.2⌝ ∗ owns d i m (histN Hn))) ?step) $$ [Ho]
  case step =>
    rintro t ⟨c, ga, ca, fa, gb, cb, fb⟩
    iintro ⟨%hacc, Ho⟩
    obtain ⟨hc, ha, hb'⟩ := hacc
    dsimp only at hc ha hb'
    unfold groupBody
    iapply (sum_loop d i (base := 16 * t.val) (h0 t) (h1 t)) $$ Ho
    iintro %v %hv Ho
    iapply (own_ret d i)
    isplitr
    · ipureintro
      have e1 : extractAt ![15] (k0_pay167 v) inpos_S16_p15 = BitVec.ofNat 32 (∑ x ∈ Finset.range 16, ∑ u ∈ Finset.range 16, Hn (ρ (16 * t.val + u)) x) :=
        scan_sum hv
      exact groupStep_fnd (C := fun g => cum (rowSum Hn ρ) (16 * g)) (hmono (t.val + 1) t.isLt) hk1 hk2 (lt_of_le_of_lt hK1 hb)
        (lt_of_le_of_lt hK2 hb) hc (by rw [e1, hc, addi_ofNat, group_sum]) ha hb' _ rfl
    · iexact Ho
  · isplitr
    · ipureintro
      exact ⟨rfl, Fnd_zero _ _ h01, Fnd_zero _ _ h02⟩
    · iexact Ho
  · iintro %acc ⟨%hacc, Ho⟩
    iapply Hk $$ %acc %(⟨Fnd_end hacc.2.1 hK1, Fnd_end hacc.2.2 hK2⟩) Ho

/-- A drill finds the row of its group in which the running sum crosses the threshold. -/
theorem drill_scan {off : Fin k0_t9_loop.trips → Fin 2 → ℕ} {inb : ∀ t a, off t a + S1x16.size a ≤ S2048x16.size a} {k c0 : BitVec 32} {K g : ℕ}
    (h0 : ∀ t, off t 0 = ρ (16 * g + t.val)) (h1 : ∀ t, off t 1 = 0) (hk : k.toNat = K) (hc0 : c0 = BitVec.ofNat 32 (cum (rowSum Hn ρ) (16 * g)))
    (hb : cum (rowSum Hn ρ) (16 * (g + 1)) < 2 ^ 31)
    (hlt : cum (rowSum Hn ρ) (16 * g) < K) (hK : K ≤ cum (rowSum Hn ρ) (16 * (g + 1)))
    {β : Type} {kk : W4 → TProg F i β} {Q : β → sProp 𝕄} :
    (owns d i m (histN Hn) : sProp 𝕄)
      ⊢ iprop((∀ a : W4, ⌜Cross (fun j => cum (rowSum Hn ρ) (16 * g + j)) K 16 a.2.1 a.2.2.1⌝ -∗ owns d i m (histN Hn) -∗ twp d i (kk a) Q)
        -∗ twp d i (Scf.Loop.for k0_t9_loop k0_t9_ok (c0, 0#32, c0, 0#32) (drillBody F i m off inb k) >>= kk) Q) := by
  have htr : k0_t9_loop.trips = 16 := rfl
  have hmono : ∀ n, n ≤ 16 → cum (rowSum Hn ρ) (16 * g + n) < 2 ^ 31 := fun n hn => lt_of_le_of_lt (cum_mono _ (by omega)) hb
  iintro Ho Hk
  iapply (own_for d i (fun n (a : W4) => iprop(⌜a.1 = BitVec.ofNat 32 (cum (rowSum Hn ρ) (16 * g + n))
      ∧ Fnd (fun j => cum (rowSum Hn ρ) (16 * g + j)) K n a.2.1 a.2.2.1 a.2.2.2⌝ ∗ owns d i m (histN Hn))) ?step) $$ [Ho]
  case step =>
    rintro t ⟨c, ga, ca, fa⟩
    iintro ⟨%hacc, Ho⟩
    obtain ⟨hc, ha⟩ := hacc
    dsimp only at hc ha
    unfold drillBody
    iapply (own_load d i) $$ Ho
    iintro Ho
    iapply (own_ret d i)
    isplitr
    · ipureintro
      have e1 : extractAt ![15] (k0_pay168 (F := F) (fun x => histN Hn ((Rect.unit (s := S2048x16) (off t) S1x16.size (inb t)).toLoadRect.idx x))) inpos_S16_p15
          = BitVec.ofNat 32 (∑ x ∈ Finset.range 16, Hn (ρ (16 * g + t.val)) x) :=
        scan_sum (fun x => load_row x (h0 t) (h1 t))
      exact drillStep_fnd (C := fun j => cum (rowSum Hn ρ) (16 * g + j)) (hmono (t.val + 1) t.isLt) hk (lt_of_le_of_lt hK hb)
        hc ((congrArg (Scalar.addi c) e1).trans (by rw [hc, addi_ofNat]; exact congrArg (BitVec.ofNat 32) (cum_succ _ _).symm)) ha _ rfl
    · iexact Ho
  · isplitr
    · ipureintro
      exact ⟨hc0, Fnd_zero _ _ hlt⟩
    · iexact Ho
  · iintro %acc ⟨%hacc, Ho⟩
    iapply Hk $$ %acc %(Fnd_end hacc.2 hK) Ho

end Specs

end Cert.Proof
-- ==== Proof.Rows.lean ====
/-
  The rows the scans read: the physical row of a logical one in each of the three passes, and every scan loop of the
  kernel as an instance of the general scan.
-/
module

public import proofs.«01_k».proof.Proof.Scan

@[expose] public section

noncomputable section

namespace Cert.Proof

open Cert.KernelIdeal Cert.KernelIdeal.Gen
open Idealize.ShloMosaic

variable {F : FTy → Type} [FloatOps F]

/-- The first pass reads the rows with the sign bit set from the last down, then the others upwards. -/
def ρ1 (l : ℕ) : ℕ := if l < 1024 then 2047 - l else l - 1024

/-- A later pass reads `n + 1` rows from `base` upwards, or downwards where `neg` is one. -/
def ρf (base n : ℕ) (neg : BitVec 32) (l : ℕ) : ℕ := base + if neg = 1#32 then n - l else l

/-- The logical row a group and a place in it name. -/
abbrev lw (g j : BitVec 32) : BitVec 32 := Scalar.addi (Scalar.muli g 16#32) j

abbrev row1W (l : BitVec 32) : BitVec 32 := Scalar.select (Scalar.cmpi .slt l 1024#32) (Scalar.subi 2047#32 l) (Scalar.subi l 1024#32)

abbrev flipW (n neg l : BitVec 32) : BitVec 32 := Scalar.select (Scalar.cmpi .eq neg 1#32) (Scalar.subi n l) l

/-- Whether a row of the first pass holds words with the sign bit set. -/
abbrev negW (b : BitVec 32) : BitVec 32 := Scalar.select (Scalar.cmpi .sge b 1024#32) 1#32 0#32

theorem lw_ofNat (g j : ℕ) : lw (BitVec.ofNat 32 g) (BitVec.ofNat 32 j) = BitVec.ofNat 32 (16 * g + j) := by
  apply BitVec.eq_of_toNat_eq
  simp [lw, Scalar.addi, Scalar.muli, IntOp.addi, IntOp.muli]
  omega

theorem lw_iv (g j : ℕ) : lw (Scf.iv 0#32 1#32 g) (Scf.iv 0#32 1#32 j) = BitVec.ofNat 32 (16 * g + j) := by
  rw [iv_ofNat, iv_ofNat, lw_ofNat]

theorem lw_iv' (g j : ℕ) : lw (BitVec.ofNat 32 g) (Scf.iv 0#32 1#32 j) = BitVec.ofNat 32 (16 * g + j) := by
  rw [iv_ofNat, lw_ofNat]

theorem slt_ofNat {a : ℕ} (ha : a < 2048) : Scalar.cmpi .slt (BitVec.ofNat 32 a) 1024#32 = if a < 1024 then 1#1 else 0#1 := by
  show BitVec.ofBool ((BitVec.ofNat 32 a).slt 1024#32) = _
  have e : (BitVec.ofNat 32 a).slt 1024#32 = decide (a < 1024) := by
    have h1 : (BitVec.ofNat 32 a).toNat = a := by rw [BitVec.toNat_ofNat]; omega
    rw [BitVec.slt_eq_decide, BitVec.toInt_eq_toNat_of_lt (by omega), h1]
    simp [BitVec.toInt]
  rw [e]
  by_cases h : a < 1024 <;> simp [h]

theorem row1W_ofNat {l : ℕ} (hl : l < 2048) : row1W (BitVec.ofNat 32 l) = BitVec.ofNat 32 (ρ1 l) := by
  unfold row1W ρ1
  rw [slt_ofNat hl]
  by_cases h : l < 1024
  · rw [if_pos h, if_pos h]
    apply BitVec.eq_of_toNat_eq
    simp [Scalar.select, Scalar.subi, IntOp.subi]
    omega
  · rw [if_neg h, if_neg h]
    apply BitVec.eq_of_toNat_eq
    simp [Scalar.select, Scalar.subi, IntOp.subi]
    omega

theorem eq_one (neg : BitVec 32) : Scalar.cmpi .eq neg 1#32 = if neg = 1#32 then 1#1 else 0#1 := by
  show BitVec.ofBool (neg == 1#32) = _
  by_cases h : neg = 1#32
  · simp [h]
  · rw [if_neg h, beq_eq_false_iff_ne.2 h]; rfl

theorem flipW_ofNat {n l : ℕ} (neg : BitVec 32) (hl : l ≤ n) (hn : n < 2048) :
    flipW (BitVec.ofNat 32 n) neg (BitVec.ofNat 32 l) = BitVec.ofNat 32 (ρf 0 n neg l) := by
  unfold flipW ρf
  rw [eq_one]
  by_cases h : neg = 1#32
  · rw [if_pos h, if_pos h]
    apply BitVec.eq_of_toNat_eq
    simp [Scalar.select, Scalar.subi, IntOp.subi]
    omega
  · rw [if_neg h, if_neg h]
    apply BitVec.eq_of_toNat_eq
    simp [Scalar.select]

theorem ρ1_lt {l : ℕ} (hl : l < 2048) : ρ1 l < 2048 := by
  unfold ρ1; split <;> omega

theorem ρf_lt {b n l : ℕ} (neg : BitVec 32) (hl : l ≤ n) : ρf b n neg l ≤ b + n := by
  unfold ρf; split <;> omega

theorem at_row1 {l : ℕ} (hl : l < 2048) {w : BitVec 32} (hw : w = BitVec.ofNat 32 l) :
    (Scalar.indexCast (Scalar.addi 0#32 (row1W w)) : BitVec 32).toNat = ρ1 l := by
  subst hw
  rw [row1W_ofNat hl]
  have := ρ1_lt hl
  simp [Scalar.addi, IntOp.addi, Scalar.indexCast]
  omega

theorem at_flip {b n l : ℕ} (neg : BitVec 32) (hl : l ≤ n) (hn : n < 2048) (hb : b < 2048) {w : BitVec 32} (hw : w = BitVec.ofNat 32 l) :
    (Scalar.indexCast (Scalar.addi (BitVec.ofNat 32 b) (flipW (BitVec.ofNat 32 n) neg w)) : BitVec 32).toNat = ρf b n neg l := by
  subst hw
  rw [flipW_ofNat neg hl hn]
  have h := ρf_lt (b := 0) neg hl
  have e : ρf b n neg l = b + ρf 0 n neg l := by unfold ρf; omega
  rw [e]
  simp [Scalar.addi, IntOp.addi, Scalar.indexCast]
  omega

theorem inb_of {off : Fin 2 → ℕ} {r : ℕ} (h0 : off 0 = r) (hr : r < 2048) (h1 : off 1 = 0) : ∀ a, off a + S1x16.size a ≤ S2048x16.size a := by
  intro a
  fin_cases a
  · show off 0 + 1 ≤ 2048
    omega
  · show off 1 + 16 ≤ 16
    omega

theorem off11_row (t : Fin k0_t7_loop.trips) (u : Fin k0_t8_loop.trips) : k0_off11 t u 0 = ρ1 (16 * t.val + u.val) := by
  have ht : t.val < 128 := t.isLt
  have hu : u.val < 16 := u.isLt
  exact at_row1 (by omega) (lw_iv t.val u.val)

theorem off12_row {g : ℕ} (hg : g < 128) (t : Fin k0_t9_loop.trips) : k0_off12 (BitVec.ofNat 32 g) t 0 = ρ1 (16 * g + t.val) := by
  have ht : t.val < 16 := t.isLt
  exact at_row1 (by omega) (lw_iv' g t.val)

theorem off13_row {g : ℕ} (hg : g < 128) (t : Fin k0_t10_loop.trips) : k0_off13 (BitVec.ofNat 32 g) t 0 = ρ1 (16 * g + t.val) := by
  have ht : t.val < 16 := t.isLt
  exact at_row1 (by omega) (lw_iv' g t.val)

theorem chk33_of {g : ℕ} (hg : g < 128) : k0_chk33 (BitVec.ofNat 32 g) := by
  intro t
  have ht : t.val < 16 := t.isLt
  exact inb_of (off12_row hg t) (ρ1_lt (by omega)) rfl

theorem chk34_of {g : ℕ} (hg : g < 128) : k0_chk34 (BitVec.ofNat 32 g) := by
  intro t
  have ht : t.val < 16 := t.isLt
  exact inb_of (off13_row hg t) (ρ1_lt (by omega)) rfl

theorem off21_row (p q : BitVec 32) (t : Fin k0_t15_loop.trips) (u : Fin k0_t16_loop.trips) :
    k0_off21 p q t u 0 = ρf 0 2047 (negW (row1W (lw p q))) (16 * t.val + u.val) := by
  have ht : t.val < 128 := t.isLt
  have hu : u.val < 16 := u.isLt
  exact at_flip (b := 0) (n := 2047) (l := 16 * t.val + u.val) (negW (row1W (lw p q))) (by omega) (by omega) (by omega) (lw_iv t.val u.val)

theorem off24_row (p q : BitVec 32) (t : Fin k0_t19_loop.trips) (u : Fin k0_t20_loop.trips) :
    k0_off24 p q t u 0 = ρf 0 2047 (negW (row1W (lw p q))) (16 * t.val + u.val) := by
  have ht : t.val < 128 := t.isLt
  have hu : u.val < 16 := u.isLt
  exact at_flip (b := 0) (n := 2047) (l := 16 * t.val + u.val) (negW (row1W (lw p q))) (by omega) (by omega) (by omega) (lw_iv t.val u.val)

theorem off33_row (p q : BitVec 32) (t : Fin k0_t26_loop.trips) (u : Fin k0_t27_loop.trips) :
    k0_off33 p q t u 0 = ρf 0 1023 (negW (row1W (lw p q))) (16 * t.val + u.val) := by
  have ht : t.val < 64 := t.isLt
  have hu : u.val < 16 := u.isLt
  exact at_flip (b := 0) (n := 1023) (l := 16 * t.val + u.val) (negW (row1W (lw p q))) (by omega) (by omega) (by omega) (lw_iv t.val u.val)

theorem off36_row (p q : BitVec 32) (t : Fin k0_t30_loop.trips) (u : Fin k0_t31_loop.trips) :
    k0_off36 p q t u 0 = ρf 1024 1023 (negW (row1W (lw p q))) (16 * t.val + u.val) := by
  have ht : t.val < 64 := t.isLt
  have hu : u.val < 16 := u.isLt
  exact at_flip (b := 1024) (n := 1023) (l := 16 * t.val + u.val) (negW (row1W (lw p q))) (by omega) (by omega) (by omega) (lw_iv t.val u.val)

theorem off22_row (p q : BitVec 32) {g : ℕ} (hg : g < 128) (t : Fin k0_t17_loop.trips) :
    k0_off22 p q (BitVec.ofNat 32 g) t 0 = ρf 0 2047 (negW (row1W (lw p q))) (16 * g + t.val) := by
  have ht : t.val < 16 := t.isLt
  exact at_flip (b := 0) (n := 2047) (l := 16 * g + t.val) (negW (row1W (lw p q))) (by omega) (by omega) (by omega) (lw_iv' g t.val)

theorem off23_row (p q : BitVec 32) {g : ℕ} (hg : g < 128) (t : Fin k0_t18_loop.trips) :
    k0_off23 p q (BitVec.ofNat 32 g) t 0 = ρf 0 2047 (negW (row1W (lw p q))) (16 * g + t.val) := by
  have ht : t.val < 16 := t.isLt
  exact at_flip (b := 0) (n := 2047) (l := 16 * g + t.val) (negW (row1W (lw p q))) (by omega) (by omega) (by omega) (lw_iv' g t.val)

theorem off25_row (p q : BitVec 32) {g : ℕ} (hg : g < 128) (t : Fin k0_t21_loop.trips) :
    k0_off25 p q (BitVec.ofNat 32 g) t 0 = ρf 0 2047 (negW (row1W (lw p q))) (16 * g + t.val) := by
  have ht : t.val < 16 := t.isLt
  exact at_flip (b := 0) (n := 2047) (l := 16 * g + t.val) (negW (row1W (lw p q))) (by omega) (by omega) (by omega) (lw_iv' g t.val)

theorem off26_row (p q : BitVec 32) {g : ℕ} (hg : g < 128) (t : Fin k0_t22_loop.trips) :
    k0_off26 p q (BitVec.ofNat 32 g) t 0 = ρf 0 2047 (negW (row1W (lw p q))) (16 * g + t.val) := by
  have ht : t.val < 16 := t.isLt
  exact at_flip (b := 0) (n := 2047) (l := 16 * g + t.val) (negW (row1W (lw p q))) (by omega) (by omega) (by omega) (lw_iv' g t.val)

theorem off34_row (p q : BitVec 32) {g : ℕ} (hg : g < 64) (t : Fin k0_t28_loop.trips) :
    k0_off34 p q (BitVec.ofNat 32 g) t 0 = ρf 0 1023 (negW (row1W (lw p q))) (16 * g + t.val) := by
  have ht : t.val < 16 := t.isLt
  exact at_flip (b := 0) (n := 1023) (l := 16 * g + t.val) (negW (row1W (lw p q))) (by omega) (by omega) (by omega) (lw_iv' g t.val)

theorem off35_row (p q : BitVec 32) {g : ℕ} (hg : g < 64) (t : Fin k0_t29_loop.trips) :
    k0_off35 p q (BitVec.ofNat 32 g) t 0 = ρf 0 1023 (negW (row1W (lw p q))) (16 * g + t.val) := by
  have ht : t.val < 16 := t.isLt
  exact at_flip (b := 0) (n := 1023) (l := 16 * g + t.val) (negW (row1W (lw p q))) (by omega) (by omega) (by omega) (lw_iv' g t.val)

theorem off37_row (p q : BitVec 32) {g : ℕ} (hg : g < 64) (t : Fin k0_t32_loop.trips) :
    k0_off37 p q (BitVec.ofNat 32 g) t 0 = ρf 1024 1023 (negW (row1W (lw p q))) (16 * g + t.val) := by
  have ht : t.val < 16 := t.isLt
  exact at_flip (b := 1024) (n := 1023) (l := 16 * g + t.val) (negW (row1W (lw p q))) (by omega) (by omega) (by omega) (lw_iv' g t.val)

theorem off38_row (p q : BitVec 32) {g : ℕ} (hg : g < 64) (t : Fin k0_t33_loop.trips) :
    k0_off38 p q (BitVec.ofNat 32 g) t 0 = ρf 1024 1023 (negW (row1W (lw p q))) (16 * g + t.val) := by
  have ht : t.val < 16 := t.isLt
  exact at_flip (b := 1024) (n := 1023) (l := 16 * g + t.val) (negW (row1W (lw p q))) (by omega) (by omega) (by omega) (lw_iv' g t.val)

theorem chk52_of (p q : BitVec 32) {g : ℕ} (hg : g < 128) : k0_chk52 p q (BitVec.ofNat 32 g) := by
  intro t
  have ht : t.val < 16 := t.isLt
  exact inb_of (off22_row p q hg t) (lt_of_le_of_lt (ρf_lt _ (by omega)) (by omega)) rfl

theorem chk53_of (p q : BitVec 32) {g : ℕ} (hg : g < 128) : k0_chk53 p q (BitVec.ofNat 32 g) := by
  intro t
  have ht : t.val < 16 := t.isLt
  exact inb_of (off23_row p q hg t) (lt_of_le_of_lt (ρf_lt _ (by omega)) (by omega)) rfl

theorem chk55_of (p q : BitVec 32) {g : ℕ} (hg : g < 128) : k0_chk55 p q (BitVec.ofNat 32 g) := by
  intro t
  have ht : t.val < 16 := t.isLt
  exact inb_of (off25_row p q hg t) (lt_of_le_of_lt (ρf_lt _ (by omega)) (by omega)) rfl

theorem chk56_of (p q : BitVec 32) {g : ℕ} (hg : g < 128) : k0_chk56 p q (BitVec.ofNat 32 g) := by
  intro t
  have ht : t.val < 16 := t.isLt
  exact inb_of (off26_row p q hg t) (lt_of_le_of_lt (ρf_lt _ (by omega)) (by omega)) rfl

theorem chk89_of (p q : BitVec 32) {g : ℕ} (hg : g < 64) : k0_chk89 p q (BitVec.ofNat 32 g) := by
  intro t
  have ht : t.val < 16 := t.isLt
  exact inb_of (off34_row p q hg t) (lt_of_le_of_lt (ρf_lt _ (by omega)) (by omega)) rfl

theorem chk90_of (p q : BitVec 32) {g : ℕ} (hg : g < 64) : k0_chk90 p q (BitVec.ofNat 32 g) := by
  intro t
  have ht : t.val < 16 := t.isLt
  exact inb_of (off35_row p q hg t) (lt_of_le_of_lt (ρf_lt _ (by omega)) (by omega)) rfl

theorem chk91_of (p q : BitVec 32) {g : ℕ} (hg : g < 64) : k0_chk91 p q (BitVec.ofNat 32 g) := by
  intro t
  have ht : t.val < 16 := t.isLt
  exact inb_of (off37_row p q hg t) (lt_of_le_of_lt (ρf_lt _ (by omega)) (by omega)) rfl

theorem chk92_of (p q : BitVec 32) {g : ℕ} (hg : g < 64) : k0_chk92 p q (BitVec.ofNat 32 g) := by
  intro t
  have ht : t.val < 16 := t.isLt
  exact inb_of (off38_row p q hg t) (lt_of_le_of_lt (ρf_lt _ (by omega)) (by omega)) rfl

theorem chk51_of (p q : BitVec 32) : k0_chk51 p q := by
  refine ⟨fun t u => ?_, fun t u => ?_⟩
  · have ht : t.val < 128 := t.isLt
    have hu : u.val < 16 := u.isLt
    exact inb_of (off21_row p q t u) (lt_of_le_of_lt (ρf_lt _ (by omega)) (by omega)) rfl
  · have ht : t.val < 64 := t.isLt
    have hu : u.val < 16 := u.isLt
    exact inb_of (off33_row p q t u) (lt_of_le_of_lt (ρf_lt _ (by omega)) (by omega)) rfl

theorem chk54_of (p q : BitVec 32) : k0_chk54 p q := by
  refine ⟨fun t u => ?_, fun t u => ?_⟩
  · have ht : t.val < 128 := t.isLt
    have hu : u.val < 16 := u.isLt
    exact inb_of (off24_row p q t u) (lt_of_le_of_lt (ρf_lt _ (by omega)) (by omega)) rfl
  · have ht : t.val < 64 := t.isLt
    have hu : u.val < 16 := u.isLt
    exact inb_of (off36_row p q t u) (lt_of_le_of_lt (ρf_lt _ (by omega)) (by omega)) rfl

theorem t7_eq (i : grid0.Coords) (arg2 harg2 arg3 harg3 arg4 harg4 arg5 harg5 arg6 harg6 arg7 harg7 arg8 harg8 arg9 harg9 arg10 arg11 r) :
    k0_t7_body (F := F) i arg2 harg2 arg3 harg3 arg4 harg4 arg5 harg5 arg6 harg6 arg7 harg7 arg8 harg8 arg9 harg9 arg10 arg11 r
      = groupBody F i arg6 (k0_off11 ) (k0_off11_inb  ) 26214#32 235931#32 := by
  funext t a
  obtain ⟨a0, a1, a2, a3, a4, a5, a6⟩ := a
  rfl

theorem t15_eq (i : grid0.Coords) (arg2 harg2 arg3 harg3 arg4 harg4 arg5 harg5 arg6 harg6 arg7 harg7 arg8 harg8 arg9 harg9 arg10 arg11 r v2 v3 v13_1 v15_1 hw51 v21 v29 v30 v33) :
    k0_t15_body (F := F) i arg2 harg2 arg3 harg3 arg4 harg4 arg5 harg5 arg6 harg6 arg7 harg7 arg8 harg8 arg9 harg9 arg10 arg11 r v2 v3 v13_1 v15_1 hw51 v21 v29 v30 v33
      = groupBody F i arg7 (k0_off21 v13_1 v15_1) (k0_off21_inb v13_1 v15_1 hw51) v30 v30 := by
  funext t a
  obtain ⟨a0, a1, a2, a3, a4, a5, a6⟩ := a
  rfl

theorem t19_eq (i : grid0.Coords) (arg2 harg2 arg3 harg3 arg4 harg4 arg5 harg5 arg6 harg6 arg7 harg7 arg8 harg8 arg9 harg9 arg10 arg11 r v13_4 v21 v23_1 hw54 v29 v30 v31 v35 v45_2 v50 v54 v55 c2047) :
    k0_t19_body (F := F) i arg2 harg2 arg3 harg3 arg4 harg4 arg5 harg5 arg6 harg6 arg7 harg7 arg8 harg8 arg9 harg9 arg10 arg11 r v13_4 v21 v23_1 hw54 v29 v30 v31 v35 v45_2 v50 v54 v55 c2047
      = groupBody F i arg8 (k0_off24 v13_4 v23_1) (k0_off24_inb v13_4 v23_1 hw54) v31 v31 := by
  funext t a
  obtain ⟨a0, a1, a2, a3, a4, a5, a6⟩ := a
  rfl

theorem t26_eq (i : grid0.Coords) (arg2 harg2 arg3 harg3 arg4 harg4 arg5 harg5 arg6 harg6 arg7 harg7 arg8 harg8 arg9 harg9 arg10 arg11 r v2 v3 v13_1 v15_1 hw51 v33 v74 v77 v79) :
    k0_t26_body (F := F) i arg2 harg2 arg3 harg3 arg4 harg4 arg5 harg5 arg6 harg6 arg7 harg7 arg8 harg8 arg9 harg9 arg10 arg11 r v2 v3 v13_1 v15_1 hw51 v33 v74 v77 v79
      = groupBody F i arg6 (k0_off33 v13_1 v15_1) (k0_off33_inb v13_1 v15_1 hw51) v74 v74 := by
  funext t a
  obtain ⟨a0, a1, a2, a3, a4, a5, a6⟩ := a
  rfl

theorem t30_eq (i : grid0.Coords) (arg2 harg2 arg3 harg3 arg4 harg4 arg5 harg5 arg6 harg6 arg7 harg7 arg8 harg8 arg9 harg9 arg10 arg11 r v13_4 v23_1 hw54 v35 v75 v77 v79 v93 c0_162 c0_163) :
    k0_t30_body (F := F) i arg2 harg2 arg3 harg3 arg4 harg4 arg5 harg5 arg6 harg6 arg7 harg7 arg8 harg8 arg9 harg9 arg10 arg11 r v13_4 v23_1 hw54 v35 v75 v77 v79 v93 c0_162 c0_163
      = groupBody F i arg6 (k0_off36 v13_4 v23_1) (k0_off36_inb v13_4 v23_1 hw54) v75 v75 := by
  funext t a
  obtain ⟨a0, a1, a2, a3, a4, a5, a6⟩ := a
  rfl

theorem t9_eq (i : grid0.Coords) (arg2 harg2 arg3 harg3 arg4 harg4 arg5 harg5 arg6 harg6 arg7 harg7 arg8 harg8 arg9 harg9 arg10 arg11 r v13_1 v13_2 v13_4 v13_5 hw34 hw33) :
    k0_t9_body (F := F) i arg2 harg2 arg3 harg3 arg4 harg4 arg5 harg5 arg6 harg6 arg7 harg7 arg8 harg8 arg9 harg9 arg10 arg11 r v13_1 v13_2 v13_4 v13_5 hw34 hw33
      = drillBody F i arg6 (k0_off12 v13_1) (k0_off12_inb v13_1 hw33) 26214#32 := by
  funext t a
  obtain ⟨a0, a1, a2, a3⟩ := a
  rfl

theorem t10_eq (i : grid0.Coords) (arg2 harg2 arg3 harg3 arg4 harg4 arg5 harg5 arg6 harg6 arg7 harg7 arg8 harg8 arg9 harg9 arg10 arg11 r v13_1 v13_2 v13_4 v13_5 hw34 hw33) :
    k0_t10_body (F := F) i arg2 harg2 arg3 harg3 arg4 harg4 arg5 harg5 arg6 harg6 arg7 harg7 arg8 harg8 arg9 harg9 arg10 arg11 r v13_1 v13_2 v13_4 v13_5 hw34 hw33
      = drillBody F i arg6 (k0_off13 v13_4) (k0_off13_inb v13_4 hw34) 235931#32 := by
  funext t a
  obtain ⟨a0, a1, a2, a3⟩ := a
  rfl

theorem t17_eq (i : grid0.Coords) (arg2 harg2 arg3 harg3 arg4 harg4 arg5 harg5 arg6 harg6 arg7 harg7 arg8 harg8 arg9 harg9 arg10 arg11 r v2 v3 v13_1 v15_1 hw51 v21 v29 v30 v33 v43_1 hw52) :
    k0_t17_body (F := F) i arg2 harg2 arg3 harg3 arg4 harg4 arg5 harg5 arg6 harg6 arg7 harg7 arg8 harg8 arg9 harg9 arg10 arg11 r v2 v3 v13_1 v15_1 hw51 v21 v29 v30 v33 v43_1 hw52
      = drillBody F i arg7 (k0_off22 v13_1 v15_1 v43_1) (k0_off22_inb v13_1 v15_1 v43_1 hw52) v30 := by
  funext t a
  obtain ⟨a0, a1, a2, a3⟩ := a
  rfl

theorem t18_eq (i : grid0.Coords) (arg2 harg2 arg3 harg3 arg4 harg4 arg5 harg5 arg6 harg6 arg7 harg7 arg8 harg8 arg9 harg9 arg10 arg11 r v2 v3 v13_1 v15_1 hw51 v21 v29 v30 v33 v43_4 hw53) :
    k0_t18_body (F := F) i arg2 harg2 arg3 harg3 arg4 harg4 arg5 harg5 arg6 harg6 arg7 harg7 arg8 harg8 arg9 harg9 arg10 arg11 r v2 v3 v13_1 v15_1 hw51 v21 v29 v30 v33 v43_4 hw53
      = drillBody F i arg7 (k0_off23 v13_1 v15_1 v43_4) (k0_off23_inb v13_1 v15_1 v43_4 hw53) v30 := by
  funext t a
  obtain ⟨a0, a1, a2, a3⟩ := a
  rfl

theorem t21_eq (i : grid0.Coords) (arg2 harg2 arg3 harg3 arg4 harg4 arg5 harg5 arg6 harg6 arg7 harg7 arg8 harg8 arg9 harg9 arg10 arg11 r v13_4 v21 v23_1 hw54 v29 v30 v31 v35 v45_2 v50 v54 v55 c2047 v59_1 hw55) :
    k0_t21_body (F := F) i arg2 harg2 arg3 harg3 arg4 harg4 arg5 harg5 arg6 harg6 arg7 harg7 arg8 harg8 arg9 harg9 arg10 arg11 r v13_4 v21 v23_1 hw54 v29 v30 v31 v35 v45_2 v50 v54 v55 c2047 v59_1 hw55
      = drillBody F i arg8 (k0_off25 v13_4 v23_1 v59_1) (k0_off25_inb v13_4 v23_1 v59_1 hw55) v31 := by
  funext t a
  obtain ⟨a0, a1, a2, a3⟩ := a
  rfl

theorem t22_eq (i : grid0.Coords) (arg2 harg2 arg3 harg3 arg4 harg4 arg5 harg5 arg6 harg6 arg7 harg7 arg8 harg8 arg9 harg9 arg10 arg11 r v13_4 v21 v23_1 hw54 v29 v30 v31 v35 v45_2 v50 v54 v55 c2047 v59_4 hw56) :
    k0_t22_body (F := F) i arg2 harg2 arg3 harg3 arg4 harg4 arg5 harg5 arg6 harg6 arg7 harg7 arg8 harg8 arg9 harg9 arg10 arg11 r v13_4 v21 v23_1 hw54 v29 v30 v31 v35 v45_2 v50 v54 v55 c2047 v59_4 hw56
      = drillBody F i arg8 (k0_off26 v13_4 v23_1 v59_4) (k0_off26_inb v13_4 v23_1 v59_4 hw56) v31 := by
  funext t a
  obtain ⟨a0, a1, a2, a3⟩ := a
  rfl

theorem t28_eq (i : grid0.Coords) (arg2 harg2 arg3 harg3 arg4 harg4 arg5 harg5 arg6 harg6 arg7 harg7 arg8 harg8 arg9 harg9 arg10 arg11 r v2 v3 v13_1 v15_1 hw51 v33 v74 v77 v79 v86_1 hw89) :
    k0_t28_body (F := F) i arg2 harg2 arg3 harg3 arg4 harg4 arg5 harg5 arg6 harg6 arg7 harg7 arg8 harg8 arg9 harg9 arg10 arg11 r v2 v3 v13_1 v15_1 hw51 v33 v74 v77 v79 v86_1 hw89
      = drillBody F i arg6 (k0_off34 v13_1 v15_1 v86_1) (k0_off34_inb v13_1 v15_1 v86_1 hw89) v74 := by
  funext t a
  obtain ⟨a0, a1, a2, a3⟩ := a
  rfl

theorem t29_eq (i : grid0.Coords) (arg2 harg2 arg3 harg3 arg4 harg4 arg5 harg5 arg6 harg6 arg7 harg7 arg8 harg8 arg9 harg9 arg10 arg11 r v2 v3 v13_1 v15_1 hw51 v33 v74 v77 v79 v86_4 hw90) :
    k0_t29_body (F := F) i arg2 harg2 arg3 harg3 arg4 harg4 arg5 harg5 arg6 harg6 arg7 harg7 arg8 harg8 arg9 harg9 arg10 arg11 r v2 v3 v13_1 v15_1 hw51 v33 v74 v77 v79 v86_4 hw90
      = drillBody F i arg6 (k0_off35 v13_1 v15_1 v86_4) (k0_off35_inb v13_1 v15_1 v86_4 hw90) v74 := by
  funext t a
  obtain ⟨a0, a1, a2, a3⟩ := a
  rfl

theorem t32_eq (i : grid0.Coords) (arg2 harg2 arg3 harg3 arg4 harg4 arg5 harg5 arg6 harg6 arg7 harg7 arg8 harg8 arg9 harg9 arg10 arg11 r v13_4 v23_1 hw54 v35 v75 v77 v79 v93 c0_162 c0_163 v102_1 hw91) :
    k0_t32_body (F := F) i arg2 harg2 arg3 harg3 arg4 harg4 arg5 harg5 arg6 harg6 arg7 harg7 arg8 harg8 arg9 harg9 arg10 arg11 r v13_4 v23_1 hw54 v35 v75 v77 v79 v93 c0_162 c0_163 v102_1 hw91
      = drillBody F i arg6 (k0_off37 v13_4 v23_1 v102_1) (k0_off37_inb v13_4 v23_1 v102_1 hw91) v75 := by
  funext t a
  obtain ⟨a0, a1, a2, a3⟩ := a
  rfl

theorem t33_eq (i : grid0.Coords) (arg2 harg2 arg3 harg3 arg4 harg4 arg5 harg5 arg6 harg6 arg7 harg7 arg8 harg8 arg9 harg9 arg10 arg11 r v13_4 v23_1 hw54 v35 v75 v77 v79 v93 c0_162 c0_163 v102_4 hw92) :
    k0_t33_body (F := F) i arg2 harg2 arg3 harg3 arg4 harg4 arg5 harg5 arg6 harg6 arg7 harg7 arg8 harg8 arg9 harg9 arg10 arg11 r v13_4 v23_1 hw54 v35 v75 v77 v79 v93 c0_162 c0_163 v102_4 hw92
      = drillBody F i arg6 (k0_off38 v13_4 v23_1 v102_4) (k0_off38_inb v13_4 v23_1 v102_4 hw92) v75 := by
  funext t a
  obtain ⟨a0, a1, a2, a3⟩ := a
  rfl

end Cert.Proof
-- ==== Proof.Select.lean ====
/-
  The counting behind the three passes: what the running sums of the histograms are, as numbers of words below a place of
  the total order, and what the three crossings together select.
-/
module

public import proofs.«01_k».proof.Proof.Rows
public import proofs.«01_k».proof.Proof.Pass23

@[expose] public section

noncomputable section

namespace Cert.Proof

open Cert.KernelIdeal Cert.KernelIdeal.Gen
open Idealize.ShloMosaic

/-- How many of a row's words have `p`. -/
def A (X : ℕ → BitVec 32) (p : BitVec 32 → Prop) [DecidablePred p] : ℕ := ∑ n ∈ Finset.range 262144, if p (X n) then 1 else 0

theorem A_congr {X : ℕ → BitVec 32} {p q : BitVec 32 → Prop} [DecidablePred p] [DecidablePred q] (h : ∀ v, p v ↔ q v) : A X p = A X q := by
  unfold A
  exact Finset.sum_congr rfl fun n _ => if_congr (h _) rfl rfl

theorem A_add {X : ℕ → BitVec 32} {p q r : BitVec 32 → Prop} [DecidablePred p] [DecidablePred q] [DecidablePred r]
    (h : ∀ v, r v ↔ p v ∨ q v) (hd : ∀ v, ¬ (p v ∧ q v)) : A X p + A X q = A X r := by
  unfold A
  rw [← Finset.sum_add_distrib]
  refine Finset.sum_congr rfl fun n _ => ?_
  have h1 := h (X n)
  have h2 := hd (X n)
  by_cases hp : p (X n) <;> by_cases hq : q (X n) <;> simp_all

theorem A_le (X : ℕ → BitVec 32) (p : BitVec 32 → Prop) [DecidablePred p] : A X p ≤ 262144 := by
  unfold A
  refine (Finset.sum_le_card_nsmul _ _ 1 fun n _ => ?_).trans (by simp)
  split <;> omega

theorem A_true {X : ℕ → BitVec 32} {p : BitVec 32 → Prop} [DecidablePred p] (h : ∀ v, p v) : A X p = 262144 := by
  unfold A
  simp [h]

theorem A_false {X : ℕ → BitVec 32} {p : BitVec 32 → Prop} [DecidablePred p] (h : ∀ v, ¬ p v) : A X p = 0 := by
  unfold A
  simp [h]

theorem sum_cnt_upto (p : BitVec 32 → Bool) (X : ℕ → BitVec 32) (k : ℕ) :
    ∑ l ∈ Finset.range 16, cnt p X l k = ∑ n ∈ Finset.range (16 * k), if p (X n) = true then 1 else 0 := by
  induction k with
  | zero => simp [cnt_zero]
  | succ k ih =>
    simp only [cnt_succ]
    rw [Finset.sum_add_distrib, ih, show 16 * (k + 1) = 16 * k + 16 by ring, Finset.sum_range_add]

theorem sum_cnt (p : BitVec 32 → Bool) (X : ℕ → BitVec 32) : ∑ l ∈ Finset.range 16, cnt p X l 16384 = A X (fun v => p v = true) :=
  sum_cnt_upto p X 16384

theorem cnt_false {p : BitVec 32 → Bool} (h : ∀ v, p v = false) (X : ℕ → BitVec 32) (l k : ℕ) : cnt p X l k = 0 := by
  simp [cnt, h]

/-- The place of a word in the order of the numbers it stands for: negative words first, the larger the magnitude the earlier. -/
def ordN (v : BitVec 32) : ℕ := if v.toNat < 2 ^ 31 then v.toNat + 2 ^ 31 else 2 ^ 32 - 1 - v.toNat

/-- How many words come before the block `m` of 2 ^ 21 places. -/
def C1 (X : ℕ → BitVec 32) (m : ℕ) : ℕ := A X fun v => ordN v / 2 ^ 21 < m
/-- Within block `l1`, how many before the sub-block `m` of 2 ^ 10 places. -/
def C2 (X : ℕ → BitVec 32) (l1 m : ℕ) : ℕ := A X fun v => ordN v / 2 ^ 21 = l1 ∧ ordN v / 2 ^ 10 % 2048 < m
/-- Within sub-block `l2` of block `l1`, how many before the place `m`. -/
def C3 (X : ℕ → BitVec 32) (l1 l2 m : ℕ) : ℕ := A X fun v => (ordN v / 2 ^ 21 = l1 ∧ ordN v / 2 ^ 10 % 2048 = l2) ∧ ordN v % 1024 < m

theorem ordN_lt (v : BitVec 32) : ordN v < 2 ^ 32 := by
  have := v.isLt
  unfold ordN; split <;> omega

theorem C1_all (X : ℕ → BitVec 32) : C1 X 2048 = 262144 := A_true fun v => by have := ordN_lt v; omega

theorem C1_zero (X : ℕ → BitVec 32) : C1 X 0 = 0 := A_false fun v => by omega

theorem C2_all (X : ℕ → BitVec 32) (l1 : ℕ) : C1 X l1 + C2 X l1 2048 = C1 X (l1 + 1) :=
  A_add (fun v => by omega) (fun v => by omega)

theorem C3_all (X : ℕ → BitVec 32) (l1 l2 : ℕ) : C2 X l1 l2 + C3 X l1 l2 1024 = C2 X l1 (l2 + 1) :=
  A_add (fun v => by omega) (fun v => by omega)

theorem C_all (X : ℕ → BitVec 32) (l1 l2 l3 : ℕ) (h2 : l2 < 2048) (h3 : l3 ≤ 1024) :
    C1 X l1 + C2 X l1 l2 + C3 X l1 l2 l3 = A X fun v => ordN v < l1 * 2 ^ 21 + l2 * 2 ^ 10 + l3 := by
  rw [show C1 X l1 + C2 X l1 l2 = A X (fun v => ordN v / 2 ^ 21 < l1 ∨ ordN v / 2 ^ 21 = l1 ∧ ordN v / 2 ^ 10 % 2048 < l2) from
    A_add (fun v => by omega) (fun v => by omega)]
  exact A_add (fun v => by omega) (fun v => by omega)

/-- The running sums of a histogram whose logical row `g` counts the words of place `g` among those selected. -/
theorem cum_rows {Hn : ℕ → ℕ → ℕ} {ρ : ℕ → ℕ} {X : ℕ → BitVec 32} {p : ℕ → BitVec 32 → Bool} {sel : BitVec 32 → Prop} {pos : BitVec 32 → ℕ}
    [DecidablePred sel] {M : ℕ} (hH : ∀ g < M, ∀ l, Hn (ρ g) l = cnt (p g) X l 16384) (hp : ∀ g < M, ∀ v, p g v = true ↔ sel v ∧ pos v = g)
    {m : ℕ} (hm : m ≤ M) : cum (rowSum Hn ρ) m = A X fun v => sel v ∧ pos v < m := by
  induction m with
  | zero => rw [A_false fun v => by omega]; rfl
  | succ m ih =>
    rw [cum_succ, ih (by omega)]
    have e : rowSum Hn ρ m = A X fun v => sel v ∧ pos v = m := by
      unfold rowSum
      rw [Finset.sum_congr rfl fun l _ => hH m (by omega) l, sum_cnt]
      exact A_congr (hp m (by omega))
    rw [e]
    refine A_add (fun v => ?_) (fun v => ?_)
    · constructor
      · rintro ⟨h1, h2⟩
        rcases Nat.lt_succ_iff_lt_or_eq.mp h2 with h | h
        · exact Or.inl ⟨h1, h⟩
        · exact Or.inr ⟨h1, h⟩
      · rintro (⟨h1, h2⟩ | ⟨h1, h2⟩)
        · exact ⟨h1, Nat.lt_succ_of_lt h2⟩
        · exact ⟨h1, h2 ▸ Nat.lt_succ_self _⟩
    · rintro ⟨⟨_, h1⟩, _, h2⟩; omega

/-! ## The fields of a word -/

theorem field1 (v : BitVec 32) : (v >>> 21).toNat = v.toNat / 2 ^ 21 := by
  rw [BitVec.toNat_ushiftRight, Nat.shiftRight_eq_div_pow]

theorem field12 (v : BitVec 32) : (v >>> 10).toNat = v.toNat / 2 ^ 10 := by
  rw [BitVec.toNat_ushiftRight, Nat.shiftRight_eq_div_pow]

theorem field2 (v : BitVec 32) : ((v >>> 10) &&& 2047#32).toNat = v.toNat / 2 ^ 10 % 2048 := by
  rw [BitVec.toNat_and, field12]
  exact Nat.and_two_pow_sub_one_eq_mod _ 11

theorem field3 (v : BitVec 32) : (v &&& 1023#32).toNat = v.toNat % 1024 := by
  rw [BitVec.toNat_and]
  exact Nat.and_two_pow_sub_one_eq_mod _ 10

theorem negW_ofNat {r : ℕ} (h : r < 2048) : negW (BitVec.ofNat 32 r) = if 1024 ≤ r then 1#32 else 0#32 := by
  have hg : Scalar.cmpi .sge (BitVec.ofNat 32 r) 1024#32 = if 1024 ≤ r then 1#1 else 0#1 := sge_ofNat (by omega) (by decide)
  show Scalar.select (Scalar.cmpi .sge (BitVec.ofNat 32 r) 1024#32) 1#32 0#32 = _
  rw [hg]
  split <;> rfl

theorem ρf_neg (base n r l : ℕ) : ρf base n (if 1024 ≤ r then 1#32 else 0#32) l = base + if 1024 ≤ r then n - l else l := by
  unfold ρf
  by_cases h : 1024 ≤ r
  · simp [h]
  · rw [if_neg h, if_neg h, if_neg (by decide)]

/-- The first pass's histogram. -/
def Hn1 (X : ℕ → BitVec 32) : ℕ → ℕ → ℕ := fun r l => cnt (P1 r) X l 16384
def Hn2 (X : ℕ → BitVec 32) (b : BitVec 32) : ℕ → ℕ → ℕ := fun r l => cnt (P2 b r) X l 16384
def Hn3 (X : ℕ → BitVec 32) (a b : BitVec 32) : ℕ → ℕ → ℕ := fun r l => cnt (P3 1024 b r) X l 16384 + cnt (P3 0 a r) X l 16384

theorem addH_histN1 (X : ℕ → BitVec 32) : addH (fun _ => 0#32) P1 X 16384 = histN (Hn1 X) := by
  funext j; simp [addH, histN, Hn1]

theorem addH_histN2 (X : ℕ → BitVec 32) (b : BitVec 32) : addH (fun _ => 0#32) (P2 b) X 16384 = histN (Hn2 X b) := by
  funext j; simp [addH, histN, Hn2]

theorem addH_histN3 (X : ℕ → BitVec 32) (a b : BitVec 32) :
    addH (addH (fun _ => 0#32) (P3 1024 b) X 16384) (P3 0 a) X 16384 = histN (Hn3 X a b) := by
  funext j
  show 0#32 + BitVec.ofNat 32 _ + BitVec.ofNat 32 _ = BitVec.ofNat 32 _
  rw [BitVec.zero_add, ← BitVec.ofNat_add]; rfl

theorem cum1 (X : ℕ → BitVec 32) {m : ℕ} (hm : m ≤ 2048) : cum (rowSum (Hn1 X) ρ1) m = C1 X m := by
  refine (cum_rows (Hn := Hn1 X) (ρ := ρ1) (X := X) (p := fun g => P1 (ρ1 g)) (sel := fun _ => True) (pos := fun v => ordN v / 2 ^ 21) (M := 2048)
    (fun g _ l => rfl) (fun g hg v => ?_) hm).trans (A_congr fun v => by simp)
  have hv := v.isLt
  simp only [P1, decide_eq_true_eq, field1, true_and]
  unfold ρ1 ordN
  split_ifs <;> omega

/-- The word of a block's row. -/
def sel1 (l1 : ℕ) : BitVec 32 := BitVec.ofNat 32 (ρ1 l1)

theorem shr21_eq (v : BitVec 32) {r : ℕ} (hr : r < 2048) : v >>> 21 = BitVec.ofNat 32 r ↔ v.toNat / 2 ^ 21 = r := by
  rw [← field1, ← BitVec.toNat_inj, BitVec.toNat_ofNat, Nat.mod_eq_of_lt (by omega)]

theorem cum2 (X : ℕ → BitVec 32) {l1 : ℕ} (h1 : l1 < 2048) {m : ℕ} (hm : m ≤ 2048) :
    cum (rowSum (Hn2 X (sel1 l1)) (ρf 0 2047 (negW (sel1 l1)))) m = C2 X l1 m := by
  refine cum_rows (Hn := Hn2 X (sel1 l1)) (ρ := ρf 0 2047 (negW (sel1 l1))) (X := X) (p := fun g => P2 (sel1 l1) (ρf 0 2047 (negW (sel1 l1)) g))
    (sel := fun v => ordN v / 2 ^ 21 = l1) (pos := fun v => ordN v / 2 ^ 10 % 2048) (M := 2048) (fun g _ l => rfl) (fun g hg v => ?_) hm
  have hv := v.isLt
  have hr : ρ1 l1 < 2048 := ρ1_lt h1
  simp only [P2, decide_eq_true_eq, field2]
  rw [show negW (sel1 l1) = _ from negW_ofNat hr, sel1, shr21_eq v hr]
  unfold ρf ordN
  by_cases hc : 1024 ≤ ρ1 l1
  · rw [if_pos hc, if_pos rfl]
    unfold ρ1 at hc ⊢
    split_ifs at hc ⊢ <;> omega
  · rw [if_neg hc, if_neg (by decide)]
    unfold ρ1 at hc ⊢
    split_ifs at hc ⊢ <;> omega

/-- The top twenty-two bits of a sub-block's words. -/
def sel2 (l1 l2 : ℕ) : BitVec 32 := BitVec.ofNat 32 (ρ1 l1 * 2048 + ρf 0 2047 (negW (sel1 l1)) l2)

theorem shr10_eq (v : BitVec 32) {r : ℕ} (hr : r < 2 ^ 22) : v >>> 10 = BitVec.ofNat 32 r ↔ v.toNat / 2 ^ 10 = r := by
  rw [← field12, ← BitVec.toNat_inj, BitVec.toNat_ofNat, Nat.mod_eq_of_lt (by omega)]

theorem place3 {l1 l2 g o : ℕ} (h1 : l1 < 2048) (h2 : l2 < 2048) (hg : g < 1024) (v : BitVec 32) :
    P3 o (sel2 l1 l2) (ρf o 1023 (negW (sel1 l1)) g) v = true ↔ (ordN v / 2 ^ 21 = l1 ∧ ordN v / 2 ^ 10 % 2048 = l2) ∧ ordN v % 1024 = g := by
  have hv := v.isLt
  have hr : ρ1 l1 < 2048 := ρ1_lt h1
  have hn : negW (sel1 l1) = if 1024 ≤ ρ1 l1 then 1#32 else 0#32 := negW_ofNat hr
  have hf : ρf 0 2047 (negW (sel1 l1)) l2 < 2048 := by unfold ρf; split <;> omega
  simp only [P3, decide_eq_true_eq, field3]
  rw [sel2, shr10_eq v (by omega), hn]
  unfold ρf ordN
  by_cases hc : 1024 ≤ ρ1 l1
  · rw [if_pos hc, if_pos rfl, if_pos rfl]
    unfold ρ1 at hc ⊢
    split_ifs at hc ⊢ <;> omega
  · rw [if_neg hc, if_neg (by decide), if_neg (by decide)]
    unfold ρ1 at hc ⊢
    split_ifs at hc ⊢ <;> omega

theorem cum3a (X : ℕ → BitVec 32) {l1 l2 : ℕ} (h1 : l1 < 2048) (h2 : l2 < 2048) (b : BitVec 32) {m : ℕ} (hm : m ≤ 1024) :
    cum (rowSum (Hn3 X (sel2 l1 l2) b) (ρf 0 1023 (negW (sel1 l1)))) m = C3 X l1 l2 m := by
  refine cum_rows (p := fun g => P3 0 (sel2 l1 l2) (ρf 0 1023 (negW (sel1 l1)) g))
    (sel := fun v => ordN v / 2 ^ 21 = l1 ∧ ordN v / 2 ^ 10 % 2048 = l2) (pos := fun v => ordN v % 1024) (M := 1024) (fun g hg l => ?_)
    (fun g hg v => place3 h1 h2 hg v) hm
  have hf : ρf 0 1023 (negW (sel1 l1)) g < 1024 := by unfold ρf; split <;> omega
  unfold Hn3
  rw [cnt_false (p := P3 1024 b _) (fun v => ?_), Nat.zero_add]
  simp only [P3, decide_eq_false_iff_not, field3]
  omega

theorem cum3b (X : ℕ → BitVec 32) {l1 l2 : ℕ} (h1 : l1 < 2048) (h2 : l2 < 2048) (a : BitVec 32) {m : ℕ} (hm : m ≤ 1024) :
    cum (rowSum (Hn3 X a (sel2 l1 l2)) (ρf 1024 1023 (negW (sel1 l1)))) m = C3 X l1 l2 m := by
  refine cum_rows (p := fun g => P3 1024 (sel2 l1 l2) (ρf 1024 1023 (negW (sel1 l1)) g))
    (sel := fun v => ordN v / 2 ^ 21 = l1 ∧ ordN v / 2 ^ 10 % 2048 = l2) (pos := fun v => ordN v % 1024) (M := 1024) (fun g hg l => ?_)
    (fun g hg v => place3 h1 h2 hg v) hm
  have hf : 1024 ≤ ρf 1024 1023 (negW (sel1 l1)) g := by unfold ρf; omega
  unfold Hn3
  rw [cnt_false (p := P3 0 a _) (fun v => ?_), Nat.add_zero]
  simp only [P3, decide_eq_false_iff_not, field3]
  have := Nat.mod_lt v.toNat (show 1024 > 0 by omega)
  omega

/-! ## The selected word -/

/-- The integer whose signed order is the order of the numbers words stand for. -/
def keyW (v : BitVec 32) : BitVec 32 := Scalar.select (Scalar.cmpi .sge v 0#32) v (Scalar.xori v 2147483647#32)

/-- `o` is the key of a word at which the count of the row's words reaches `k`. -/
def Sel (X : ℕ → BitVec 32) (k : ℕ) (o : BitVec 32) : Prop :=
  ∃ q, o = keyW q ∧ (A X fun v => ordN v < ordN q) < k ∧ k ≤ A X fun v => ordN v ≤ ordN q

/-- The word put together from the three selected rows. -/
def selW (l1 l2 l3 : ℕ) : BitVec 32 := Scalar.ori (Scalar.shli (sel2 l1 l2) 10#32) (BitVec.ofNat 32 (ρf 0 1023 (negW (sel1 l1)) l3))

theorem ori_shl {a b : ℕ} (ha : a < 2 ^ 22) (hb : b < 1024) :
    (Scalar.ori (Scalar.shli (BitVec.ofNat 32 a) 10#32) (BitVec.ofNat 32 b)).toNat = a * 1024 + b := by
  show ((Scalar.shli (BitVec.ofNat 32 a) 10#32) ||| BitVec.ofNat 32 b).toNat = _
  have e : Scalar.shli (BitVec.ofNat 32 a) 10#32 = BitVec.ofNat 32 a <<< 10 := by
    simp [Scalar.shli, IntOp.shli]
  rw [e, BitVec.toNat_or, BitVec.toNat_shiftLeft, BitVec.toNat_ofNat, BitVec.toNat_ofNat, Nat.mod_eq_of_lt (a := a) (by omega),
    Nat.mod_eq_of_lt (a := b) (by omega), Nat.shiftLeft_eq, Nat.mod_eq_of_lt (by omega)]
  rw [show a * 2 ^ 10 = 2 ^ 10 * a by ring, ← Nat.two_pow_add_eq_or_of_lt (by omega : b < 2 ^ 10)]
  omega

theorem ordN_selW {l1 l2 l3 : ℕ} (h1 : l1 < 2048) (h2 : l2 < 2048) (h3 : l3 < 1024) : ordN (selW l1 l2 l3) = l1 * 2 ^ 21 + l2 * 2 ^ 10 + l3 := by
  have hr : ρ1 l1 < 2048 := ρ1_lt h1
  have hn : negW (sel1 l1) = if 1024 ≤ ρ1 l1 then 1#32 else 0#32 := negW_ofNat hr
  have hf : ρf 0 2047 (negW (sel1 l1)) l2 < 2048 := by unfold ρf; split <;> omega
  have hf3 : ρf 0 1023 (negW (sel1 l1)) l3 < 1024 := by unfold ρf; split <;> omega
  unfold ordN selW sel2
  rw [ori_shl (by omega) hf3, hn]
  rw [ρf_neg, ρf_neg]
  unfold ρ1
  split_ifs <;> omega

theorem sel_of {X : ℕ → BitVec 32} {K l1 l2 l3 : ℕ} (h1 : l1 < 2048) (h2 : l2 < 2048) (h3 : l3 < 1024) (hc1 : C1 X l1 < K) (hc2 : C2 X l1 l2 < K - C1 X l1)
    (hlt : C3 X l1 l2 l3 < K - C1 X l1 - C2 X l1 l2) (hle : K - C1 X l1 - C2 X l1 l2 ≤ C3 X l1 l2 (l3 + 1)) :
    Sel X K (keyW (selW l1 l2 l3)) := by
  refine ⟨_, rfl, ?_, ?_⟩
  · rw [ordN_selW h1 h2 h3, ← C_all X l1 l2 l3 h2 (by omega)]; omega
  · rw [ordN_selW h1 h2 h3, A_congr (q := fun v => ordN v < l1 * 2 ^ 21 + l2 * 2 ^ 10 + (l3 + 1)) (fun v => by omega), ← C_all X l1 l2 (l3 + 1) h2 (by omega)]
    omega

end Cert.Proof
-- ==== Proof.Parts.lean ====
/-
  The stages of the tile's body: zeroing the histograms, the three passes over the row, and after each the search of its
  histogram for the two rows at which the count of words reaches a threshold.
-/
module

public import proofs.«01_k».proof.Proof.PassInst
public import proofs.«01_k».proof.Proof.Zero
public import proofs.«01_k».proof.Proof.Select

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- The scan of the groups found group `m`, at which the count reaches `K`. -/
def GF (C : ℕ → ℕ) (K T : ℕ) (g c : BitVec 32) : Prop :=
  ∃ m < T, g = BitVec.ofNat 32 m ∧ c = BitVec.ofNat 32 (C (16 * m)) ∧ C (16 * m) < K ∧ K ≤ C (16 * m + 16)

/-- The scan within group `m` found place `j` of it, at which the count reaches `K`. -/
def DF (C : ℕ → ℕ) (K m : ℕ) (j c : BitVec 32) : Prop :=
  ∃ x < 16, j = BitVec.ofNat 32 x ∧ c = BitVec.ofNat 32 (C (16 * m + x)) ∧ C (16 * m + x) < K ∧ K ≤ C (16 * m + x + 1)

section
variable (d : Dev nD) (i : grid0.Coords) {m : Memref sig .scVector .vmem S2048x16 .i32} {Hn : ℕ → ℕ → ℕ} {ρ : ℕ → ℕ}

theorem gscan {lp : Scf.Loop 32} {ok : lp.OK} {off : Fin lp.trips → Fin k0_t8_loop.trips → Fin 2 → ℕ}
    {inb : ∀ g t a, off g t a + S1x16.size a ≤ S2048x16.size a} {k1 k2 : BitVec 32} (C : ℕ → ℕ) (K1 K2 T : ℕ) (hT : lp.trips = T)
    (h0 : ∀ g t, off g t 0 = ρ (16 * g.val + t.val)) (h1 : ∀ g t, off g t 1 = 0) (hC : ∀ n ≤ 16 * T, cum (rowSum Hn ρ) n = C n)
    (hk1 : k1.toNat = K1) (hk2 : k2.toNat = K2) (hb : C (16 * T) < 2 ^ 31)
    (h01 : 0 < K1) (h02 : 0 < K2) (hK1 : K1 ≤ C (16 * T)) (hK2 : K2 ≤ C (16 * T))
    {β : Type} {kk : W7 → TProg F i β} {Q : β → sProp 𝕄} :
    (owns d i m (histN Hn) : sProp 𝕄)
      ⊢ iprop((∀ a : W7, ⌜GF C K1 T a.2.1 a.2.2.1 ∧ GF C K2 T a.2.2.2.2.1 a.2.2.2.2.2.1⌝ -∗ owns d i m (histN Hn) -∗ twp d i (kk a) Q)
        -∗ twp d i (Scf.Loop.for lp ok (0#32, 0#32, 0#32, 0#32, 0#32, 0#32, 0#32) (groupBody F i m off inb k1 k2) >>= kk) Q) := by
  have e : cum (rowSum Hn ρ) (16 * lp.trips) = C (16 * T) := by rw [hT]; exact hC _ le_rfl
  have key : ∀ K g c, Cross (fun g => cum (rowSum Hn ρ) (16 * g)) K lp.trips g c → GF C K T g c := by
    rintro K g c ⟨n, hn, hg, hc, hlt, hle⟩
    rw [hT] at hn
    refine ⟨n, hn, hg, hc.trans (congrArg _ (hC _ (by omega))), ?_, ?_⟩
    · rw [← hC _ (by omega)]; exact hlt
    · rw [← hC _ (by omega), show 16 * n + 16 = 16 * (n + 1) by ring]; exact hle
  iintro Ho Hk
  iapply (group_scan d i h0 h1 hk1 hk2 (by rw [e]; exact hb) h01 h02 (by rw [e]; exact hK1) (by rw [e]; exact hK2)) $$ Ho
  iintro %a %ha Ho
  iapply Hk $$ [] [Ho]
  · ipureintro; exact ⟨key _ _ _ ha.1, key _ _ _ ha.2⟩
  · iexact Ho

theorem dscan {off : Fin k0_t9_loop.trips → Fin 2 → ℕ} {inb : ∀ t a, off t a + S1x16.size a ≤ S2048x16.size a} {k c0 : BitVec 32} (C : ℕ → ℕ) (K g T : ℕ)
    (hg : g < T) (h0 : ∀ t, off t 0 = ρ (16 * g + t.val)) (h1 : ∀ t, off t 1 = 0) (hC : ∀ n ≤ 16 * T, cum (rowSum Hn ρ) n = C n)
    (hk : k.toNat = K) (hc0 : c0 = BitVec.ofNat 32 (C (16 * g))) (hb : C (16 * g + 16) < 2 ^ 31)
    (hlt : C (16 * g) < K) (hK : K ≤ C (16 * g + 16))
    {β : Type} {kk : W4 → TProg F i β} {Q : β → sProp 𝕄} :
    (owns d i m (histN Hn) : sProp 𝕄)
      ⊢ iprop((∀ a : W4, ⌜DF C K g a.2.1 a.2.2.1⌝ -∗ owns d i m (histN Hn) -∗ twp d i (kk a) Q)
        -∗ twp d i (Scf.Loop.for k0_t9_loop k0_t9_ok (c0, 0#32, c0, 0#32) (drillBody F i m off inb k) >>= kk) Q) := by
  have e0 : cum (rowSum Hn ρ) (16 * g) = C (16 * g) := hC _ (by omega)
  have e1 : cum (rowSum Hn ρ) (16 * (g + 1)) = C (16 * g + 16) := hC _ (by omega)
  have key : ∀ j c, Cross (fun j => cum (rowSum Hn ρ) (16 * g + j)) K 16 j c → DF C K g j c := by
    rintro j c ⟨n, hn, hj, hc, hlt, hle⟩
    refine ⟨n, hn, hj, hc.trans (congrArg _ (hC _ (by omega))), ?_, ?_⟩
    · rw [← hC _ (by omega)]; exact hlt
    · rw [← hC _ (by omega)]; exact hle
  iintro Ho Hk
  iapply (drill_scan d i h0 h1 hk (by rw [e0]; exact hc0) (by rw [e1]; exact hb) (by rw [e0]; exact hlt) (by rw [e1]; exact hK)) $$ Ho
  iintro %a %ha Ho
  iapply Hk $$ [] [Ho]
  · ipureintro; exact key _ _ ha
  · iexact Ho

/-- A histogram at whatever it holds. -/
def someH (m : Memref sig .scVector .vmem S2048x16 .i32) : sProp 𝕄 := iprop(∃ H : S2048x16.Idx → BitVec 32, owns d i m H)

/-- Between passes: both chunk buffers free, no copy under way, the row's words held in two halves. -/
def idle (arg4 arg5 : Memref sig .scVector .vmem S8192 .i32) (arg10 arg11 : DmaSems sig S_) (f : S32x262144.Idx → BitVec 32) (qL qR : PosShare TreeShare)
    (O : CellTallies nD τ sig (HIx 1)) (W : Waits sig (HIx 1)) : sProp 𝕄 :=
  iprop(levAts (K (F := F)).L (K (F := F)).lev ∗ some8 d i arg4 ∗ xs d i (wOf i) f qL ∗ semVal (thr d i, .dma arg10.sem) 0 ∗ some8 d i arg5
    ∗ xs d i (wOf i) f qR ∗ semVal (thr d i, .dma arg11.sem) 0 ∗ wts d i O W)

theorem zero_loop {lp : Scf.Loop 32} {ok : lp.OK} {body : Fin lp.trips → Unit → TProg F i Unit} (hT : 8 * lp.trips = 2048)
    (hs : ∀ t u, (zeroTo d i m (8 * t.val) : sProp 𝕄) ⊢ twp d i (body t u) fun _ => zeroTo d i m (8 * (t.val + 1)))
    {β : Type} {kk : Unit → TProg F i β} {Q : β → sProp 𝕄} :
    (someH d i m : sProp 𝕄) ⊢ iprop((owns d i m (fun _ => 0#32) -∗ twp d i (kk ⟨⟩) Q) -∗ twp d i (Scf.Loop.for lp ok ⟨⟩ body >>= kk) Q) := by
  unfold someH
  iintro ⟨%H, Ho⟩ Hk
  iapply (own_for d i (fun n _ => zeroTo d i m (8 * n)) hs) $$ [Ho]
  · iapply (zeroTo_intro d i m H) $$ Ho
  · iintro %_ Hz
    iapply Hk
    iapply (zeroTo_all d i m)
    iapply (Entails.of_eq (congrArg (zeroTo d i m) hT)) $$ Hz

theorem pass_start {off : Fin 2 → ℕ} {inb : ∀ a, off a + S1x8192.size a ≤ S32x262144.size a} (h0 : off 0 = wOf i) (h1 : off 1 = 16 * 0)
    {arg4 arg5 : Memref sig .scVector .vmem S8192 .i32}
    {arg10 arg11 : DmaSems sig S_} {f : S32x262144.Idx → BitVec 32} {qL qR : PosShare TreeShare} {O : CellTallies nD τ sig (HIx 1)} {W : Waits sig (HIx 1)}
    {loop : TProg F i Unit} {H0 H1 : sProp 𝕄}
    {p1} {p2} {p3}
    {β : Type} {kk : Unit → TProg F i β} {Q : β → sProp 𝕄}
    (hl : iprop(levAts (K (F := F)).L (K (F := F)).lev ∗ pend d i arg10.sem arg4 (wOf i) f 0 qL ∗ some8 d i arg5 ∗ xs d i (wOf i) f qR
        ∗ semVal (thr d i, .dma arg11.sem) 0 ∗ wts d i O W ∗ H0)
      ⊢ iprop((iprop(some8 d i arg4 ∗ xs d i (wOf i) f qL ∗ semVal (thr d i, .dma arg10.sem) 0 ∗ some8 d i arg5 ∗ xs d i (wOf i) f qR
            ∗ semVal (thr d i, .dma arg11.sem) 0 ∗ wts d i O W ∗ H1) -∗ twp d i (kk ⟨⟩) Q)
        -∗ twp d i (loop >>= kk) Q)) :
    iprop(idle d i arg4 arg5 arg10 arg11 f qL qR O W ∗ H0)
      ⊢ iprop((iprop(idle d i arg4 arg5 arg10 arg11 f qL qR O W ∗ H1) -∗ twp d i (kk ⟨⟩) Q)
        -∗ twp d i (.op (.enqueueDma (srcM off inb) (.here arg4) (.dma arg10.sem) p1 p2 p3) fun _ => loop >>= kk) Q) := by
  unfold idle some8
  iintro ⟨⟨#Hlv, ⟨%H, H4⟩, Hx4, Hv4, H5, Hx5, Hv5, Hw⟩, Hh⟩ Hk
  iapply (own_issue d i h0 h1) $$ [H4 Hx4 Hv4]
  · isplitl [H4]; · iexact H4
    isplitl [Hx4]; · iexact Hx4
    iexact Hv4
  iintro Hp
  unfold some8 at hl
  iapply hl $$ [Hp H5 Hx5 Hv5 Hw Hh]
  · isplitr; · iexact Hlv
    isplitl [Hp]; · iexact Hp
    isplitl [H5]; · iexact H5
    isplitl [Hx5]; · iexact Hx5
    isplitl [Hv5]; · iexact Hv5
    isplitl [Hw]; · iexact Hw
    iexact Hh
  iintro ⟨H4, Hx4, Hv4, H5, Hx5, Hv5, Hw, Hh⟩
  iapply Hk
  isplitr [Hh]
  · isplitr; · iexact Hlv
    isplitl [H4]; · iexact H4
    isplitl [Hx4]; · iexact Hx4
    isplitl [Hv4]; · iexact Hv4
    isplitl [H5]; · iexact H5
    isplitl [Hx5]; · iexact Hx5
    isplitl [Hv5]; · iexact Hv5
    iexact Hw
  · iexact Hh

end

section
variable (d : Dev nD) (i : grid0.Coords) (hx : (xV : Memref sig .scVector .hbm S32x262144 .i32).IsWhole)
  (arg3 : Memref sig .scVector .hbm S32x16 .i32) (harg3 : arg3.IsWhole) (arg4 : Memref sig .scVector .vmem S8192 .i32) (harg4 : arg4.IsWhole)
  (arg5 : Memref sig .scVector .vmem S8192 .i32) (harg5 : arg5.IsWhole) (arg6 : Memref sig .scVector .vmem S2048x16 .i32) (harg6 : arg6.IsWhole)
  (arg7 : Memref sig .scVector .vmem S2048x16 .i32) (harg7 : arg7.IsWhole) (arg8 : Memref sig .scVector .vmem S2048x16 .i32) (harg8 : arg8.IsWhole)
  (arg9 : Memref sig .scVector .vmem S16 .i32) (harg9 : arg9.IsWhole) (arg10 arg11 : DmaSems sig S_) (r : DmaSems sig S_)
  {f : S32x262144.Idx → BitVec 32} {qL qR : PosShare TreeShare} {O : CellTallies nD τ sig (HIx 1)} {W : Waits sig (HIx 1)}

theorem iota_v2 (x : S16.Idx) : ((iota .scVector S16 32 [0] iota_S16_d0_w32_scVector : IVec S16 32) x).toNat = (x 0).val := by
  have hx : (x 0).val < 16 := (x 0).isLt
  show (BitVec.ofNat 32 (0 * 16 + (x 0).val)).toNat = _
  rw [BitVec.toNat_ofNat]
  omega

/-- Zeroing, the first pass and the search of its groups. -/
theorem part17 (hO : ∀ g, O g none = 0) :
    iprop(idle d i arg4 arg5 arg10 arg11 f qL qR O W ∗ someH d i arg6 ∗ someH d i arg7 ∗ someH d i arg8 : sProp 𝕄)
      ⊢ twp d i (k0_part17 (F := F) i xV hx arg3 harg3 arg4 harg4 arg5 harg5 arg6 harg6 arg7 harg7 arg8 harg8 arg9 harg9 arg10 arg11 r) fun a =>
        iprop(⌜(∀ x, (a.1 x).toNat = (x 0).val) ∧ (∀ x, a.2.1 x = 1#32)
            ∧ GF (C1 (rowOf f (wOf i))) 26214 128 a.2.2.1 a.2.2.2.1 ∧ GF (C1 (rowOf f (wOf i))) 235931 128 a.2.2.2.2.1 a.2.2.2.2.2.1⌝
          ∗ idle d i arg4 arg5 arg10 arg11 f qL qR O W ∗ owns d i arg6 (histN (Hn1 (rowOf f (wOf i)))) ∗ owns d i arg7 (fun _ => 0#32)
          ∗ owns d i arg8 (fun _ => 0#32)) := by
  rw [k0_part17_eq_skeleton]
  unfold k0_part17_skel
  simp only [Prog.lift, Prog.bind_op, Prog.bind_ret, Prog.pure_eq_ret]
  iintro ⟨Hi, H6, H7, H8⟩
  iapply (zero_loop d i (by decide) (t1_step d i xV hx arg3 harg3 arg4 harg4 arg5 harg5 arg6 harg6 arg7 harg7 arg8 harg8 arg9 harg9 arg10 arg11 r)) $$ H6
  iintro H6
  iapply (zero_loop d i (by decide) (t2_step d i xV hx arg3 harg3 arg4 harg4 arg5 harg5 arg6 harg6 arg7 harg7 arg8 harg8 arg9 harg9 arg10 arg11 r)) $$ H7
  iintro H7
  iapply (zero_loop d i (by decide) (t3_step d i xV hx arg3 harg3 arg4 harg4 arg5 harg5 arg6 harg6 arg7 harg7 arg8 harg8 arg9 harg9 arg10 arg11 r)) $$ H8
  iintro H8
  have e0 : addH (fun _ => 0#32) P1 (rowOf f (wOf i)) 0 = (fun _ => 0#32) := addH_zero _ _ _
  iapply (pass_start d i (off4_row i) (off4_col i) (t4_pass d i hx arg3 harg3 arg4 harg4 arg5 harg5 arg6 harg6 arg7 harg7 arg8 harg8 arg9 harg9 arg10 arg11 r iota_v2 (f := f) (C := fun _ => 0#32) hO)) $$ [Hi H6]
  · isplitl [Hi]; · iexact Hi
    rw [e0]; iexact H6
  iintro ⟨Hi, H6⟩
  rw [addH_histN1, t7_eq]
  iapply (gscan d i (C1 (rowOf f (wOf i))) 26214 235931 128 rfl off11_row (fun _ _ => rfl) (fun n hn => cum1 _ hn) rfl rfl
    (by rw [show 16 * 128 = 2048 from rfl, C1_all]; decide) (by decide) (by decide) (by rw [show 16 * 128 = 2048 from rfl, C1_all]; decide)
    (by rw [show 16 * 128 = 2048 from rfl, C1_all]; decide)) $$ H6
  iintro %a %ha H6
  obtain ⟨a0, a1, a2, a3, a4, a5, a6⟩ := a
  dsimp only at ha ⊢
  have h34 : k0_chk34 a4 := by obtain ⟨m, hm, h, -⟩ := ha.2; rw [h]; exact chk34_of hm
  have h33 : k0_chk33 a1 := by obtain ⟨m, hm, h, -⟩ := ha.1; rw [h]; exact chk33_of hm
  iapply (own_assume d i h34)
  iapply (own_assume d i h33)
  iapply (own_ret d i)
  isplitr
  · ipureintro; exact ⟨iota_v2, fun _ => rfl, ha.1, ha.2⟩
  isplitl [Hi]; · iexact Hi
  isplitl [H6]; · iexact H6
  isplitl [H7]; · iexact H7
  iexact H8

theorem subi_ofNat {k c : ℕ} (h : c ≤ k) (hk : k < 2 ^ 32) : Scalar.subi (BitVec.ofNat 32 k) (BitVec.ofNat 32 c) = BitVec.ofNat 32 (k - c) := by
  apply BitVec.eq_of_toNat_eq
  show (BitVec.ofNat 32 k - BitVec.ofNat 32 c).toNat = _
  rw [BitVec.toNat_sub, BitVec.toNat_ofNat, BitVec.toNat_ofNat, BitVec.toNat_ofNat]
  omega

theorem mul_add_ofNat (a b : ℕ) :
    Scalar.addi (Scalar.muli (BitVec.ofNat 32 a) 2048#32) (BitVec.ofNat 32 b) = BitVec.ofNat 32 (a * 2048 + b) := by
  apply BitVec.eq_of_toNat_eq
  show (BitVec.ofNat 32 a * 2048#32 + BitVec.ofNat 32 b).toNat = _
  rw [BitVec.toNat_add, BitVec.toNat_mul, BitVec.toNat_ofNat, BitVec.toNat_ofNat, BitVec.toNat_ofNat, BitVec.toNat_ofNat]
  omega

theorem row1_sel {g x : ℕ} (hg : g < 128) (hx : x < 16) : row1W (lw (BitVec.ofNat 32 g) (BitVec.ofNat 32 x)) = sel1 (16 * g + x) := by
  rw [lw_ofNat, row1W_ofNat (by omega)]; rfl

theorem flip_sel {n g x : ℕ} (neg : BitVec 32) (hg : 16 * g + x ≤ n) (hn : n < 2048) :
    flipW (BitVec.ofNat 32 n) neg (lw (BitVec.ofNat 32 g) (BitVec.ofNat 32 x)) = BitVec.ofNat 32 (ρf 0 n neg (16 * g + x)) := by
  rw [lw_ofNat, flipW_ofNat neg hg hn]

theorem toNat_small {k : ℕ} (h : k < 2 ^ 31) : (BitVec.ofNat 32 k).toNat = k := by
  rw [BitVec.toNat_ofNat]; omega

theorem C1_lt (X : ℕ → BitVec 32) (m : ℕ) : C1 X m < 2 ^ 31 := lt_of_le_of_lt (A_le X _) (by decide)
theorem C2_lt (X : ℕ → BitVec 32) (l m : ℕ) : C2 X l m < 2 ^ 31 := lt_of_le_of_lt (A_le X _) (by decide)
theorem C3_lt (X : ℕ → BitVec 32) (l l2 m : ℕ) : C3 X l l2 m < 2 ^ 31 := lt_of_le_of_lt (A_le X _) (by decide)

/-- Block `l` is where the count reaches `k`. -/
def Blk (C : ℕ → ℕ) (k N l : ℕ) : Prop := l < N ∧ C l < k ∧ k ≤ C (l + 1)

/-- The two rows of the first histogram selected, and the third pass's histogram zeroed. -/
theorem part18 (v13_1 v13_2 v13_4 v13_5 : BitVec 32) (hw34 : k0_chk34 v13_4) (hw33 : k0_chk33 v13_1) {X : ℕ → BitVec 32}
    (hlo : GF (C1 X) 26214 128 v13_1 v13_2) (hhi : GF (C1 X) 235931 128 v13_4 v13_5) :
    (owns d i arg6 (histN (Hn1 X)) : sProp 𝕄)
      ⊢ twp d i (k0_part18 (F := F) i xV hx arg3 harg3 arg4 harg4 arg5 harg5 arg6 harg6 arg7 harg7 arg8 harg8 arg9 harg9 arg10 arg11 r v13_1 v13_2 v13_4 v13_5 hw34 hw33) fun a =>
        iprop(⌜∃ l l', Blk (C1 X) 26214 2048 l ∧ Blk (C1 X) 235931 2048 l'
            ∧ row1W (lw v13_1 a.1) = sel1 l ∧ a.2.2.1 = sel1 l ∧ row1W (lw v13_4 a.2.2.2.1) = sel1 l' ∧ a.2.2.2.2.2.1 = sel1 l'
            ∧ a.2.2.2.2.2.2.1 = BitVec.ofNat 32 (26214 - C1 X l) ∧ a.2.2.2.2.2.2.2.1 = BitVec.ofNat 32 (235931 - C1 X l')
            ∧ a.2.2.2.2.2.2.2.2.1 = negW (sel1 l) ∧ a.2.2.2.2.2.2.2.2.2 = negW (sel1 l')⌝
          ∗ owns d i arg6 (fun _ => 0#32)) := by
  rw [k0_part18_eq_skeleton]
  unfold k0_part18_skel
  simp only [Prog.lift, Prog.bind_op, Prog.bind_ret, Prog.pure_eq_ret]
  rw [t9_eq, t10_eq]
  obtain ⟨g, hg, rfl, rfl, hlt, hle⟩ := hlo
  obtain ⟨g', hg', rfl, rfl, hlt', hle'⟩ := hhi
  iintro H6
  iapply (dscan d i (C1 X) 26214 g 128 hg (off12_row hg) (fun _ => rfl) (fun n hn => cum1 _ hn) rfl rfl (C1_lt _ _) hlt hle) $$ H6
  iintro %a %ha H6
  obtain ⟨a0, a1, a2, a3⟩ := a
  dsimp only at ha ⊢
  obtain ⟨x, hx16, rfl, rfl, hl1, hl2⟩ := ha
  iapply (own_assume d i (chk51_of _ _))
  iapply (dscan d i (C1 X) 235931 g' 128 hg' (off13_row hg') (fun _ => rfl) (fun n hn => cum1 _ hn) rfl rfl (C1_lt _ _) hlt' hle') $$ H6
  iintro %a %ha H6
  obtain ⟨b0, b1, b2, b3⟩ := a
  dsimp only at ha ⊢
  obtain ⟨y, hy16, rfl, rfl, hl1', hl2'⟩ := ha
  iapply (own_assume d i (chk54_of _ _))
  iapply (zero_loop d i (by decide) (t11_step d i xV hx arg3 harg3 arg4 harg4 arg5 harg5 arg6 harg6 arg7 harg7 arg8 harg8 arg9 harg9 arg10 arg11 r _ _ _ _ _ _)) $$ [H6]
  · unfold someH; iexists _; iexact H6
  iintro H6
  iapply (own_ret d i)
  isplitr
  · ipureintro
    have e : row1W (lw (BitVec.ofNat 32 g) (BitVec.ofNat 32 x)) = sel1 (16 * g + x) := row1_sel hg hx16
    have e' : row1W (lw (BitVec.ofNat 32 g') (BitVec.ofNat 32 y)) = sel1 (16 * g' + y) := row1_sel hg' hy16
    exact ⟨16 * g + x, 16 * g' + y, ⟨by omega, hl1, hl2⟩, ⟨by omega, hl1', hl2'⟩, e, e, e', e', subi_ofNat hl1.le (by decide), subi_ofNat hl1'.le (by decide),
      congrArg negW e, congrArg negW e'⟩
  · iexact H6

/-- The second pass and the search of the first of its histograms. -/
theorem part19 (hO : ∀ g, O g none = 0) {v2 v3 : IVec S16 32} (hv2 : ∀ x, (v2 x).toNat = (x 0).val) (hv3 : ∀ x, v3 x = 1#32)
    (v13_1 v15_1 : BitVec 32) (hw51 : k0_chk51 v13_1 v15_1) (v29 : BitVec 32) {l k2 : ℕ} (hl : l < 2048) (hrow : row1W (lw v13_1 v15_1) = sel1 l)
    (hk0 : 0 < k2) (hk : k2 ≤ C2 (rowOf f (wOf i)) l 2048) :
    iprop(idle d i arg4 arg5 arg10 arg11 f qL qR O W ∗ owns d i arg7 (fun _ => 0#32) ∗ owns d i arg8 (fun _ => 0#32) : sProp 𝕄)
      ⊢ twp d i (k0_part19 (F := F) i xV hx arg3 harg3 arg4 harg4 arg5 harg5 arg6 harg6 arg7 harg7 arg8 harg8 arg9 harg9 arg10 arg11 r v2 v3 v13_1 v15_1 hw51 (sel1 l) v29 (BitVec.ofNat 32 k2) (negW (sel1 l))) fun a =>
        iprop(⌜∃ l2, Blk (C2 (rowOf f (wOf i)) l) k2 2048 l2 ∧ a.1 = BitVec.ofNat 32 (C2 (rowOf f (wOf i)) l l2)
            ∧ a.2.1 = BitVec.ofNat 32 (ρf 0 2047 (negW (sel1 l)) l2)⌝
          ∗ idle d i arg4 arg5 arg10 arg11 f qL qR O W ∗ owns d i arg7 (histN (Hn2 (rowOf f (wOf i)) (sel1 l))) ∗ owns d i arg8 (histN (Hn2 (rowOf f (wOf i)) v29))) := by
  have hC : ∀ n ≤ 16 * 128, cum (rowSum (Hn2 (rowOf f (wOf i)) (sel1 l)) (ρf 0 2047 (negW (sel1 l)))) n = C2 (rowOf f (wOf i)) l n := fun n hn => cum2 _ hl hn
  have hks : k2 < 2 ^ 31 := lt_of_le_of_lt hk (C2_lt _ _ _)
  rw [k0_part19_eq_skeleton]
  unfold k0_part19_skel
  simp only [Prog.lift, Prog.bind_op, Prog.bind_ret, Prog.pure_eq_ret]
  iintro ⟨Hi, H7, H8⟩
  have e0 : addH (fun _ => 0#32) (P2 (sel1 l)) (rowOf f (wOf i)) 0 = (fun _ => 0#32) := addH_zero _ _ _
  have e1 : addH (fun _ => 0#32) (P2 v29) (rowOf f (wOf i)) 0 = (fun _ => 0#32) := addH_zero _ _ _
  iapply (pass_start d i (off15_row i) (off15_col i) (t12_pass d i hx arg3 harg3 arg4 harg4 arg5 harg5 arg6 harg6 arg7 harg7 arg8 harg8 arg9 harg9 arg10 arg11 r hv2 hv3 v13_1 v15_1 hw51 (sel1 l) v29 (BitVec.ofNat 32 k2) (negW (sel1 l)) (f := f)
    (C := fun _ => 0#32) (C' := fun _ => 0#32) hO)) $$ [Hi H7 H8]
  · isplitl [Hi]; · iexact Hi
    rw [e0, e1]
    isplitl [H7]; · iexact H7
    iexact H8
  iintro ⟨Hi, H7, H8⟩
  rw [addH_histN2, addH_histN2, t15_eq]
  iapply (gscan d i (C2 (rowOf f (wOf i)) l) k2 k2 128 rfl (fun g t => by rw [off21_row, hrow]) (fun _ _ => rfl) hC (toNat_small hks) (toNat_small hks)
    (C2_lt _ _ _) hk0 hk0 hk hk) $$ H7
  iintro %a %ha H7
  obtain ⟨a0, a1, a2, a3, a4, a5, a6⟩ := a
  dsimp only at ha ⊢
  obtain ⟨⟨g, hg, rfl, rfl, hlt, hle⟩, ⟨g', hg', rfl, rfl, hlt', hle'⟩⟩ := ha
  iapply (own_assume d i (chk53_of _ _ hg'))
  iapply (own_assume d i (chk52_of _ _ hg))
  rw [t17_eq, t18_eq]
  iapply (dscan d i (C2 (rowOf f (wOf i)) l) k2 g 128 hg (fun t => by rw [off22_row _ _ hg, hrow]) (fun _ => rfl) hC (toNat_small hks) rfl (C2_lt _ _ _) hlt hle) $$ H7
  iintro %a %ha H7
  obtain ⟨b0, b1, b2, b3⟩ := a
  dsimp only at ha ⊢
  obtain ⟨x, hx16, rfl, rfl, hl1, hl2⟩ := ha
  iapply (dscan d i (C2 (rowOf f (wOf i)) l) k2 g' 128 hg' (fun t => by rw [off23_row _ _ hg', hrow]) (fun _ => rfl) hC (toNat_small hks) rfl (C2_lt _ _ _) hlt' hle') $$ H7
  iintro %a %ha H7
  obtain ⟨c0, c1, c2, c3⟩ := a
  dsimp only at ha ⊢
  iapply (own_ret d i)
  isplitr
  · ipureintro
    exact ⟨16 * g + x, ⟨by omega, hl1, hl2⟩, rfl, flip_sel _ (by omega) (by decide)⟩
  isplitl [Hi]; · iexact Hi
  isplitl [H7]; · iexact H7
  iexact H8

/-- The search of the second histogram of the second pass, and the prefixes of twenty-two bits. -/
theorem part20 (v13_4 v23_1 : BitVec 32) (hw54 : k0_chk54 v13_4 v23_1) (v54 : BitVec 32) (v55 : BitVec 1) (c2047 : BitVec 32) {X : ℕ → BitVec 32}
    {l l' k2 k2' l2 : ℕ} (hl' : l' < 2048) (hrow : row1W (lw v13_4 v23_1) = sel1 l') (hk0 : 0 < k2') (hk : k2' ≤ C2 X l' 2048)
    (hb : Blk (C2 X l) k2 2048 l2) (hks2 : k2 < 2 ^ 31) :
    (owns d i arg8 (histN (Hn2 X (sel1 l'))) : sProp 𝕄)
      ⊢ twp d i (k0_part20 (F := F) i xV hx arg3 harg3 arg4 harg4 arg5 harg5 arg6 harg6 arg7 harg7 arg8 harg8 arg9 harg9 arg10 arg11 r v13_4 (sel1 l) v23_1 hw54 (sel1 l') (BitVec.ofNat 32 k2) (BitVec.ofNat 32 k2') (negW (sel1 l'))
          (BitVec.ofNat 32 (C2 X l l2)) (BitVec.ofNat 32 (ρf 0 2047 (negW (sel1 l)) l2)) v54 v55 c2047) fun a =>
        iprop(⌜∃ l2', Blk (C2 X l') k2' 2048 l2' ∧ a.1 = BitVec.ofNat 32 (k2 - C2 X l l2) ∧ a.2.1 = BitVec.ofNat 32 (k2' - C2 X l' l2')
            ∧ a.2.2.1 = sel2 l l2 ∧ a.2.2.2 = sel2 l' l2'⌝
          ∗ owns d i arg8 (histN (Hn2 X (sel1 l')))) := by
  have hC : ∀ n ≤ 16 * 128, cum (rowSum (Hn2 X (sel1 l')) (ρf 0 2047 (negW (sel1 l')))) n = C2 X l' n := fun n hn => cum2 _ hl' hn
  have hks : k2' < 2 ^ 31 := lt_of_le_of_lt hk (C2_lt _ _ _)
  rw [k0_part20_eq_skeleton]
  unfold k0_part20_skel
  simp only [Prog.lift, Prog.bind_op, Prog.bind_ret, Prog.pure_eq_ret]
  iintro H8
  rw [t19_eq]
  iapply (gscan d i (C2 X l') k2' k2' 128 rfl (fun g t => by rw [off24_row, hrow]) (fun _ _ => rfl) hC (toNat_small hks) (toNat_small hks)
    (C2_lt _ _ _) hk0 hk0 hk hk) $$ H8
  iintro %a %ha H8
  obtain ⟨a0, a1, a2, a3, a4, a5, a6⟩ := a
  dsimp only at ha ⊢
  obtain ⟨⟨g, hg, rfl, rfl, hlt, hle⟩, ⟨g', hg', rfl, rfl, hlt', hle'⟩⟩ := ha
  iapply (own_assume d i (chk56_of _ _ hg'))
  iapply (own_assume d i (chk55_of _ _ hg))
  rw [t21_eq, t22_eq]
  iapply (dscan d i (C2 X l') k2' g 128 hg (fun t => by rw [off25_row _ _ hg, hrow]) (fun _ => rfl) hC (toNat_small hks) rfl (C2_lt _ _ _) hlt hle) $$ H8
  iintro %a %ha H8
  obtain ⟨b0, b1, b2, b3⟩ := a
  dsimp only at ha ⊢
  obtain ⟨x, hx16, rfl, rfl, hl1, hl2⟩ := ha
  iapply (dscan d i (C2 X l') k2' g' 128 hg' (fun t => by rw [off26_row _ _ hg', hrow]) (fun _ => rfl) hC (toNat_small hks) rfl (C2_lt _ _ _) hlt' hle') $$ H8
  iintro %a %ha H8
  obtain ⟨c0, c1, c2, c3⟩ := a
  dsimp only at ha ⊢
  iapply (own_ret d i)
  isplitr
  · ipureintro
    have e : flipW 2047#32 (negW (sel1 l')) (lw (BitVec.ofNat 32 g) (BitVec.ofNat 32 x)) = BitVec.ofNat 32 (ρf 0 2047 (negW (sel1 l')) (16 * g + x)) :=
      flip_sel _ (by omega) (by decide)
    exact ⟨16 * g + x, ⟨by omega, hl1, hl2⟩, subi_ofNat hb.2.1.le (by omega), subi_ofNat hl1.le (by omega), mul_add_ofNat _ _,
      (congrArg (Scalar.addi _) e).trans (mul_add_ofNat _ _)⟩
  · iexact H8

/-- The third pass and the search of the lower half of its histogram. -/
theorem part21 (hO : ∀ g, O g none = 0) {v2 v3 : IVec S16 32} (hv2 : ∀ x, (v2 x).toNat = (x 0).val) (hv3 : ∀ x, v3 x = 1#32)
    (v13_1 v15_1 : BitVec 32) (hw51 : k0_chk51 v13_1 v15_1) (v79 : BitVec 32) {l l2 k3 : ℕ} (hl : l < 2048) (hl2 : l2 < 2048)
    (hrow : row1W (lw v13_1 v15_1) = sel1 l) (hk0 : 0 < k3) (hk : k3 ≤ C3 (rowOf f (wOf i)) l l2 1024) :
    iprop(idle d i arg4 arg5 arg10 arg11 f qL qR O W ∗ owns d i arg6 (fun _ => 0#32) : sProp 𝕄)
      ⊢ twp d i (k0_part21 (F := F) i xV hx arg3 harg3 arg4 harg4 arg5 harg5 arg6 harg6 arg7 harg7 arg8 harg8 arg9 harg9 arg10 arg11 r v2 v3 v13_1 v15_1 hw51 (negW (sel1 l)) (BitVec.ofNat 32 k3) (sel2 l l2) v79) fun a =>
        iprop(⌜∃ l3, Blk (C3 (rowOf f (wOf i)) l l2) k3 1024 l3 ∧ a.1 = BitVec.ofNat 32 (ρf 0 1023 (negW (sel1 l)) l3) ∧ a.2.1 = 0#32 ∧ a.2.2 = 0#32⌝
          ∗ idle d i arg4 arg5 arg10 arg11 f qL qR O W ∗ owns d i arg6 (histN (Hn3 (rowOf f (wOf i)) (sel2 l l2) v79))) := by
  have hC : ∀ n ≤ 16 * 64, cum (rowSum (Hn3 (rowOf f (wOf i)) (sel2 l l2) v79) (ρf 0 1023 (negW (sel1 l)))) n = C3 (rowOf f (wOf i)) l l2 n :=
    fun n hn => cum3a _ hl hl2 _ hn
  have hks : k3 < 2 ^ 31 := lt_of_le_of_lt hk (C3_lt _ _ _ _)
  rw [k0_part21_eq_skeleton]
  unfold k0_part21_skel
  simp only [Prog.lift, Prog.bind_op, Prog.bind_ret, Prog.pure_eq_ret]
  iintro ⟨Hi, H6⟩
  have e0 : addH (addH (fun _ => 0#32) (P3 1024 v79) (rowOf f (wOf i)) 0) (P3 0 (sel2 l l2)) (rowOf f (wOf i)) 0 = (fun _ => 0#32) := by
    rw [addH_zero, addH_zero]
  iapply (pass_start d i (off27_row i) (off27_col i) (t23_pass d i hx arg3 harg3 arg4 harg4 arg5 harg5 arg6 harg6 arg7 harg7 arg8 harg8 arg9 harg9 arg10 arg11 r hv2 hv3 v13_1 v15_1 hw51 (negW (sel1 l)) (BitVec.ofNat 32 k3) (sel2 l l2) v79 (f := f)
    (C := fun _ => 0#32) hO)) $$ [Hi H6]
  · isplitl [Hi]; · iexact Hi
    rw [e0]
    iexact H6
  iintro ⟨Hi, H6⟩
  rw [addH_histN3, t26_eq]
  iapply (gscan d i (C3 (rowOf f (wOf i)) l l2) k3 k3 64 rfl (fun g t => by rw [off33_row, hrow]) (fun _ _ => rfl) hC (toNat_small hks) (toNat_small hks)
    (C3_lt _ _ _ _) hk0 hk0 hk hk) $$ H6
  iintro %a %ha H6
  obtain ⟨a0, a1, a2, a3, a4, a5, a6⟩ := a
  dsimp only at ha ⊢
  obtain ⟨⟨g, hg, rfl, rfl, hlt, hle⟩, ⟨g', hg', rfl, rfl, hlt', hle'⟩⟩ := ha
  iapply (own_assume d i (chk90_of _ _ hg'))
  iapply (own_assume d i (chk89_of _ _ hg))
  rw [t28_eq, t29_eq]
  iapply (dscan d i (C3 (rowOf f (wOf i)) l l2) k3 g 64 hg (fun t => by rw [off34_row _ _ hg, hrow]) (fun _ => rfl) hC (toNat_small hks) rfl (C3_lt _ _ _ _) hlt hle) $$ H6
  iintro %a %ha H6
  obtain ⟨b0, b1, b2, b3⟩ := a
  dsimp only at ha ⊢
  obtain ⟨x, hx16, rfl, rfl, hl1, hl2'⟩ := ha
  iapply (dscan d i (C3 (rowOf f (wOf i)) l l2) k3 g' 64 hg' (fun t => by rw [off35_row _ _ hg', hrow]) (fun _ => rfl) hC (toNat_small hks) rfl (C3_lt _ _ _ _) hlt' hle') $$ H6
  iintro %a %ha H6
  obtain ⟨c0, c1, c2, c3⟩ := a
  dsimp only at ha ⊢
  iapply (own_ret d i)
  isplitr
  · ipureintro
    exact ⟨16 * g + x, ⟨by omega, hl1, hl2'⟩, flip_sel _ (by omega) (by decide), rfl, rfl⟩
  isplitl [Hi]; · iexact Hi
  iexact H6

/-- The search of the upper half of the third pass's histogram, and the two keys. -/
theorem part22 (v13_4 v23_1 : BitVec 32) (hw54 : k0_chk54 v13_4 v23_1) {X : ℕ → BitVec 32} {l l2 l3 l' l2' k3 : ℕ} (hl' : l' < 2048) (hl2' : l2' < 2048)
    (hrow : row1W (lw v13_4 v23_1) = sel1 l') (hk0 : 0 < k3) (hk : k3 ≤ C3 X l' l2' 1024) :
    (owns d i arg6 (histN (Hn3 X (sel2 l l2) (sel2 l' l2'))) : sProp 𝕄)
      ⊢ twp d i (k0_part22 (F := F) i xV hx arg3 harg3 arg4 harg4 arg5 harg5 arg6 harg6 arg7 harg7 arg8 harg8 arg9 harg9 arg10 arg11 r v13_4 v23_1 hw54 (negW (sel1 l')) (BitVec.ofNat 32 k3) (sel2 l l2) (sel2 l' l2')
          (BitVec.ofNat 32 (ρf 0 1023 (negW (sel1 l)) l3)) 0#32 0#32) fun a =>
        iprop(⌜∃ l3', Blk (C3 X l' l2') k3 1024 l3' ∧ a.2.1 = keyW (selW l l2 l3) ∧ Scalar.select a.2.2.1 a.1 a.2.2.2 = keyW (selW l' l2' l3')⌝
          ∗ owns d i arg6 (histN (Hn3 X (sel2 l l2) (sel2 l' l2')))) := by
  have hC : ∀ n ≤ 16 * 64, cum (rowSum (Hn3 X (sel2 l l2) (sel2 l' l2')) (ρf 1024 1023 (negW (sel1 l')))) n = C3 X l' l2' n :=
    fun n hn => cum3b _ hl' hl2' _ hn
  have hks : k3 < 2 ^ 31 := lt_of_le_of_lt hk (C3_lt _ _ _ _)
  rw [k0_part22_eq_skeleton]
  unfold k0_part22_skel
  simp only [Prog.lift, Prog.bind_op, Prog.bind_ret, Prog.pure_eq_ret]
  iintro H6
  rw [t30_eq]
  iapply (gscan d i (C3 X l' l2') k3 k3 64 rfl (fun g t => by rw [off36_row, hrow]) (fun _ _ => rfl) hC (toNat_small hks) (toNat_small hks)
    (C3_lt _ _ _ _) hk0 hk0 hk hk) $$ H6
  iintro %a %ha H6
  obtain ⟨a0, a1, a2, a3, a4, a5, a6⟩ := a
  dsimp only at ha ⊢
  obtain ⟨⟨g, hg, rfl, rfl, hlt, hle⟩, ⟨g', hg', rfl, rfl, hlt', hle'⟩⟩ := ha
  iapply (own_assume d i (chk92_of _ _ hg'))
  iapply (own_assume d i (chk91_of _ _ hg))
  rw [t32_eq, t33_eq]
  iapply (dscan d i (C3 X l' l2') k3 g 64 hg (fun t => by rw [off37_row _ _ hg, hrow]) (fun _ => rfl) hC (toNat_small hks) rfl (C3_lt _ _ _ _) hlt hle) $$ H6
  iintro %a %ha H6
  obtain ⟨b0, b1, b2, b3⟩ := a
  dsimp only at ha ⊢
  obtain ⟨x, hx16, rfl, rfl, hl1, hl2⟩ := ha
  iapply (dscan d i (C3 X l' l2') k3 g' 64 hg' (fun t => by rw [off38_row _ _ hg', hrow]) (fun _ => rfl) hC (toNat_small hks) rfl (C3_lt _ _ _ _) hlt' hle') $$ H6
  iintro %a %ha H6
  obtain ⟨c0, c1, c2, c3⟩ := a
  dsimp only at ha ⊢
  iapply (own_ret d i)
  isplitr
  · ipureintro
    have e : flipW 1023#32 (negW (sel1 l')) (lw (BitVec.ofNat 32 g) (BitVec.ofNat 32 x)) = BitVec.ofNat 32 (ρf 0 1023 (negW (sel1 l')) (16 * g + x)) :=
      flip_sel _ (by omega) (by decide)
    exact ⟨16 * g + x, ⟨by omega, hl1, hl2⟩, rfl, congrArg (fun w => keyW (Scalar.ori (Scalar.shli (sel2 l' l2') 10#32) w)) e⟩
  · iexact H6

end

end Cert.Proof
-- ==== Proof.Tile.lean ====
/-
  The tile's whole body: from its row of words and the row of thresholds it is to write, to the keys it selects, written.
-/
module

public import proofs.«01_k».proof.Proof.Parts

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- The elements of one row of the array of thresholds. -/
def outSet (w : ℕ) : Finset S32x16.Idx := Finset.univ.filter fun j => (j 0).val = w

/-- The element of row `w`, column `c`. -/
def outIx (w c : ℕ) (hw : w < 32) (hc : c < 16) : S32x16.Idx := fun | 0 => ⟨w, hw⟩ | 1 => ⟨c, hc⟩

/-- A lane of the vector of keys. -/
def laneIx (c : ℕ) (hc : c < 16) : S16.Idx := fun | 0 => ⟨c, hc⟩

theorem emb_lane (x : S16.Idx) : (Rect.unit (s := S16) ![0] S16.size inb_S16_S16_0).emb x = x := by
  funext a
  apply Fin.ext
  rw [Rect.emb_apply]
  fin_cases a
  show 0 + 1 * (x 0).val = (x 0).val
  omega

/-- The slice of the array of thresholds the last copy writes. -/
abbrev dstM (off : Fin 2 → ℕ) (inb : ∀ a, off a + S1x16.size a ≤ S32x16.size a) : Memref sig .scVector .hbm S16 .i32 :=
  ((Memref.whole main_v1_scv : Memref sig .scVector .hbm S32x16 .i32).slice (Rect.unit (s := S32x16) off S1x16.size inb) (fun _ => rfl)).squeeze
    S16 squeezes_S1x16_S16

omit [FloatOps F] in
theorem dst_read {off : Fin 2 → ℕ} {inb : ∀ a, off a + S1x16.size a ≤ S32x16.size a} {w : ℕ} (h0 : off 0 = w) (h1 : off 1 = 0) (hw : w < 32)
    (f : S32x16.Idx → BitVec 32) (c : ℕ) (hc : c < 16) :
    (dstM off inb).view.read (Elt F) f (laneIx c hc) = f (outIx w c hw hc) := by
  show f ((Rect.unit (s := S32x16) off S1x16.size inb).emb (Shape.reshapeEquiv _ _)) = _
  refine congrArg f ?_
  have e : ∀ h, (Shape.reshapeEquiv (s := S1x16) h (laneIx c hc))
      = (Fin.cons (⟨0, Nat.one_pos⟩ : Fin 1) (laneIx c hc) : S1x16.Idx) := fun h => Shape.reshapeEquiv_cons_one h _
  rw [e]
  funext a
  apply Fin.ext
  rw [Rect.emb_apply]
  fin_cases a
  · show off 0 + 1 * 0 = w
    omega
  · show off 1 + 1 * c = c
    omega

theorem dst_set {off : Fin 2 → ℕ} {inb : ∀ a, off a + S1x16.size a ≤ S32x16.size a} {w : ℕ} (h0 : off 0 = w) :
    (dstM off inb).view.set ⊆ outSet w := by
  intro j hj
  simp only [View.set_reshape, Memref.view_squeeze, Memref.view_slice, Memref.view_whole, View.set_slice_whole] at hj
  have := Rect.mem_set_unit.mp hj 0
  have h2 : off 0 ≤ (j 0).val ∧ (j 0).val < off 0 + 1 := this
  unfold outSet
  rw [Finset.mem_filter]
  exact ⟨Finset.mem_univ _, by omega⟩

/-- What a row of thresholds has to hold: the key at which the count of the row's words reaches the lower threshold, and
    the one at which it reaches the upper. -/
def GoodRow (f : S32x262144.Idx → BitVec 32) (w : ℕ) (g : S32x16.Idx → BitVec 32) : Prop :=
  ∃ hw : w < 32, Sel (rowOf f w) 26214 (g (outIx w 0 hw (by decide))) ∧ Sel (rowOf f w) 235931 (g (outIx w 1 hw (by decide)))

section
variable (d : Dev nD) (i : grid0.Coords)

/-- One row of the array of thresholds. -/
def ys (w : ℕ) (g : S32x16.Idx → BitVec 32) : sProp 𝕄 :=
  ((Memref.whole main_v1_scv : Memref sig .scVector .hbm S32x16 .i32).view.loc (thr d i) ↦[outSet w]{fullShare} g)

/-- The last copy: the vector of keys written to the tile's row. -/
theorem out_stage {sem : DmaSem sig} {Hv : S16.Idx → BitVec 32} {w : ℕ} (hw : w < 32) {g : S32x16.Idx → BitVec 32}
    {off : Fin 2 → ℕ} {inb : ∀ a, off a + S1x16.size a ≤ S32x16.size a} (h0 : off 0 = w) (h1 : off 1 = 0)
    {O : CellTallies nD τ sig (HIx 1)} {W : Waits sig (HIx 1)} (hO : ∀ g, O g none = 0)
    {p1 p2 p3 p4 p5} {α : Type} {k : PUnit → TProg F i α} {Q : α → sProp 𝕄} :
    iprop(levAts (K (F := F)).L (K (F := F)).lev ∗ owns d i oB Hv ∗ ys d i w g ∗ semVal (thr d i, .dma sem) 0 ∗ wts d i O W)
      ⊢ iprop((iprop((∃ g' : S32x16.Idx → BitVec 32, ⌜∀ c hc, g' (outIx w c hw hc) = Hv (laneIx c hc)⌝ ∗ ys d i w g') ∗ owns d i oB Hv
            ∗ semVal (thr d i, .dma sem) 0 ∗ wts d i O W) -∗ twp d i (k ⟨⟩) Q)
        -∗ twp d i (.op (.enqueueDma oB (.here (dstM off inb)) (.dma sem) p1 p2 p3) fun _ => .op (.waitDma2 sem oB (dstM off inb) p4 p5) k) Q) := by
  unfold owns ys wts
  iintro ⟨Hlv, ⟨%fo, %hfo, Ho⟩, Hy, Hv, %W', %hW', HO⟩ Hk
  have es : (oB.view.loc (thr d i) ↦{fullShare} fo : sProp 𝕄) = (oB.view.loc (thr d i) ↦[oB.view.set]{fullShare} fo) := by
    simp only [Memref.view_whole, View.set_whole]
  ihave Ho := (Entails.of_eq es) $$ Ho
  iapply (Transfers.wp_dmaLocal countersEmb 𝒱₀ (thr d i) none (src := oB) (dst := dstM off inb) (sm := .dma sem) (q := fullShare) (Sd := outSet w)
    none (dstM off inb).view.dmaCredit rfl (View.amount_pos (dstM off inb).view (.dma sem) (show 0 < S16.numel by decide)) (dst_set h0)) $$ [Ho Hy Hv]
  · isplitl [Ho]; · iexact Ho
    isplitl [Hy]; · iexact Hy
    iexact Hv
  iintro Hf
  ihave Hmw := ((K (F := F)).mayWait_none (thr := thr d i) (SemLoc.dma sem) hO) $$ Hlv
  iapply (Transfers.wp_waitLocalO countersEmb 𝒱₀ (thr d i) none none (dstw := dstM off inb) rfl) $$ [Hf HO Hmw]
  · isplitl [Hf]; · iexact Hf
    isplitl [HO]; · iexact HO
    iexact Hmw
  iintro ⟨⟨Hy, Ho⟩, Hv, HO⟩
  iapply Hk
  isplitl [Hy]
  · iexists ((dstM off inb).view.write (Elt F) g (oB.view.read (Elt F) fo) Finset.univ)
    isplitr
    · ipureintro
      intro c hc
      refine (dst_read (F := F) (inb := inb) h0 h1 hw _ c hc).symm.trans ?_
      refine (congrFun (View.read_write_univ (Val := Elt F) _ _) _).trans ?_
      exact congrFun hfo _
    · iexact Hy
  isplitl [Ho]
  · iexists fo
    isplitr; · ipureintro; exact hfo
    iapply (Entails.of_eq es.symm) $$ Ho
  isplitl [Hv]; · iexact Hv
  iexists (insert (SemLoc.dma sem, (none : HIx 1)) W')
  isplitr
  · ipureintro
    intro p hp
    rcases Finset.mem_insert.mp hp with hp | hp
    · exact .inr (hp ▸ rfl)
    · exact hW' p hp
  · iexact HO

/-- The keys' vector: the lower key at lane 0, the upper at lane 1. -/
theorem pay_lane {v2 : IVec S16 32} (hv2 : ∀ x, (v2 x).toNat = (x 0).val) (v120 v123 : BitVec 32) (v124 : BitVec 1) (v125 : BitVec 32) :
    k0_pay1 v2 v120 v123 v124 v125 (laneIx 0 (by decide)) = v123
      ∧ k0_pay1 v2 v120 v123 v124 v125 (laneIx 1 (by decide)) = Scalar.select v124 v120 v125 := by
  have e0 : v2 (laneIx 0 (by decide)) = 0#32 := BitVec.eq_of_toNat_eq (hv2 _)
  have e1 : v2 (laneIx 1 (by decide)) = 1#32 := BitVec.eq_of_toNat_eq (hv2 _)
  have h : ∀ x, k0_pay1 v2 v120 v123 v124 v125 x
      = Scalar.select (Scalar.cmpi .eq (v2 x) 0#32) v123 (Scalar.select (Scalar.cmpi .eq (v2 x) 1#32) (Scalar.select v124 v120 v125) 0#32) := fun x => rfl
  rw [h, h, e0, e1]
  exact ⟨rfl, rfl⟩

/-- What the tile's body is handed and hands back besides its rows: its scratch arrays and semaphores. -/
def scratchAt (arg10 arg11 r : DmaSems sig S_) : sProp 𝕄 :=
  iprop(some8 d i b0 ∗ some8 d i b1 ∗ someH d i hA ∗ someH d i hB ∗ someH d i hC ∗ (∃ H : S16.Idx → BitVec 32, owns d i oB H)
    ∗ semVal (thr d i, .dma arg10.sem) 0 ∗ semVal (thr d i, .dma arg11.sem) 0 ∗ semVal (thr d i, .dma r.sem) 0)

/-- A part of the body, then the rest. -/
theorem own_bind {α β : Type} {p : TProg F i α} {k : α → TProg F i β} {P : sProp 𝕄} {Q' : α → sProp 𝕄} {Q : β → sProp 𝕄} (h : P ⊢ twp d i p Q') :
    P ⊢ iprop((∀ a, Q' a -∗ twp d i (k a) Q) -∗ twp d i (p >>= k) Q) := by
  unfold twp at h ⊢
  rw [wp_bind]
  exact h.trans (wp_wand _ _ _)

/-- The tile's body: its row of words kept, its row of thresholds good. -/
theorem tile_body {hx ho h4 h5 h6 h7 h8 h9} (arg10 arg11 r : DmaSems sig S_) {f : S32x262144.Idx → BitVec 32} {g : S32x16.Idx → BitVec 32}
    {O : CellTallies nD τ sig (HIx 1)} {W : Waits sig (HIx 1)} (hO : ∀ g, O g none = 0) :
    iprop(levAts (K (F := F)).L (K (F := F)).lev ∗ xs d i (wOf i) f fullShare ∗ ys d i (wOf i) g ∗ scratchAt d i arg10 arg11 r ∗ wts d i O W)
      ⊢ twp d i (cc0__sc_select_body (F := F) i xV hx oV ho b0 h4 b1 h5 hA h6 hB h7 hC h8 oB h9 arg10 arg11 r) fun _ =>
        iprop(xs d i (wOf i) f fullShare ∗ (∃ g' : S32x16.Idx → BitVec 32, ⌜GoodRow f (wOf i) g'⌝ ∗ ys d i (wOf i) g') ∗ scratchAt d i arg10 arg11 r ∗ wts d i O W) := by
  rw [cc0__sc_select_body_eq_skeleton]
  unfold cc0__sc_select_body_skel
  simp only [Prog.lift, Prog.bind_op, Prog.bind_ret, Prog.pure_eq_ret]
  have exs : (xs d i (wOf i) f fullShare : sProp 𝕄) ⊣⊢ iprop(xs d i (wOf i) f fullShare.left ∗ xs d i (wOf i) f fullShare.right) :=
    pointsTo_share (PosShare.mem_left_op_right fullShare)
  unfold scratchAt
  iintro ⟨#Hlv, Hx, Hy, ⟨Hb0, Hb1, H6, H7, H8, Ho, Hs0, Hs1, Hr⟩, Hw⟩
  ihave ⟨HxL, HxR⟩ := exs.1 $$ Hx
  iapply (own_bind d i (part17 d i hx oV ho b0 h4 b1 h5 hA h6 hB h7 hC h8 oB h9 arg10 arg11 r hO (f := f) (W := W))) $$ [HxL HxR Hb0 Hb1 H6 H7 H8 Hs0 Hs1 Hw]
  · unfold idle
    isplitl [HxL HxR Hb0 Hb1 Hs0 Hs1 Hw]
    · isplitr; · iexact Hlv
      isplitl [Hb0]; · iexact Hb0
      isplitl [HxL]; · iexact HxL
      isplitl [Hs0]; · iexact Hs0
      isplitl [Hb1]; · iexact Hb1
      isplitl [HxR]; · iexact HxR
      isplitl [Hs1]; · iexact Hs1
      iexact Hw
    isplitl [H6]; · iexact H6
    isplitl [H7]; · iexact H7
    iexact H8
  iintro %a ⟨%ha, Hi, H6, H7, H8⟩
  obtain ⟨v2, v3, v13_1, v13_2, v13_4, v13_5, hw34, hw33⟩ := a
  dsimp only at ha ⊢
  obtain ⟨hv2, hv3, hg, hg'⟩ := ha
  iapply (own_bind d i (part18 d i hx oV ho b0 h4 b1 h5 hA h6 hB h7 hC h8 oB h9 arg10 arg11 r v13_1 v13_2 v13_4 v13_5 hw34 hw33 hg hg')) $$ H6
  iintro %a ⟨%ha, H6⟩
  obtain ⟨v15_1, hw51, v21, v23_1, hw54, v29, v30, v31, v33, v35⟩ := a
  dsimp only at ha ⊢
  obtain ⟨l, l', hl, hl', hrow, rfl, hrow', rfl, rfl, rfl, rfl, rfl⟩ := ha
  have hk2 : 0 < 26214 - C1 (rowOf f (wOf i)) l ∧ 26214 - C1 (rowOf f (wOf i)) l ≤ C2 (rowOf f (wOf i)) l 2048 := by
    have h1 := C2_all (rowOf f (wOf i)) l
    have h2 := hl.2.1
    have h3 := hl.2.2
    omega
  have hk2' : 0 < 235931 - C1 (rowOf f (wOf i)) l' ∧ 235931 - C1 (rowOf f (wOf i)) l' ≤ C2 (rowOf f (wOf i)) l' 2048 := by
    have h1 := C2_all (rowOf f (wOf i)) l'
    have h2 := hl'.2.1
    have h3 := hl'.2.2
    omega
  iapply (own_bind d i (part19 d i hx oV ho b0 h4 b1 h5 hA h6 hB h7 hC h8 oB h9 arg10 arg11 r hO hv2 hv3 v13_1 v15_1 hw51 (sel1 l') hl.1 hrow hk2.1 hk2.2 (f := f) (W := W))) $$ [Hi H7 H8]
  · isplitl [Hi]; · iexact Hi
    isplitl [H7]; · iexact H7
    iexact H8
  iintro %a ⟨%ha, Hi, H7, H8⟩
  obtain ⟨v45_2, v50, v54, v55, c2047⟩ := a
  dsimp only at ha ⊢
  obtain ⟨l2, hl2, rfl, rfl⟩ := ha
  iapply (own_bind d i (part20 d i hx oV ho b0 h4 b1 h5 hA h6 hB h7 hC h8 oB h9 arg10 arg11 r v13_4 v23_1 hw54 v54 v55 c2047 hl'.1 hrow' hk2'.1 hk2'.2 hl2 (by omega))) $$ H8
  iintro %a ⟨%ha, H8⟩
  obtain ⟨v74, v75, v77, v79⟩ := a
  dsimp only at ha ⊢
  obtain ⟨l2', hl2', rfl, rfl, rfl, rfl⟩ := ha
  have hk3 : 0 < 26214 - C1 (rowOf f (wOf i)) l - C2 (rowOf f (wOf i)) l l2
      ∧ 26214 - C1 (rowOf f (wOf i)) l - C2 (rowOf f (wOf i)) l l2 ≤ C3 (rowOf f (wOf i)) l l2 1024 := by
    have h1 := C3_all (rowOf f (wOf i)) l l2
    have h2 := hl2.2.1
    have h3 := hl2.2.2
    omega
  have hk3' : 0 < 235931 - C1 (rowOf f (wOf i)) l' - C2 (rowOf f (wOf i)) l' l2'
      ∧ 235931 - C1 (rowOf f (wOf i)) l' - C2 (rowOf f (wOf i)) l' l2' ≤ C3 (rowOf f (wOf i)) l' l2' 1024 := by
    have h1 := C3_all (rowOf f (wOf i)) l' l2'
    have h2 := hl2'.2.1
    have h3 := hl2'.2.2
    omega
  iapply (own_bind d i (part21 d i hx oV ho b0 h4 b1 h5 hA h6 hB h7 hC h8 oB h9 arg10 arg11 r hO hv2 hv3 v13_1 v15_1 hw51 (sel2 l' l2') hl.1 hl2.1 hrow hk3.1 hk3.2 (f := f) (W := W))) $$ [Hi H6]
  · isplitl [Hi]; · iexact Hi
    iexact H6
  iintro %a ⟨%ha, Hi, H6⟩
  obtain ⟨v93, c162, c163⟩ := a
  dsimp only at ha ⊢
  obtain ⟨l3, hl3, rfl, rfl, rfl⟩ := ha
  iapply (own_bind d i (part22 d i hx oV ho b0 h4 b1 h5 hA h6 hB h7 hC h8 oB h9 arg10 arg11 r v13_4 v23_1 hw54 hl'.1 hl2'.1 hrow' hk3'.1 hk3'.2)) $$ H6
  iintro %a ⟨%ha, H6⟩
  obtain ⟨v120, v123, v124, v125⟩ := a
  dsimp only at ha ⊢
  obtain ⟨l3', hl3', hlo, hhi⟩ := ha
  icases Ho with ⟨%Ho0, Ho⟩
  iapply (own_load d i) $$ Ho
  iintro Ho
  iapply (own_store d i (k0_pay1 v2 v120 v123 v124 v125) (fun x => congrArg _ (emb_lane x))
    (fun y hy => absurd (emb_lane y) (hy y))) $$ Ho
  iintro Ho
  unfold idle
  icases Hi with ⟨-, Hb0, HxL, Hs0, Hb1, HxR, Hs1, Hw⟩
  iapply (out_stage d i (wOf_lt i) (word_w i) rfl hO) $$ [Ho Hy Hr Hw]
  · isplitr; · iexact Hlv
    isplitl [Ho]; · iexact Ho
    isplitl [Hy]; · iexact Hy
    isplitl [Hr]; · iexact Hr
    iexact Hw
  iintro ⟨⟨%g', %hg', Hy⟩, Ho, Hr, Hw⟩
  iapply (own_ret d i)
  isplitl [HxL HxR]
  · iapply exs.2
    isplitl [HxL]; · iexact HxL
    iexact HxR
  isplitl [Hy]
  · iexists g'
    isplitr
    · ipureintro
      have hp := pay_lane hv2 v120 v123 v124 v125
      refine ⟨wOf_lt i, ?_, ?_⟩
      · rw [hg' 0 (by decide), hp.1, hlo]
        exact sel_of hl.1 hl2.1 hl3.1 hl.2.1 hl2.2.1 hl3.2.1 hl3.2.2
      · rw [hg' 1 (by decide), hp.2, hhi]
        exact sel_of hl'.1 hl2'.1 hl3'.1 hl'.2.1 hl2'.2.1 hl3'.2.1 hl3'.2.2
    · iexact Hy
  isplitr [Hw]
  · isplitl [Hb0]; · iexact Hb0
    isplitl [Hb1]; · iexact Hb1
    isplitl [H6]; · unfold someH; iexists _; iexact H6
    isplitl [H7]; · unfold someH; iexists _; iexact H7
    isplitl [H8]; · unfold someH; iexists _; iexact H8
    isplitl [Ho]; · iexists _; iexact Ho
    isplitl [Hs0]; · iexact Hs0
    isplitl [Hs1]; · iexact Hs1
    iexact Hr
  · iexact Hw

end

end Cert.Proof
-- ==== Proof.Task.lean ====
/-
  What the SparseCore call hands its tiles, and what they hand back: a tile gets one row of the words and one row of the
  thresholds, and leaves good thresholds in the latter.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of SparseCore `c`, subcore `s`. -/
def gp (c : Fin (grid0.bound 0)) (s : Fin (grid0.bound 1)) : grid0.Coords :=
  fun | 0 => c | 1 => s | ⟨_ + 2, h⟩ => absurd h (Nat.not_lt.2 (Nat.le_add_left _ _))

variable (X : Dev nD → S32x262144.Idx → BitVec 32) (g₀ : Dev nD → S32x16.Idx → BitVec 32)

/-- What a tile is handed, and what it hands back. -/
def tin (d : Dev nD) (c : Fin 2) (s : Fin 16) : sProp 𝕄 :=
  iprop(xs d (gp c s) (wOf (gp c s)) (X d) fullShare ∗ ys d (gp c s) (wOf (gp c s)) (g₀ d))
def tout (d : Dev nD) (c : Fin 2) (s : Fin 16) : sProp 𝕄 :=
  iprop(xs d (gp c s) (wOf (gp c s)) (X d) fullShare ∗ ∃ g : S32x16.Idx → BitVec 32, ⌜GoodRow (X d) (wOf (gp c s)) g⌝ ∗ ys d (gp c s) (wOf (gp c s)) g)

instance tin_storable (d : Dev nD) (c : Fin 2) (s : Fin 16) : BI.Storable (upEmb : UEmb _ 𝕄) (tin X g₀ d c s) := by
  unfold tin xs ys; infer_instance
instance tout_storable (d : Dev nD) (c : Fin 2) (s : Fin 16) : BI.Storable (upEmb : UEmb _ 𝕄) (tout X d c s) := by
  unfold tout xs ys; infer_instance

/-- What the call's handshakes carry. -/
def P : (K (F := F)).Pay (nD := nD) (Val := Elt F) (Name := ℕ) (U := UU) where
  st := fun q d c => match q with | 0 => bigSep Finset.univ fun s : Fin 16 => tin X g₀ d c s
  dn := fun q d c => match q with | 0 => bigSep Finset.univ fun s : Fin 16 => tout X d c s
  go := fun q d c s => match q with | 0 => tin X g₀ d c s
  td := fun q d c s => match q with | 0 => tout X d c s
  x := fun _ _ => iprop(emp)

instance P_storable : (P (F := F) X g₀).IsStorable where
  st q d c := match q with
    | 0 => (inferInstance : BI.Storable (upEmb : UEmb _ 𝕄) (bigSep Finset.univ fun s : Fin 16 => tin X g₀ d c s))
  dn q d c := match q with
    | 0 => (inferInstance : BI.Storable (upEmb : UEmb _ 𝕄) (bigSep Finset.univ fun s : Fin 16 => tout X d c s))
  go q d c s := match q with | 0 => tin_storable X g₀ d c s
  td q d c s := match q with | 0 => tout_storable X d c s

section Own
variable (d : Dev nD) (i : grid0.Coords)

/-- What a tile has of its own and the kernel does not use. -/
def restBufs : sProp 𝕄 :=
  bigSep (((((((ownRefs (τ := τ) (thr d i).2).erase ((thr d i).2.devRef cc0_scratch0)).erase ((thr d i).2.devRef cc0_scratch1)).erase
    ((thr d i).2.devRef cc0_scratch2)).erase ((thr d i).2.devRef cc0_scratch3)).erase ((thr d i).2.devRef cc0_scratch4)).erase
    ((thr d i).2.devRef cc0_scratch5)) fun b => iprop(∃ f, ((d, b) : Loc nD τ sig) ↦{fullShare} f)

def restSems : sProp 𝕄 :=
  bigSep ((((ownCells (thr d i)).erase (thr d i, .dma cc0_scratch6.sem)).erase (thr d i, .dma cc0_scratch7.sem)).erase
    (thr d i, .dma cc0_scoped0.sem)) fun g => semVal g 0

/-- One of the tile's scratch buffers at some contents. -/
abbrev anyBuf (b : Ref sig .scVector) : sProp 𝕄 := iprop(∃ f, (thr d i).loc b ↦{fullShare} f)

theorem ownBufs_tile : (ownBufs (thr d i) : sProp 𝕄)
    = iprop(anyBuf d i cc0_scratch0 ∗ anyBuf d i cc0_scratch1 ∗ anyBuf d i cc0_scratch2 ∗ anyBuf d i cc0_scratch3
        ∗ anyBuf d i cc0_scratch4 ∗ anyBuf d i cc0_scratch5 ∗ restBufs d i) := by
  have ne : ∀ {a b : Ref sig .scVector}, a ≠ b → (thr d i).2.devRef a ≠ (thr d i).2.devRef b :=
    fun h e => h (Proc.devRef_injective _ e)
  have m0 := SparseCore.Cfg.mem_ownRefs_of_owner (p := (thr d i).2) (b := (thr d i).2.devRef cc0_scratch0) rfl
  have m1 := SparseCore.Cfg.mem_ownRefs_of_owner (p := (thr d i).2) (b := (thr d i).2.devRef cc0_scratch1) rfl
  have m2 := SparseCore.Cfg.mem_ownRefs_of_owner (p := (thr d i).2) (b := (thr d i).2.devRef cc0_scratch2) rfl
  have m3 := SparseCore.Cfg.mem_ownRefs_of_owner (p := (thr d i).2) (b := (thr d i).2.devRef cc0_scratch3) rfl
  have m4 := SparseCore.Cfg.mem_ownRefs_of_owner (p := (thr d i).2) (b := (thr d i).2.devRef cc0_scratch4) rfl
  have m5 := SparseCore.Cfg.mem_ownRefs_of_owner (p := (thr d i).2) (b := (thr d i).2.devRef cc0_scratch5) rfl
  unfold SparseCore.Cfg.ownBufs restBufs
  rw [SparseCore.bigSep_erase' m0,
    SparseCore.bigSep_erase' (Finset.mem_erase.mpr ⟨ne (by decide), m1⟩),
    SparseCore.bigSep_erase' (Finset.mem_erase.mpr ⟨ne (by decide), Finset.mem_erase.mpr ⟨ne (by decide), m2⟩⟩),
    SparseCore.bigSep_erase' (Finset.mem_erase.mpr ⟨ne (by decide), Finset.mem_erase.mpr ⟨ne (by decide), Finset.mem_erase.mpr ⟨ne (by decide), m3⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), m4⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), m5⟩⟩⟩⟩⟩)]

theorem ownSems_tile : (ownSems0 (thr d i) : sProp 𝕄)
    = iprop(semVal (thr d i, .dma cc0_scratch6.sem) 0 ∗ semVal (thr d i, .dma cc0_scratch7.sem) 0 ∗ semVal (thr d i, .dma cc0_scoped0.sem) 0
        ∗ restSems d i) := by
  have ne : ∀ {a b : SemLoc sig}, a ≠ b → ((thr d i, a) : GSem nD τ sig) ≠ (thr d i, b) := fun h e => h (Prod.mk.inj e).2
  have m : ∀ a : SemLoc sig, a.isScoped .scVector = true → ((thr d i, a) : GSem nD τ sig) ∈ ownCells (thr d i) :=
    fun a h => mem_ownCells.mpr ⟨rfl, h⟩
  unfold SparseCore.Cfg.ownSems0 restSems
  rw [SparseCore.bigSep_erase' (m (.dma cc0_scratch6.sem) (by decide)),
    SparseCore.bigSep_erase' (Finset.mem_erase.mpr ⟨ne (by decide), m (.dma cc0_scratch7.sem) (by decide)⟩),
    SparseCore.bigSep_erase' (Finset.mem_erase.mpr ⟨ne (by decide), Finset.mem_erase.mpr ⟨ne (by decide), m (.dma cc0_scoped0.sem) (by decide)⟩⟩)]

/-- A scratch buffer at some contents is its array held to read something. -/
theorem any_owns {s : Shape} (b : Ref sig .scVector) (M : Memref sig .scVector .vmem s .i32)
    (hl : M.view.loc (thr d i) = (thr d i).loc b) :
    (anyBuf d i b : sProp 𝕄) ⊢ iprop(∃ H : s.Idx → BitVec 32, owns d i M H) := by
  unfold anyBuf
  rw [← hl]
  iintro ⟨%f, H⟩
  iexists _
  iapply (owns_intro d i M f)
  iexact H

theorem owns_any {s : Shape} (b : Ref sig .scVector) (M : Memref sig .scVector .vmem s .i32)
    (hl : M.view.loc (thr d i) = (thr d i).loc b) :
    iprop(∃ H : s.Idx → BitVec 32, owns d i M H) ⊢ (anyBuf d i b : sProp 𝕄) := by
  unfold anyBuf owns
  rw [← hl]
  iintro ⟨%H, %f, -, Hf⟩
  iexists f; iexact Hf

theorem scratch_in : iprop(ownBufs (thr d i) ∗ ownSems0 (thr d i))
    ⊢ (iprop(scratchAt d i cc0_scratch6 cc0_scratch7 cc0_scoped0 ∗ restBufs d i ∗ restSems d i) : sProp 𝕄) := by
  rw [ownBufs_tile, ownSems_tile]
  unfold scratchAt some8 someH
  iintro ⟨⟨H0, H1, H2, H3, H4, H5, Hr⟩, Ha, Hb, Hc, Hs⟩
  isplitr [Hr Hs]
  · isplitl [H0]; · iapply (any_owns d i cc0_scratch0 b0 rfl); iexact H0
    isplitl [H1]; · iapply (any_owns d i cc0_scratch1 b1 rfl); iexact H1
    isplitl [H2]; · iapply (any_owns d i cc0_scratch2 hA rfl); iexact H2
    isplitl [H3]; · iapply (any_owns d i cc0_scratch3 hB rfl); iexact H3
    isplitl [H4]; · iapply (any_owns d i cc0_scratch4 hC rfl); iexact H4
    isplitl [H5]; · iapply (any_owns d i cc0_scratch5 oB rfl); iexact H5
    isplitl [Ha]; · iexact Ha
    isplitl [Hb] <;> iassumption
  isplitl [Hr] <;> iassumption

theorem scratch_out : (iprop(scratchAt d i cc0_scratch6 cc0_scratch7 cc0_scoped0 ∗ restBufs d i ∗ restSems d i) : sProp 𝕄)
    ⊢ iprop(ownBufs (thr d i) ∗ ownSems0 (thr d i)) := by
  rw [ownBufs_tile, ownSems_tile]
  unfold scratchAt some8 someH
  iintro ⟨⟨H0, H1, H2, H3, H4, H5, Ha, Hb, Hc⟩, Hr, Hs⟩
  isplitr [Ha Hb Hc Hs]
  · isplitl [H0]; · iapply (owns_any d i cc0_scratch0 b0 rfl); iexact H0
    isplitl [H1]; · iapply (owns_any d i cc0_scratch1 b1 rfl); iexact H1
    isplitl [H2]; · iapply (owns_any d i cc0_scratch2 hA rfl); iexact H2
    isplitl [H3]; · iapply (owns_any d i cc0_scratch3 hB rfl); iexact H3
    isplitl [H4]; · iapply (owns_any d i cc0_scratch4 hC rfl); iexact H4
    isplitl [H5]; · iapply (owns_any d i cc0_scratch5 oB rfl); iexact H5
    iexact Hr
  isplitl [Ha]; · iexact Ha
  isplitl [Hb]; · iexact Hb
  isplitl [Hc] <;> iassumption

end Own

/-- A tile's task, from what the launch hands it to what it hands back. -/
theorem task (d : Dev nD) (c : Fin 2) (s : Fin 16) {hx ho h4 h5 h6 h7 h8 h9} {O : CellTallies nD τ sig (HIx 1)} {W : Waits sig (HIx 1)}
    (hO : ∀ g, O g none = 0) :
    iprop(levAts (K (F := F)).L (K (F := F)).lev ∗ emp ∗ tin X g₀ d c s ∗ scopedBufs (thr d (gp c s)) ∗ scopedSems0 (thr d (gp c s))
        ∗ owes (thr d (gp c s)) O W)
      ⊢ twp d (gp c s) (cc0__sc_select_body (F := F) (gp c s) xV hx oV ho b0 h4 b1 h5 hA h6 hB h7 hC h8 oB h9 cc0_scratch6 cc0_scratch7 cc0_scoped0) fun _ =>
        iprop(tout X d c s ∗ scopedBufs (thr d (gp c s)) ∗ scopedSems0 (thr d (gp c s))
          ∗ ∃ W', ⌜∀ p ∈ W', p ∈ W ∨ p.2 = none ∨ p.2 = some (0 : Fin 1)⌝ ∗ owes (thr d (gp c s)) O W') := by
  rw [(K (F := F)).scopedBufs_V facts d (cV (gp c s)) (sV (gp c s)), SparseCore.Cfg.scopedSems0_V (Val := Elt F) d (cV (gp c s)) (sV (gp c s))]
  unfold tin tout
  have h := tile_body (F := F) d (gp c s) (hx := hx) (ho := ho) (h4 := h4) (h5 := h5) (h6 := h6) (h7 := h7) (h8 := h8) (h9 := h9)
    cc0_scratch6 cc0_scratch7 cc0_scoped0 (f := X d) (g := g₀ d) (O := O) (W := W) hO
  iintro ⟨Hlv, -, ⟨Hx, Hy⟩, Hb, Hs, HO⟩
  ihave Hsc := (scratch_in (F := F) d (gp c s)) $$ [Hb Hs]
  · isplitl [Hb] <;> iassumption
  icases Hsc with ⟨Hsc, Hrb, Hrs⟩
  iapply (wp_wand_r frame (wpE (defs₀ (F := F)) 𝒱₀ (thr d (gp c s)) none) Set.univ)
  isplitl [Hlv Hx Hy Hsc HO]
  · iapply h
    isplitl [Hlv]; · iexact Hlv
    isplitl [Hx]; · iexact Hx
    isplitl [Hy]; · iexact Hy
    isplitl [Hsc]; · iexact Hsc
    unfold wts
    iexists W; isplitr
    · ipureintro; exact fun _ h => Or.inl h
    iexact HO
  iintro %a ⟨Hx, Hg, Hsc, HO⟩
  isplitl [Hx Hg]
  · isplitl [Hx] <;> iassumption
  ihave Hbs := (scratch_out (F := F) d (gp c s)) $$ [Hsc Hrb Hrs]
  · isplitl [Hsc]; · iexact Hsc
    isplitl [Hrb] <;> iassumption
  icases Hbs with ⟨Hb, Hs⟩
  isplitl [Hb]; · iexact Hb
  isplitl [Hs]; · iexact Hs
  unfold wts
  icases HO with ⟨%W', %hW', HO⟩
  iexists W'; isplitr
  · ipureintro; exact fun p hp => (hW' p hp).imp_right Or.inl
  iexact HO

theorem defs₀_tile (c : Fin τ.nSC) (s : Fin τ.nSub) :
    defs₀ (F := F) (.scVector c s) 0 ()
      = SparseCore.onTile hcore0 hsub0 (fun c s => cc0__sc_select_body (gp c s)
          xV (Memref.isWhole_whole _) oV (Memref.isWhole_whole _) b0 (Memref.isWhole_whole _) b1 (Memref.isWhole_whole _)
          hA (Memref.isWhole_whole _) hB (Memref.isWhole_whole _) hC (Memref.isWhole_whole _) oB (Memref.isWhole_whole _)
          cc0_scratch6 cc0_scratch7 cc0_scoped0) ⟨⟩ c s := rfl

set_option maxRecDepth 1024 in
theorem tileObl : (K (F := F)).TileObl (D (F := F)) 𝒱 (P X g₀) v₀ 0 := by
  intro d c s O W hO _ _
  simp only [show (P (F := F) X g₀).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_tile]; simp only [SparseCore.onTile, hc, and_self, ↓reduceDIte]
  exact task X g₀ d ⟨_, hc.1⟩ ⟨_, hc.2⟩ hO

theorem vecSplit : (K (F := F)).VecSplit' (P X g₀) 0 := by
  intro d c
  show (bigSep Finset.univ fun s : Fin 16 => tin X g₀ d c s) ⊢ |={Set.univ}=> iprop((bigSep Finset.univ fun s : Fin 16 => tin X g₀ d c s)
    ∗ ((bigSep Finset.univ fun s : Fin 16 => tout X d c s) -∗ (bigSep Finset.univ fun s : Fin 16 => tout X d c s)))
  iintro H; imodintro
  isplitl [H]; · iexact H
  iintro H; iexact H

end Cert.Proof

end
-- ==== Proof.RowSplit.lean ====
/-
  The words and the thresholds as rows, one a tile: split for the SparseCore call, joined after it.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- The TensorCore's thread of a device. -/
abbrev tcT (d : Dev nD) : Thread nD τ := SparseCore.T d

/-! ## The rows -/

/-- The images, one a tile. -/
abbrev Tiles : Finset (Fin 2 × Fin 16) := Finset.univ ×ˢ Finset.univ

theorem wOf_gp (c : Fin 2) (s : Fin 16) : wOf (gp c s) = 2 * s.val + c.val := rfl

theorem wOf_inj {t t' : Fin 2 × Fin 16} (h : wOf (gp t.1 t.2) = wOf (gp t'.1 t'.2)) : t = t' := by
  rw [wOf_gp, wOf_gp] at h
  have h1 := t.1.isLt
  have h2 := t'.1.isLt
  exact Prod.ext (Fin.ext (by omega)) (Fin.ext (by omega))

theorem wOf_sur {w : ℕ} (hw : w < 32) : ∃ t : Fin 2 × Fin 16, wOf (gp t.1 t.2) = w :=
  ⟨(⟨w % 2, by omega⟩, ⟨w / 2, by omega⟩), by rw [wOf_gp]; show 2 * (w / 2) + w % 2 = w; omega⟩

theorem rows_disj : ∀ t ∈ Tiles, ∀ t' ∈ Tiles, t ≠ t' → Disjoint (rowSet (wOf (gp t.1 t.2))) (rowSet (wOf (gp t'.1 t'.2))) := by
  intro t _ t' _ h
  refine Finset.disjoint_left.mpr fun j h1 h2 => h (wOf_inj ?_)
  unfold rowSet at h1 h2
  exact (Finset.mem_filter.mp h1).2.symm.trans (Finset.mem_filter.mp h2).2

theorem outs_disj : ∀ t ∈ Tiles, ∀ t' ∈ Tiles, t ≠ t' → Disjoint (outSet (wOf (gp t.1 t.2))) (outSet (wOf (gp t'.1 t'.2))) := by
  intro t _ t' _ h
  refine Finset.disjoint_left.mpr fun j h1 h2 => h (wOf_inj ?_)
  unfold outSet at h1 h2
  exact (Finset.mem_filter.mp h1).2.symm.trans (Finset.mem_filter.mp h2).2

theorem rows_all : (Tiles.biUnion fun t => rowSet (wOf (gp t.1 t.2))) = Finset.univ := by
  refine Finset.eq_univ_iff_forall.mpr fun j => ?_
  obtain ⟨t, ht⟩ := wOf_sur (w := (j 0).val) (j 0).isLt
  exact Finset.mem_biUnion.mpr ⟨t, Finset.mem_product.mpr ⟨Finset.mem_univ _, Finset.mem_univ _⟩,
    Finset.mem_filter.mpr ⟨Finset.mem_univ _, ht.symm⟩⟩

theorem outs_all : (Tiles.biUnion fun t => outSet (wOf (gp t.1 t.2))) = Finset.univ := by
  refine Finset.eq_univ_iff_forall.mpr fun j => ?_
  obtain ⟨t, ht⟩ := wOf_sur (w := (j 0).val) (j 0).isLt
  exact Finset.mem_biUnion.mpr ⟨t, Finset.mem_product.mpr ⟨Finset.mem_univ _, Finset.mem_univ _⟩,
    Finset.mem_filter.mpr ⟨Finset.mem_univ _, ht.symm⟩⟩

/-- The words, and the thresholds, held whole on a device. -/
abbrev xAll (d : Dev nD) (f : S32x262144.Idx → BitVec 32) : sProp 𝕄 := (tcT d).loc main_v0 ↦{fullShare} f
abbrev yAll (d : Dev nD) (g : S32x16.Idx → BitVec 32) : sProp 𝕄 := (tcT d).loc main_v1 ↦{fullShare} g

theorem xAll_rows (d : Dev nD) (f : S32x262144.Idx → BitVec 32) :
    (xAll d f : sProp 𝕄) = bigSep Tiles fun t => xs d (gp t.1 t.2) (wOf (gp t.1 t.2)) f fullShare := by
  have h := pointsTo_biUnion (Ix := HIx 1) (Val := Elt F) (Name := ℕ) (U := UU) (Lvl := ℕ) (ℓ := (tcT d).loc main_v0) (q := fullShare) (f := f)
    Tiles (fun t => rowSet (wOf (gp t.1 t.2))) rows_disj
  exact (congrArg (fun I => ((tcT d).loc main_v0 ↦[I]{fullShare} f : sProp 𝕄)) rows_all).symm.trans h

theorem yAll_rows (d : Dev nD) (g : S32x16.Idx → BitVec 32) :
    (yAll d g : sProp 𝕄) = bigSep Tiles fun t => ys d (gp t.1 t.2) (wOf (gp t.1 t.2)) g := by
  have h := pointsTo_biUnion (Ix := HIx 1) (Val := Elt F) (Name := ℕ) (U := UU) (Lvl := ℕ) (ℓ := (tcT d).loc main_v1) (q := fullShare) (f := g)
    Tiles (fun t => outSet (wOf (gp t.1 t.2))) outs_disj
  exact (congrArg (fun I => ((tcT d).loc main_v1 ↦[I]{fullShare} g : sProp 𝕄)) outs_all).symm.trans h

/-- A row stays good when the array agrees with it there. -/
theorem good_congr {f : S32x262144.Idx → BitVec 32} {w : ℕ} {g g' : S32x16.Idx → BitVec 32} (h : ∀ j ∈ outSet w, g' j = g j)
    (hg : GoodRow f w g) : GoodRow f w g' := by
  obtain ⟨hw, h0, h1⟩ := hg
  refine ⟨hw, ?_, ?_⟩
  · rw [h _ (Finset.mem_filter.mpr ⟨Finset.mem_univ _, rfl⟩)]; exact h0
  · rw [h _ (Finset.mem_filter.mpr ⟨Finset.mem_univ _, rfl⟩)]; exact h1

/-- Every row of the thresholds is good. -/
def Good (f : S32x262144.Idx → BitVec 32) (g : S32x16.Idx → BitVec 32) : Prop := ∀ w, w < 32 → GoodRow f w g

theorem yAll_join (d : Dev nD) (f : S32x262144.Idx → BitVec 32) :
    (bigSep Tiles fun t => iprop(∃ g : S32x16.Idx → BitVec 32, ⌜GoodRow f (wOf (gp t.1 t.2)) g⌝ ∗ ys d (gp t.1 t.2) (wOf (gp t.1 t.2)) g))
      ⊢ (iprop(∃ g : S32x16.Idx → BitVec 32, ⌜Good f g⌝ ∗ yAll d g) : sProp 𝕄) := by
  refine (bigSep_exists_pi Tiles (fun t (g : S32x16.Idx → BitVec 32) =>
    (iprop(⌜GoodRow f (wOf (gp t.1 t.2)) g⌝ ∗ ys d (gp t.1 t.2) (wOf (gp t.1 t.2)) g) : sProp 𝕄))).trans ?_
  have hj : ∀ fs : Fin 2 × Fin 16 → S32x16.Idx → BitVec 32,
      (bigSep Tiles fun t => (ys d (gp t.1 t.2) (wOf (gp t.1 t.2)) (fs t) : sProp 𝕄))
        ⊢ iprop(∃ g : S32x16.Idx → BitVec 32, ⌜∀ t ∈ Tiles, ∀ i ∈ outSet (wOf (gp t.1 t.2)), g i = fs t i⌝
          ∗ ((tcT d).loc main_v1 ↦[Tiles.biUnion fun t => outSet (wOf (gp t.1 t.2))]{fullShare} g)) :=
    fun fs => pointsTo_biUnion_join (Ix := HIx 1) (Val := Elt F) (Name := ℕ) (U := UU) (Lvl := ℕ) (ℓ := (tcT d).loc main_v1) (q := fullShare)
      Tiles (fun t => outSet (wOf (gp t.1 t.2))) fs (fs (0, 0)) outs_disj
  iintro ⟨%fs, H⟩
  ihave H := (bigSep_pure_sep Tiles (fun t => GoodRow f (wOf (gp t.1 t.2)) (fs t))
    (fun t => (ys d (gp t.1 t.2) (wOf (gp t.1 t.2)) (fs t) : sProp 𝕄))) $$ H
  icases H with ⟨%hg, H⟩
  ihave H := (hj fs) $$ H
  icases H with ⟨%g, %hgf, H⟩
  iexists g
  isplitr
  · ipureintro
    intro w hw
    obtain ⟨t, rfl⟩ := wOf_sur hw
    have ht : t ∈ Tiles := Finset.mem_product.mpr ⟨Finset.mem_univ _, Finset.mem_univ _⟩
    exact good_congr (hgf t ht) (hg t ht)
  ihave H := (Entails.of_eq (congrArg (fun I => ((tcT d).loc main_v1 ↦[I]{fullShare} g : sProp 𝕄)) outs_all)) $$ H
  iexact H

end Cert.Proof

end
-- ==== Proof.Label.lean ====
/-
  The TensorCore kernel's body on one image: from the thresholds, the image and the output block held whole it runs
  to its return, leaving the labels in the output block.
-/
module

public import proofs.«01_k».proof.Proof.Base
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A buffer of the TensorCore held whole. -/
abbrev pt (c : Dev nD) {sp : Space} {s : Shape} {e : EltTy} (M : Memref sig .tc sp s e)
    (f : Buf (Elt F) (M.view.loc (c : Thread nD τ))) : sProp 𝕄 :=
  M.view.loc (c : Thread nD τ) ↦{fullShare} f

/-- The labels of an image whose thresholds are `lo` and `hi`. -/
def labVal (lo hi : BitVec 32) (x : S1x1x512x512.Idx → BitVec 32) : S1x512x512.Idx → BitVec 32 :=
  k1_pay1 (k1_pay8 (F := F) (Scalar.select (Scalar.cmpi .eq lo 4294967295#32) 0#32 lo)
    (Scalar.select (Scalar.cmpi .eq hi 4294967295#32) 0#32 hi) (k1_pay2 (F := F) x)
    (extractAt ![0, 0, 0] (k1_pay3 (F := F) lo x) inpos_S1x1x1_p0_0_0)
    (extractAt ![0, 0, 0] (k1_pay4 (F := F) hi x) inpos_S1x1x1_p0_0_0) (k1_pay5 (F := F) lo x) (k1_pay6 (F := F) hi x)
    (iota .tc S512x512 32 [0] iota_S512x512_d0_w32) (iota .tc S512x512 32 [1] iota_S512x512_d1_w32) (k1_pay7 (F := F)))

/-- Lane `l` of the thresholds of the image of a grid point. -/
def thrIx (i : grid1.Coords) (l : Fin 16) : S32x16.Idx := fun | 0 => i 0 | 1 => l

theorem thrIx_off (i : grid1.Coords) (l : Fin 16) (o : Fin 2 → ℕ) (ho : ∀ a, o a + S1x1.size a ≤ S32x16.size a)
    (h0 : o 0 = (i 0).val) (h1 : o 1 = l.val) (x : (Rect.unit (s := S32x16) o S1x1.size ho).shape.Idx) :
    (Rect.unit (s := S32x16) o S1x1.size ho).emb x = thrIx i l := by
  funext a
  fin_cases a
  · refine Fin.ext ?_
    show o 0 + 1 * (x 0).val = (i 0).val
    have : (x 0).val < 1 := (x 0).isLt
    omega
  · refine Fin.ext ?_
    show o 1 + 1 * (x 1).val = l.val
    have : (x 1).val < 1 := (x 1).isLt
    omega

theorem off1_0 (i : grid1.Coords) : k1_off1 i 0 = (i 0).val := by
  have : (i 0).val < 32 := (i 0).isLt
  show (BitVec.ofNat 32 (i 0).val).toNat = _
  rw [BitVec.toNat_ofNat]; omega

theorem off2_0 (i : grid1.Coords) : k1_off2 i 0 = (i 0).val := off1_0 i

theorem label_run (c : Dev nD) (i : grid1.Coords) (M1 : Memref sig .tc .smem S32x16 .i32) (h1 : M1.IsWhole)
    (M2 : Memref sig .tc .vmem S1x1x512x512 .i32) (h2 : M2.IsWhole) (M3 : Memref sig .tc .vmem S1x512x512 .i32) (h3 : M3.IsWhole)
    (f1 : Buf (Elt F) (M1.view.loc (c : Thread nD τ))) (f2 : Buf (Elt F) (M2.view.loc (c : Thread nD τ)))
    (f3 : Buf (Elt F) (M3.view.loc (c : Thread nD τ))) (Q : PUnit → sProp 𝕄) :
    iprop(pt c M1 f1 ∗ pt c M2 f2 ∗ pt c M3 f3 ∗ (iprop(pt c M1 f1 ∗ pt c M2 f2 ∗ ∃ f : Buf (Elt F) (M3.view.loc (c : Thread nD τ)),
        ⌜M3.view.read (Elt F) f = labVal (F := F) (M1.view.read (Elt F) f1 (thrIx i 0)) (M1.view.read (Elt F) f1 (thrIx i 1)) (M2.view.read (Elt F) f2)⌝
          ∗ pt c M3 f) -∗ Q ⟨⟩))
      ⊢ wp frame (wpE (defs₀ (F := F)) 𝒱₀ (c : Thread nD τ) none) Set.univ (cc1__label_body i M1 h1 M2 h2 M3 h3) Q := by
  iintro ⟨H1, H2, H3, Hk⟩
  simp only [cc1__label_body_eq_skeleton]
  unfold cc1__label_body_skel
  simp only [k1_part1_eq_skeleton, k1_part2_eq_skeleton]
  unfold k1_part1_skel k1_part2_skel
  sl_exec
  sl_step
  iapply Hk
  isplitl [H1]; · iexact H1
  isplitl [H2]; · iexact H2
  iexists _
  isplitr
  swap
  · iexact H3
  · ipureintro
    funext y
    have e1 : View.readAt (Elt F) M1.view (Rect.unit (s := S32x16) (k1_off1 i) S1x1.size (k1_off1_inb i)).toLoadRect f1 (Shape.Idx.first (show 0 < S1x1.numel by decide))
        = M1.view.read (Elt F) f1 (thrIx i 0) := by
      rw [View.readAt_apply]
      exact congrArg _ (thrIx_off i 0 _ _ (off1_0 i) rfl _)
    have e2 : View.readAt (Elt F) M1.view (Rect.unit (s := S32x16) (k1_off2 i) S1x1.size (k1_off2_inb i)).toLoadRect f1 (Shape.Idx.first (show 0 < S1x1.numel by decide))
        = M1.view.read (Elt F) f1 (thrIx i 1) := by
      rw [View.readAt_apply]
      exact congrArg _ (thrIx_off i 1 _ _ (off2_0 i) rfl _)
    have e3 : View.readAt (Elt F) M2.view (Rect.unit (s := S1x1x512x512) ![0, 0, 0, 0] S1x1x512x512.size inb_S1x1x512x512_S1x1x512x512_0_0_0_0).toLoadRect f2
        = M2.view.read (Elt F) f2 := by
      funext x
      rw [View.readAt_apply]
      refine congrArg _ (funext fun a => Fin.ext ?_)
      show ((![0, 0, 0, 0] : Fin 4 → ℕ) a) + 1 * (x a).val = (x a).val
      have : (![0, 0, 0, 0] : Fin 4 → ℕ) a = 0 := by fin_cases a <;> rfl
      omega
    have e4 : (Rect.unit (s := S1x512x512) ![0, 0, 0] S1x512x512.size inb_S1x512x512_S1x512x512_0_0_0).emb y = y := by
      refine funext fun a => Fin.ext ?_
      show ((![0, 0, 0] : Fin 3 → ℕ) a) + 1 * (y a).val = (y a).val
      have : (![0, 0, 0] : Fin 3 → ℕ) a = 0 := by fin_cases a <;> rfl
      omega
    rw [← e1, ← e2, ← e3]
    have h := View.read_slice_write_emb (Val := Elt F) (v := M3.view)
      (Rect.unit (s := S1x512x512) ![0, 0, 0] S1x512x512.size inb_S1x512x512_S1x512x512_0_0_0) f3
      (labVal (F := F) (View.readAt (Elt F) M1.view (Rect.unit (s := S32x16) (k1_off1 i) S1x1.size (k1_off1_inb i)).toLoadRect f1 (Shape.Idx.first (show 0 < S1x1.numel by decide)))
        (View.readAt (Elt F) M1.view (Rect.unit (s := S32x16) (k1_off2 i) S1x1.size (k1_off2_inb i)).toLoadRect f1 (Shape.Idx.first (show 0 < S1x1.numel by decide)))
        (View.readAt (Elt F) M2.view (Rect.unit (s := S1x1x512x512) ![0, 0, 0, 0] S1x1x512x512.size inb_S1x1x512x512_S1x1x512x512_0_0_0_0).toLoadRect f2))
      (M := Finset.univ) (x := y) (Finset.mem_univ _)
    rw [e4] at h
    refine Eq.trans ?_ h
    unfold labVal label_run.sl.v5 label_run.sl.v7 label_run.sl.v25 label_run.sl.v32 label_run.sl.v4 label_run.sl.v6 label_run.sl.v37 label_run.sl.v38 label_run.sl.r label_run.sl.r_1
    dsimp only
    rfl

end Cert.Proof

end
-- ==== Proof.Region.lean ====
/-
  The TensorCore call: from the thresholds and the images held whole, its pipeline runs to its end, each block of the
  result at the labels of its image.
-/
module

public import proofs.«01_k».proof.Proof.Label
public import Idealize.ShloMosaic.Lib.Pipeline.RegionsLoop
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the buffers the TensorCore sees hold when its call begins. -/
abbrev Vals (F : FTy → Type) : Type := (c : Dev nD) → (b : Ref sig .tc) → Buf (Elt F) ((c : Thread nD τ).loc b)

variable (V : Vals F)

/-- The thresholds as the call stages them, and the image of a grid point. -/
abbrev thrAt (c : Dev nD) (t : Fin cfg1.N) : S32x16.Idx → BitVec 32 := ((cfg1.win 0).blk t).view.read (Elt F) (V c main_v1)
abbrev imgAt (c : Dev nD) (t : Fin cfg1.N) : S1x1x512x512.Idx → BitVec 32 := ((cfg1.win 1).blk t).view.read (Elt F) (V c main_arg0)

/-- The labels of the image of a grid point. -/
abbrev labAt (c : Dev nD) (t : Fin cfg1.N) : S1x512x512.Idx → BitVec 32 :=
  labVal (F := F) (thrAt V c t (thrIx (grid1.coords t) 0)) (thrAt V c t (thrIx (grid1.coords t) 1)) (imgAt V c t)

/-- The call's proof data: the arrays as they stand, each result block at its image's labels. -/
def dat (c : Dev nD) : Dat τ (Elt F) (HIx 1) ℕ UU ℕ cfg1 c where
  A w := V c (Pipeline.arrRef spec1 w)
  after w t := match w with
    | ⟨0, _⟩ => thrAt V c t
    | ⟨1, _⟩ => imgAt V c t
    | ⟨2, _⟩ => labAt V c t
  Φ _ := iprop(emp)
  q _ := fullShare
  owed _ := 0

/-- The one pipeline's admissible tables. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (t : Fin cfg1.N) (e) : (dat V c).before 0 t e = thrAt V c t :=
  ((dat V c).before_in_eq_fetched 0 rfl (fun _ => rfl) (fun _ _ _ => rfl) (fun _ => rfl) t e).trans rfl

theorem before_1 (c : Dev nD) (t : Fin cfg1.N) (e) : (dat V c).before 1 t e = imgAt V c t :=
  ((dat V c).before_in_eq_fetched 1 rfl (fun _ => rfl) (fun _ _ _ => rfl) (fun _ => rfl) t e).trans rfl

/-- A whole array held to read `X` is its buffer held at some contents that read `X`. -/
theorem owns_pt (c : Dev nD) {sp : Space} {s : Shape} {e : EltTy} (M : Memref sig .tc sp s e) (h : M.IsWhole) (X : s.Idx → Elt F e) :
    (Idealize.ShloMosaic.owns (c : Thread nD τ) M fullShare X : sProp 𝕄)
      = iprop(∃ f : Buf (Elt F) (M.view.loc (c : Thread nD τ)), ⌜M.view.read (Elt F) f = X⌝ ∗ pt c M f) := by
  obtain ⟨b, hsp, hsh, he, hb⟩ := h
  subst hsp hsh he
  cases hb
  unfold Idealize.ShloMosaic.owns pt
  rw [show (Memref.whole b).view.set = Finset.univ from View.set_whole b]

/-- The body at a grid point does what the proof data says. -/
theorem body_obligation (c : Dev nD) : BodyObligation (dat V c) (defs₀ (F := F)) 𝒱₀ none Set.univ := fun t => by
  rw [bigSep_W1, bigSep_W1]
  rw [show (dat V c).Φ t.castSucc = iprop(emp) from rfl, show (dat V c).Φ t.succ = iprop(emp) from rfl,
    show (dat V c).owesAt none t.succ = (dat V c).owesAt none t.castSucc from rfl]
  iintro ⟨-, Howes, ⟨%d0, H0⟩, ⟨%d1, H1⟩, ⟨%d2, H2⟩⟩
  ihave H0 := (Entails.of_eq (owns_pt c (st1_0 t) (hstage1_0 ((cfg1.slots t 0).cast nbuf1_0)) ((dat V c).before 0 t d0))) $$ H0
  ihave H1 := (Entails.of_eq (owns_pt c (st1_1 t) (hstage1_1 ((cfg1.slots t 1).cast nbuf1_1)) ((dat V c).before 1 t d1))) $$ H1
  ihave H2 := (Entails.of_eq (owns_pt c (st1_2 t) (hstage1_2 ((cfg1.slots t 2).cast nbuf1_2)) ((dat V c).before 2 t d2))) $$ H2
  icases H0 with ⟨%f0, %hf0, H0⟩
  icases H1 with ⟨%f1, %hf1, H1⟩
  icases H2 with ⟨%f2, -, H2⟩
  rw [before_0] at hf0
  rw [before_1] at hf1
  iapply (label_run (F := F) c (grid1.coords t) (st1_0 t) (hstage1_0 ((cfg1.slots t 0).cast nbuf1_0)) (st1_1 t)
    (hstage1_1 ((cfg1.slots t 1).cast nbuf1_1)) (st1_2 t) (hstage1_2 ((cfg1.slots t 2).cast nbuf1_2)) f0 f1 f2 _)
  isplitl [H0]; · iexact H0
  isplitl [H1]; · iexact H1
  isplitl [H2]; · iexact H2
  iintro ⟨H0, H1, %f, %hf, H2⟩
  isplitr; · iempintro
  isplitl [Howes]; · iexact Howes
  isplitl [H0]
  · iapply (Entails.of_eq (owns_pt c (st1_0 t) (hstage1_0 ((cfg1.slots t 0).cast nbuf1_0)) ((dat V c).after 0 t)).symm)
    iexists f0; isplitr
    · ipureintro; exact hf0
    iexact H0
  isplitl [H1]
  · iapply (Entails.of_eq (owns_pt c (st1_1 t) (hstage1_1 ((cfg1.slots t 1).cast nbuf1_1)) ((dat V c).after 1 t)).symm)
    iexists f1; isplitr
    · ipureintro; exact hf1
    iexact H1
  iapply (Entails.of_eq (owns_pt c (st1_2 t) (hstage1_2 ((cfg1.slots t 2).cast nbuf1_2)) ((dat V c).after 2 t)).symm)
  iexists f; isplitr
  · ipureintro
    refine hf.trans ?_
    rw [hf0, hf1]
    rfl
  iexact H2

/-- The result's array after the call. -/
def labelled (c : Dev nD) : Buf (Elt F) ((c : Thread nD τ).loc main_v2) := (dat V c).arrAt 2 cfg1.N

variable (Vp : Vals F)

set_option backward.isDefEq.respectTransparency.types false in
/-- The call as a region of @main: entered with the buffers at `V`, left with them at `Vp`, which has the labels in
    the result and agrees with `V` elsewhere. -/
def reg (hVo : ∀ c, Vp c main_v2 = labelled V c) (hVn : ∀ c (b : Ref sig .tc), b ≠ main_v2 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = iprop(emp) from rfl]
    iintro -; iempintro
  hout c := by
    rw [Pipeline.ownSems0_none]
    iintro -
    isplitr; · iempintro
    isplitr; · iempintro
    rw [show Pipeline.scopedRest (Pipeline.pin (pcfgs (F := F)) adm 0).spec c = (BI.emp : sProp 𝕄) from scopedRest1_eq c]
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVn c main_v1 (by decide)).symm
        · exact ((pdats V 0 c).arrAt_in 1 rfl _).trans (hVn c main_arg0 (by decide)).symm
        · exact (hVo c).symm)
      (fun b hb => hVn c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof

end
-- ==== Proof.Main.lean ====
/-
  @main's run: the words reshaped to one row an image, the SparseCore call on the rows, the TensorCore call on the
  images; the argument is kept, the thresholds are good, the result holds the labels, every semaphore is back at zero.
-/
module

public import proofs.«01_k».proof.Proof.RowSplit
public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

section Launch

variable (m : (ℓ : Loc nD τ sig) → Buf (Elt F) ℓ) (ρ : Dev nD → PrngReg)

/-! ## What the buffers hold along @main -/

abbrev opR : HloOp τ sig (Elt F) :=
  StableHlo.reshape main_arg0 main_v0 (rfl : (.i32 : EltTy) = .i32) shapeCasts_S32x1x512x512_S32x262144

/-- At the launch, and after the reshape. -/
def V0 (d : Dev nD) : Valuation τ sig (Elt F) := fun b => m (d, b)
def V1 (d : Dev nD) : Valuation τ sig (Elt F) := (opR (F := F)).result (V0 m d)

/-- The words, one row an image; what the thresholds hold before the call. -/
def XW (d : Dev nD) : S32x262144.Idx → BitVec 32 := V1 m d (main_v0 : Ref sig .tc)
def Y0 (d : Dev nD) : S32x16.Idx → BitVec 32 := V1 m d (main_v1 : Ref sig .tc)

/-- After the SparseCore call, with the thresholds at `g`; after the TensorCore call. -/
def V2 (g : S32x16.Idx → BitVec 32) : Vals F := fun d => Function.update (fun b : Ref sig .tc => V1 m d b) main_v1 g
def V3 (g : S32x16.Idx → BitVec 32) : Vals F := fun d => Function.update (V2 m g d) main_v2 (labelled (V2 m g) d)

theorem unscoped_eq (d : Dev nD) (W : (b : Ref sig .tc) → Buf (Elt F) ((d.tc : Thread nD τ).loc b)) :
    (unscopedBufs d W : sProp 𝕄) = iprop(((tcT d).loc main_arg0 ↦{fullShare} W main_arg0) ∗ ((tcT d).loc main_v0 ↦{fullShare} W main_v0)
      ∗ ((tcT d).loc main_v1 ↦{fullShare} W main_v1) ∗ (tcT d).loc main_v2 ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The TensorCore's buffers, as the reshape's rule wants them. -/
abbrev S4 : Finset (DevRef τ sig) := {((main_arg0 : Ref sig .tc) : DevRef τ sig), ((main_v0 : Ref sig .tc) : DevRef τ sig),
  ((main_v1 : Ref sig .tc) : DevRef τ sig), ((main_v2 : Ref sig .tc) : DevRef τ sig)}

theorem op_sub : (opR (F := F)).bufs ⊆ S4 :=
  show ({((main_arg0 : Ref sig .tc) : DevRef τ sig), ((main_v0 : Ref sig .tc) : DevRef τ sig)} : Finset (DevRef τ sig)) ⊆ S4 by decide

theorem unscoped_held (d : Dev nD) (W : Valuation τ sig (Elt F)) :
    (unscopedBufs d (fun b => W b) : sProp 𝕄) = held (tcT d) S4 W := by
  rw [unscoped_eq]
  unfold held S4
  rw [SparseCore.bigSep_insert' (by decide), SparseCore.bigSep_insert' (by decide), SparseCore.bigSep_insert' (by decide), bigSep_singleton]

/-! ## The launch's ghost state -/

theorem phinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) (phinj (F := F))) (Pipeline.launchToks (Pipeline.pin (pcfgs (F := F)) adm) (phinj (F := F))), 1))

/-- What @main needs of it for its pipeline. -/
def GP (d : Dev nD) : sProp 𝕄 :=
  iprop(Pipeline.cellsGhost (Pipeline.pin (pcfgs (F := F)) adm) EP 0 d ∗ Pipeline.toksInit (Pipeline.pin (pcfgs (F := F)) adm) EP 0 d)

theorem fund : (BI.own ((Emb.inl.trans embR) (initOf (Pipeline.cells (Pipeline.pin (pcfgs (F := F)) adm) (phinj (F := F)))
      (Pipeline.launchToks (Pipeline.pin (pcfgs (F := F)) adm) (phinj (F := F))))) : sProp 𝕄)
    ⊢ iprop(|==> ((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))) :=
  Pipeline.fund_ghost (Pipeline.pin (pcfgs (F := F)) adm) (EP (F := F)) (phinj (F := F))

theorem hu₀ : (ownU (u₀ (F := F)) : sProp 𝕄)
    ⊢ |={Set.univ}=> iprop(BI.own (EH (initOf (K (F := F)).hsCells (K (F := F)).hsToks)) ∗ (bigSep Finset.univ fun d : Dev nD => GP d)
        ∗ bigSep Finset.univ fun thr : Thread nD τ => bigSep Finset.univ fun q : Fin 1 => (P (XW m) (Y0 m)).x q thr) := by
  unfold u₀
  iintro Hu
  ihave H := (ownU_pair _ _) $$ Hu
  icases H with ⟨HH, HR⟩
  ihave H := (own_pair_emb embR _ _) $$ HR
  icases H with ⟨HP, -⟩
  imod (fund (F := F)) $$ HP with ⟨Hg, Ht⟩
  imodintro
  isplitl [HH]; · iexact HH
  isplitl [Hg Ht]
  · unfold GP
    rw [bigSep_sep']
    isplitl [Hg]
    · have e : (bigSep Finset.univ fun c : Dev nD => bigSep Finset.univ fun p => Pipeline.cellsGhost (Pipeline.pin (pcfgs (F := F)) adm) EP p c : sProp 𝕄)
          = bigSep Finset.univ fun c : Dev nD => Pipeline.cellsGhost (Pipeline.pin (pcfgs (F := F)) adm) EP 0 c :=
        bigSep_congr fun c _ => bigSep_univ_of_subsingleton (0 : Fin 1)
      ihave H := (Entails.of_eq e) $$ Hg
      iexact H
    · have e : (bigSep Finset.univ fun c : Dev nD => bigSep Finset.univ fun p => Pipeline.toksInit (Pipeline.pin (pcfgs (F := F)) adm) EP p c : sProp 𝕄)
          = bigSep Finset.univ fun c : Dev nD => Pipeline.toksInit (Pipeline.pin (pcfgs (F := F)) adm) EP 0 c :=
        bigSep_congr fun c _ => bigSep_univ_of_subsingleton (0 : Fin 1)
      ihave H := (Entails.of_eq e) $$ Ht
      iexact H
  rw [show (bigSep Finset.univ fun thr : Thread nD τ => bigSep Finset.univ fun q : Fin 1 => (P (F := F) (XW m) (Y0 m)).x q thr) = (iprop(emp) : sProp 𝕄) from
    (bigSep_congr fun _ _ => bigSep_emp_const _).trans (bigSep_emp_const _)]
  iempintro

/-! ## @main -/

theorem st_eq (d : Dev nD) : (bigSep Finset.univ fun c : Fin ((K (F := F)).nCore 0) => (P (XW m) (Y0 m)).st 0 d c)
    = (iprop(xAll d (XW m d) ∗ yAll d (Y0 m d)) : sProp 𝕄) := by
  rw [xAll_rows, yAll_rows, ← bigSep_sep', SparseCore.bigSep_product]
  rfl

theorem dn_join (d : Dev nD) : (bigSep Finset.univ fun c : Fin ((K (F := F)).nCore 0) => (P (XW m) (Y0 m)).dn 0 d c)
    ⊢ (iprop(xAll d (XW m d) ∗ ∃ g : S32x16.Idx → BitVec 32, ⌜Good (XW m d) g⌝ ∗ yAll d g) : sProp 𝕄) := by
  have e : (bigSep Finset.univ fun c : Fin ((K (F := F)).nCore 0) => (P (XW m) (Y0 m)).dn 0 d c)
      = (bigSep Tiles fun t => tout (XW m) d t.1 t.2 : sProp 𝕄) :=
    (SparseCore.bigSep_product Finset.univ Finset.univ (fun t : Fin 2 × Fin 16 => (tout (XW m) d t.1 t.2 : sProp 𝕄))).symm
  rw [e]
  unfold tout
  rw [bigSep_sep', ← xAll_rows]
  iintro ⟨Hx, Hy⟩
  isplitl [Hx]; · iexact Hx
  iapply (yAll_join d (XW m d)); iexact Hy

/-- What @main leaves: some good thresholds, and the buffers as the TensorCore call leaves them from those. -/
def FIN (d : Dev nD) : sProp 𝕄 := iprop(∃ g : S32x16.Idx → BitVec 32, ⌜Good (XW m d) g⌝ ∗ unscopedBufs d (V3 m g d))

theorem waits_below (d : Dev nD) (W : Waits sig (HIx 1)) : (K (F := F)).WBelow (tcT d) W 8 := by
  intro p _
  rcases p with ⟨c, _ | q⟩
  · exact Nat.zero_le _
  · show 8 * q.val + 6 + 1 ≤ 8
    omega

theorem hmain (κ : GSem nD τ sig → ℕ) (d : Dev nD) :
    iprop((K (F := F)).ctx EH (P (XW m) (Y0 m)) κ ∗ (K (F := F)).tcSt EH d 0 ∗ (K (F := F)).tcRes m ρ d ∗ GP d)
      ⊢ wp frame (wpE ((K (F := F)).defs (D (F := F))) 𝒱 (tcT d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((tcT d).loc b)) : sProp 𝕄) = held (tcT d) S4 (V0 m d) from unscoped_held d (V0 m d)]
  simp only [main, wp_bind, wp_pure]
  iintro ⟨#Hctx, Hst, ⟨Hb, Hheld, Hts, -⟩, HG⟩
  iapply (wp_hlo_within 𝒱 (tcT d) none Set.univ (op := opR) (S := S4) op_sub (V := V0 m d)) $$ [Hb Hheld]
  · isplitl [Hb]; · iexact Hb
    iexact Hheld
  iintro ⟨Hb, Hheld⟩
  rw [wp_ret]; imodintro
  have hh : (held (tcT d) S4 ((opR (F := F)).result (V0 m d)) : sProp 𝕄) ⊢ iprop(((tcT d).loc main_arg0 ↦{fullShare} V1 m d (main_arg0 : Ref sig .tc))
      ∗ ((tcT d).loc main_v0 ↦{fullShare} XW m d) ∗ yAll d (Y0 m d) ∗ (tcT d).loc main_v2 ↦{fullShare} V1 m d (main_v2 : Ref sig .tc)) :=
    Entails.of_eq ((unscoped_held (F := F) d (V1 m d)).symm.trans (unscoped_eq d _))
  ihave Hh := hh $$ Hheld
  icases Hh with ⟨Ha, Hx, Hy, Ho⟩
  iapply ((K (F := F)).wp_run (D (F := F)) 𝒱 (EH := EH) (P := P (XW m) (Y0 m)) κ d 0) $$ [Hst Ha Hx Hy Ho Hb Hts HG]
  isplitr; · iexact Hctx
  isplitl [Hst]; · iexact Hst
  isplitl [Hx Hy]
  · rw [st_eq]
    isplitl [Hx] <;> iassumption
  iintro ⟨Hst, Hdn⟩
  ihave Hdn' := (dn_join m d) $$ Hdn
  icases Hdn' with ⟨Hx, %g, %hg, Hy⟩
  ihave Hlv := (SparseCore.Cfg.ctx_levAts κ) $$ Hctx
  ihave Hub := (Entails.of_eq (unscoped_eq (F := F) d (V2 m g d)).symm) $$ [Ha Hx Hy Ho]
  · unfold V2
    rw [Function.update_of_ne (show main_arg0 ≠ main_v1 by decide), Function.update_of_ne (show main_v0 ≠ main_v1 by decide),
      Function.update_self, Function.update_of_ne (show main_v2 ≠ main_v1 by decide)]
    isplitl [Ha]; · iexact Ha
    isplitl [Hx]; · iexact Hx
    isplitl [Hy] <;> iassumption
  unfold SparseCore.Cfg.tcSt
  rw [show (K (F := F)).Otc (N := 1) d ((0 : Fin 1).val + 1) = 0 from (K (F := F)).Otc_end d (Nat.le_refl 1)]
  icases Hst with ⟨⟨%W, %hW, HO⟩, Hrest⟩
  unfold GP
  icases HG with ⟨Hg, Ht⟩
  iapply ((K (F := F)).wp_liftProg (D (F := F)) 𝒱 (tcT d) Set.univ none (.op (.customCall (Pipeline.entry 0) ()) .ret) _)
  iapply (Pipeline.RegionSeg.wp (pcfgs (F := F)) adm (pdats (V2 m g)) none (phinj (F := F)) EP defs₀ 𝒱₀ (K (F := F)).L (K (F := F)).lev
    (reg (V2 m g) (V3 m g) (fun c => Function.update_self _ _ _) (fun c b hb => Function.update_of_ne hb _ _)) d none (fun _ h => nomatch h) .ret _)
  isplitr [Hb Hub HO Hlv Hg Ht]
  · unfold reg
    iintro ⟨Hb, Hub, %W', HO⟩
    rw [wp_ret]; imodintro; imodintro
    isplitl [Hrest HO]
    · isplitl [HO]
      · iexists W'; isplitr
        · ipureintro; exact waits_below d W'
        rw [show (K (F := F)).Otc (N := 1) d 1 = 0 from (K (F := F)).Otc_end d (Nat.le_refl 1)]
        iexact HO
      iexact Hrest
    isplitl [Hub]
    · unfold FIN
      iexists g; isplitr
      · ipureintro; exact hg
      iexact Hub
    isplitl [Hb] <;> iassumption
  isplitl [Hb]; · iexact Hb
  isplitl [Hub HO]
  · unfold reg
    isplitl [Hub]; · iexact Hub
    iexists W; iexact HO
  isplitl [Hlv]; · iexact Hlv
  isplitl [Hg] <;> iassumption

/-- What the final memory holds on a device. -/
def fq (d : Dev nD) (s' : Phys nD τ sig (Elt F)) : Prop :=
  ∃ g : S32x16.Idx → BitVec 32, Good (XW m d) g ∧ s'.mem.mem ((tcT d).loc main_arg0) = V3 m g d main_arg0
    ∧ s'.mem.mem ((tcT d).loc main_v2) = V3 m g d main_v2

theorem hfin (d : Dev nD) (s' : Phys nD τ sig (Elt F)) : iprop(FIN m d ∗ SI s') ⊢ (⌜fq m d s'⌝ : sProp 𝕄) := by
  unfold FIN
  iintro ⟨⟨%g, %hg, Hub⟩, HSI⟩
  ihave Hub := (Entails.of_eq (unscoped_eq (F := F) d (V3 m g d))) $$ Hub
  icases Hub with ⟨Ha, -, -, Ho⟩
  icombine HSI Ha gives %h1
  icombine HSI Ho gives %h2
  ipureintro
  exact ⟨g, hg, funext fun i => h1 i (Finset.mem_univ i), funext fun i => h2 i (Finset.mem_univ i)⟩

/-- What the run proves: the argument kept, the result the labels from some good thresholds, the semaphores at zero. -/
def QC : PUnit × MemSt nD τ sig (Elt F) → Prop := fun r => (∀ c : Dev nD, ∃ g : S32x16.Idx → BitVec 32, Good (XW m c) g
    ∧ r.2.mem ((tcT c).loc main_arg0) = V3 m g c main_arg0 ∧ r.2.mem ((tcT c).loc main_v2) = V3 m g c main_v2)
  ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XW m) (Y0 m)) (A := ∅) facts v₀
    (fun q hq => match q with | 0 => nomatch hq)
    (fun q _ => match q with | 0 => tileObl (XW m) (Y0 m))
    (fun q _ => match q with | 0 => SparseCore.Cfg.VecSplit.of_plain (vecSplit (XW m) (Y0 m)))
    m ρ main (fun d => GP d) (FIN m) (u₀ (F := F)) (sep_elim_left.trans (hu₀ m)) (hmain m ρ) (fq m) (hfin m) (QC m) (fun _ h hz => ⟨h, hz⟩)

end Launch

end Cert.Proof

end
-- ==== Proof.Frames.lean ====
/-
  The frames of the kernel at both instances, from the one run.
-/
module

public import proofs.«01_k».proof.Defs
public import proofs.«01_k».proof.Proof.Main
public import proofs.«01_k».proof.Proof.Gen.Kernel

@[expose] public section

noncomputable section

namespace Cert.Proof

open Idealize.ShloMosaic Idealize.ShloMosaic.TcCoe Idealize.SL.Sem

section

variable {F : FTy → Type} [FloatOps F]

open Cert.KernelIdeal in
/-- The argument's buffer is neither the reshape's result, nor the thresholds, nor the labels. -/
theorem V3_arg0 (m : (ℓ : Loc nD τ sig) → Buf (Elt F) ℓ) (g : S32x16.Idx → BitVec 32) (c : Dev nD) :
    V3 m g c main_arg0 = m ((tcT c).loc main_arg0) := by
  unfold V3 V2
  rw [Function.update_of_ne (show main_arg0 ≠ main_v2 by decide), Function.update_of_ne (show main_arg0 ≠ main_v1 by decide)]
  exact (opR (F := F)).result_of_not_mem _
    (show ((main_arg0 : Ref sig .tc) : DevRef τ sig) ∉ ({((main_v0 : Ref sig .tc) : DevRef τ sig)} : Finset (DevRef τ sig)) by decide)

end

section

variable {F : FTy → Type} [FloatOps F]

set_option maxHeartbeats 1000000 in
/-- The two programs have the same kernel functions, -/
theorem defs₀_same : Cert.KernelIdeal.defs₀ (F := F) = Cert.Kernel.defs₀ (F := F) := by
  funext p l a
  match p, l, a with
  | .tc, 0, _ => rfl
  | .tc, 1, (t, s) => rfl
  | .scScalar c, 0, _ => rfl
  | .scScalar c, 1, _ => rfl
  | .scVector c s, 0, _ => rfl
  | .scVector c s, 1, _ => rfl

/-- the same table of bodies, -/
theorem defs_same : Cert.KernelIdeal.defs (F := F) = Cert.Kernel.defs (F := F) :=
  congrArg (fun D => Cert.KernelIdeal.sc.defs (Pipeline.defs Cert.KernelIdeal.pcfgs D)) defs₀_same

set_option maxHeartbeats 1000000 in
/-- and the same threads. -/
theorem threads_same : Cert.KernelIdeal.threads (F := F) = Cert.Kernel.threads (F := F) := rfl

end

set_option maxHeartbeats 1000000 in
/-- The kernel as printed runs, keeps its argument and ends quiescent. -/
theorem frame_kernel : Cert.quiescent_Kernel := fun m ρ _ => by
  have h := run_main (F := Bits) m ρ
  rw [defs_same, threads_same] at h
  refine (θ_run Cert.Kernel.defs _ _).mono (fun _ h => ⟨fun c => ?_, h.2⟩) h
  obtain ⟨g, -, h0, -⟩ := h.1 c
  exact h0.trans (V3_arg0 m g c)

/-- The idealized kernel runs, keeps its argument and ends quiescent. -/
theorem frame_ideal : Cert.quiescent_KernelIdeal := fun m ρ _ => (θ_run Cert.KernelIdeal.defs _ _).mono
  (fun _ h => ⟨fun c => by obtain ⟨g, -, h0, -⟩ := h.1 c; exact h0.trans (V3_arg0 m g c), h.2⟩) (run_main (F := Ideal) m ρ)

end Cert.Proof

end
-- ==== Proof.Rank.lean ====
/-
  The rank of a word of a row: how many of the row's words stand before it when the row is sorted stably by the
  numbers the words stand for (both zeros one number). The labels are read off the rank; so do the thresholds.
-/
module

public import proofs.«01_k».proof.Proof.Select
public import Idealize.ShloMosaic.Lib.PlanTiles.StableSort

@[expose] public section

namespace Cert.Proof

open Idealize.ShloMosaic

/-- The place of a word in the order of the numbers it stands for, the word of −0 at the place of the word of 0. -/
def ordZ (v : BitVec 32) : ℕ := if v = 2147483648#32 then 2 ^ 31 else ordN v

theorem ordZ_eq (v : BitVec 32) : ordZ v = if ordN v = 2 ^ 31 - 1 then 2 ^ 31 else ordN v := by
  unfold ordZ
  have hv : v = 2147483648#32 ↔ v.toNat = 2147483648 := by
    rw [← BitVec.toNat_inj]; rfl
  have := v.isLt
  unfold ordN
  simp only [hv]
  split_ifs <;> omega

theorem ordZ_lt (v : BitVec 32) : ordZ v < 2 ^ 32 := by
  have := ordN_lt v
  rw [ordZ_eq]; split <;> omega

theorem ordN_lt_of_ordZ_lt {v q : BitVec 32} (h : ordZ v < ordZ q) : ordN v < ordN q := by
  rw [ordZ_eq, ordZ_eq] at h
  split_ifs at h <;> omega

theorem ordZ_le_of_ordN_le {v q : BitVec 32} (h : ordN v ≤ ordN q) : ordZ v ≤ ordZ q := by
  rw [ordZ_eq, ordZ_eq]
  split_ifs <;> omega

/-- How many of the row's words before position `n` have the place `k`. -/
def pref (X : ℕ → BitVec 32) (k n : ℕ) : ℕ := ∑ m ∈ Finset.range n, if ordZ (X m) = k then 1 else 0

/-- How many words of the row are at places below `k`. -/
def below (X : ℕ → BitVec 32) (k : ℕ) : ℕ := A X fun v => ordZ v < k

/-- The rank of word `n` of the row: the words at lower places, and those at its own place that come earlier. -/
def rank (X : ℕ → BitVec 32) (n : ℕ) : ℕ := below X (ordZ (X n)) + pref X (ordZ (X n)) n

/-- The label of word `n` of the row. -/
def label (X : ℕ → BitVec 32) (n : ℕ) : BitVec 32 :=
  if rank X n < 26214 then 0#32 else if 235930 ≤ rank X n then 1#32 else 255#32

theorem pref_mono (X : ℕ → BitVec 32) (k : ℕ) {m n : ℕ} (h : m ≤ n) : pref X k m ≤ pref X k n :=
  Finset.sum_le_sum_of_subset (Finset.range_mono h)

theorem pref_succ (X : ℕ → BitVec 32) (k n : ℕ) : pref X k (n + 1) = pref X k n + if ordZ (X n) = k then 1 else 0 :=
  Finset.sum_range_succ _ _

theorem pref_le (X : ℕ → BitVec 32) (k n : ℕ) : pref X k n ≤ n := by
  induction n with
  | zero => simp [pref]
  | succ n ih => rw [pref_succ]; split <;> omega

theorem below_succ (X : ℕ → BitVec 32) (k : ℕ) : below X k + pref X k 262144 = below X (k + 1) :=
  A_add (p := fun v => ordZ v < k) (q := fun v => ordZ v = k) (r := fun v => ordZ v < k + 1) (fun v => by omega) (fun v => by omega)

theorem below_mono (X : ℕ → BitVec 32) {j k : ℕ} (h : j ≤ k) : below X j ≤ below X k := by
  unfold below A
  refine Finset.sum_le_sum fun n _ => ?_
  split_ifs <;> omega

theorem below_le (X : ℕ → BitVec 32) (k : ℕ) : below X k ≤ 262144 := A_le X _

theorem rank_lt_succ {X : ℕ → BitVec 32} {n : ℕ} (hn : n < 262144) : rank X n < below X (ordZ (X n) + 1) := by
  have h := pref_mono X (ordZ (X n)) (show n + 1 ≤ 262144 by omega)
  rw [pref_succ, if_pos rfl] at h
  have := below_succ X (ordZ (X n))
  unfold rank
  omega

/-- A row's word `k`-th in order bounds the words below its place, and those up to it, both zeros at one place. -/
theorem sel_below {X : ℕ → BitVec 32} {k : ℕ} {q : BitVec 32} (h1 : (A X fun v => ordN v < ordN q) < k)
    (h2 : k ≤ A X fun v => ordN v ≤ ordN q) : below X (ordZ q) < k ∧ k ≤ below X (ordZ q + 1) := by
  constructor
  · refine lt_of_le_of_lt ?_ h1
    unfold below A
    refine Finset.sum_le_sum fun n _ => ?_
    by_cases h : ordZ (X n) < ordZ q
    · rw [if_pos h, if_pos (ordN_lt_of_ordZ_lt h)]
    · rw [if_neg h]; omega
  · refine le_trans h2 ?_
    unfold below A
    refine Finset.sum_le_sum fun n _ => ?_
    by_cases h : ordN (X n) ≤ ordN q
    · have := ordZ_le_of_ordN_le h
      rw [if_pos h, if_pos (by omega)]
    · rw [if_neg h]; omega

/-- A word is among the first 26214 exactly when it is below the threshold's place, or at it and early enough. -/
theorem rank_lt_iff {X : ℕ → BitVec 32} {Q n : ℕ} (hn : n < 262144) (h1 : below X Q < 26214) (h2 : 26214 ≤ below X (Q + 1)) :
    rank X n < 26214 ↔ ordZ (X n) < Q ∨ ordZ (X n) = Q ∧ pref X Q n < 26214 - below X Q := by
  have h3 := rank_lt_succ (X := X) hn
  rcases lt_trichotomy (ordZ (X n)) Q with h | h | h
  · have := below_mono X (show ordZ (X n) + 1 ≤ Q by omega)
    constructor
    · intro _; exact Or.inl h
    · intro _; omega
  · subst h
    unfold rank
    omega
  · have := below_mono X (show Q + 1 ≤ ordZ (X n) by omega)
    unfold rank
    omega

/-- A word is among the last 26214 exactly when it is above the threshold's place, or at it and late enough. -/
theorem le_rank_iff {X : ℕ → BitVec 32} {Q n : ℕ} (hn : n < 262144) (h1 : below X Q < 235931) (h2 : 235931 ≤ below X (Q + 1)) :
    235930 ≤ rank X n ↔ Q < ordZ (X n) ∨ ordZ (X n) = Q ∧ 235930 - below X Q ≤ pref X Q n := by
  have h3 := rank_lt_succ (X := X) hn
  rcases lt_trichotomy (ordZ (X n)) Q with h | h | h
  · have := below_mono X (show ordZ (X n) + 1 ≤ Q by omega)
    omega
  · subst h
    unfold rank
    omega
  · have := below_mono X (show Q + 1 ≤ ordZ (X n) by omega)
    unfold rank
    omega

/-! ## The stable sort puts each word at its rank -/

/-- Position `a` stands before position `b` in the sorted row. -/
def Before (X : ℕ → BitVec 32) (a b : ℕ) : Prop := ordZ (X a) < ordZ (X b) ∨ ordZ (X a) = ordZ (X b) ∧ a < b

instance (X : ℕ → BitVec 32) (a b : ℕ) : Decidable (Before X a b) := by unfold Before; infer_instance

theorem rank_eq_card (X : ℕ → BitVec 32) {n : ℕ} (hn : n < 262144) :
    rank X n = ((Finset.range 262144).filter fun m => Before X m n).card := by
  rw [Finset.card_filter]
  unfold rank below pref A
  have e : ∑ m ∈ Finset.range n, (if ordZ (X m) = ordZ (X n) then 1 else 0)
      = ∑ m ∈ Finset.range 262144, if ordZ (X m) = ordZ (X n) ∧ m < n then 1 else 0 := by
    rw [← Finset.sum_subset (Finset.range_mono (show n ≤ 262144 by omega)) (fun m _ hm => if_neg fun h => hm (Finset.mem_range.mpr h.2))]
    refine Finset.sum_congr rfl fun m hm => ?_
    have := Finset.mem_range.mp hm
    exact if_congr (by constructor <;> intro h <;> [exact ⟨h, this⟩; exact h.1]) rfl rfl
  rw [e, ← Finset.sum_add_distrib]
  have key : ∀ a b m n : ℕ, ((if a < b then 1 else 0) + if a = b ∧ m < n then 1 else 0) = if a < b ∨ a = b ∧ m < n then 1 else 0 := by
    intro a b m n
    by_cases h1 : a < b
    · rw [if_pos h1, if_neg (by omega), if_pos (Or.inl h1)]
    · by_cases h2 : a = b ∧ m < n
      · rw [if_neg h1, if_pos h2, if_pos (Or.inr h2)]
      · rw [if_neg h1, if_neg h2, if_neg (by tauto)]
  exact Finset.sum_congr rfl fun m _ => key _ _ _ _

/-- A stable sort by a number puts the lower number first, and of equals the earlier. -/
theorem sorted_pair {N : ℕ} (D : Fin N → ℕ) (hD : ∀ a, D a < 2 ^ 32) {i j : Fin N} (h : i < j) :
    let R := fun a b : Fin N => decide (D a < D b)
    D (sortedFrom R i) < D (sortedFrom R j) ∨ D (sortedFrom R i) = D (sortedFrom R j) ∧ sortedFrom R i < sortedFrom R j := by
  intro R
  have hR : R = fun a b => decide (2 ^ 32 - D b < 2 ^ 32 - D a) := by
    funext a b
    have := hD a
    have := hD b
    exact decide_eq_decide.mpr (by omega)
  have hp := PlanTiles.pairwise_stableSort_lex (fun a : Fin N => 2 ^ 32 - D a) (· < ·) (List.finRange N) (List.pairwise_lt_finRange N)
  rw [← hR] at hp
  have h1 := hD (sortedFrom R i)
  have h2 := hD (sortedFrom R j)
  have h3 : 2 ^ 32 - D (sortedFrom R j) < 2 ^ 32 - D (sortedFrom R i)
      ∨ (2 ^ 32 - D (sortedFrom R i) = 2 ^ 32 - D (sortedFrom R j) ∧ sortedFrom R i < sortedFrom R j) :=
    List.pairwise_iff_get.mp hp (i.cast (length_sortPositions N R).symm) (j.cast (length_sortPositions N R).symm) h
  omega

/-- The positions in sorted order. -/
abbrev from' (X : ℕ → BitVec 32) : Fin 262144 → Fin 262144 :=
  sortedFrom fun a b => decide (ordZ (X a.val) < ordZ (X b.val))

theorem from_before (X : ℕ → BitVec 32) {i j : Fin 262144} (h : i < j) : Before X (from' X i).val (from' X j).val :=
  sorted_pair (fun a : Fin 262144 => ordZ (X a.val)) (fun a => ordZ_lt _) h

theorem before_iff (X : ℕ → BitVec 32) (i j : Fin 262144) : Before X (from' X i).val (from' X j).val ↔ i < j := by
  constructor
  · intro h
    rcases lt_trichotomy i j with hl | rfl | hl
    · exact hl
    · unfold Before at h; omega
    · have := from_before X hl
      unfold Before at h this
      omega
  · exact from_before X

/-- The word at sorted place `r` has rank `r`. -/
theorem rank_from (X : ℕ → BitVec 32) (r : Fin 262144) : rank X (from' X r).val = r.val := by
  rw [rank_eq_card X (from' X r).isLt]
  have : ((Finset.range 262144).filter fun m => Before X m (from' X r).val)
      = (Finset.range r.val).attach.image fun i => (from' X ⟨i.1, by have := Finset.mem_range.mp i.2; have := r.isLt; omega⟩).val := by
    ext m
    simp only [Finset.mem_filter, Finset.mem_range, Finset.mem_image, Finset.mem_attach, true_and, Subtype.exists]
    constructor
    · rintro ⟨hm, hb⟩
      obtain ⟨i, hi⟩ := sortedFrom_surjective (fun a b : Fin 262144 => decide (ordZ (X a.val) < ordZ (X b.val))) ⟨m, hm⟩
      have hm' : (from' X i).val = m := congrArg Fin.val hi
      rw [← hm', before_iff] at hb
      exact ⟨i.val, hb, hm'⟩
    · rintro ⟨i, hi, rfl⟩
      exact ⟨(from' X _).isLt, (before_iff X _ _).mpr hi⟩
  rw [this, Finset.card_image_of_injective]
  · simp
  · intro a b h
    have := sortedFrom_injective _ (Fin.ext h)
    exact Subtype.ext (congrArg Fin.val this)

/-- Word `n` sits at sorted place `r` exactly when its rank is `r`. -/
theorem from_eq_iff (X : ℕ → BitVec 32) (r n : Fin 262144) : from' X r = n ↔ rank X n.val = r.val := by
  constructor
  · rintro rfl; exact rank_from X r
  · intro h
    obtain ⟨i, hi⟩ := sortedFrom_surjective (fun a b : Fin 262144 => decide (ordZ (X a.val) < ordZ (X b.val))) n
    have hi' : from' X i = n := hi
    have := rank_from X i
    rw [hi', h] at this
    rw [← hi']
    exact congrArg _ (Fin.ext this)

end Cert.Proof

end
-- ==== Proof.LabelValue.lean ====
/-
  What the TensorCore call's body writes, over the reals: the label of each word of its image, by the place of its
  number among the image's.
-/
module

public import proofs.«01_k».proof.Proof.Label
public import proofs.«01_k».proof.Proof.Rank
public import Idealize.ShloMosaic.Lib.MatmulPlain
public import Idealize.ShloMosaic.Lib.ValueIdx
public import Idealize.ShloMosaic.Lib.ValueIdxRank1
public import Idealize.ShloMosaic.Lib.ValueLayout
public import Idealize.ShloMosaic.Lib.ValueLayoutCasts
public import Idealize.ShloMosaic.Lib.WordCmp
public import Idealize.ShloMosaic.Lib.WordSum

@[expose] public section

noncomputable section

namespace Cert.Proof

open Cert.KernelIdeal Cert.KernelIdeal.Gen
open Idealize.ShloMosaic Idealize.ShloMosaic.ValueIdx

/-! ## Keys -/

theorem flip_toNat (v : BitVec 32) (h : 2 ^ 31 ≤ v.toNat) : (v ^^^ 2147483647#32).toNat = 2 ^ 31 + 2 ^ 32 - 1 - v.toNat := by
  have h31 : v.getLsbD 31 = true := by
    rw [show v.getLsbD 31 = v.msb from (BitVec.msb_eq_getLsbD_last v).symm, BitVec.msb_eq_decide]
    exact decide_eq_true h
  have h0 : ~~~v &&& 2147483648#32 = 0#32 := by
    apply BitVec.eq_of_getLsbD_eq
    intro i hi
    interval_cases i <;> simp [h31]
  have e : v ^^^ 2147483647#32 = ~~~v + 2147483648#32 := by
    rw [BitVec.add_eq_or_of_and_eq_zero _ _ h0]
    apply BitVec.eq_of_getLsbD_eq
    intro i hi
    interval_cases i <;> simp [h31]
  rw [e, BitVec.toNat_add, BitVec.toNat_not]
  have := v.isLt
  show (2 ^ 32 - 1 - v.toNat + 2147483648) % 2 ^ 32 = _
  omega

/-- A word's key, read signed, is its place less 2 ^ 31. -/
theorem keyW_toInt (v : BitVec 32) : (keyW v).toInt = (ordN v : Int) - 2 ^ 31 := by
  have hv := v.isLt
  unfold keyW ordN
  show (Scalar.select (IntOp.cmpi .sge v 0#32) v (v ^^^ 2147483647#32)).toInt = _
  rw [WordCmp.cmpi_sge_zero, WordCmp.select_decide]
  show (if v.toNat < 2 ^ 31 then v else v ^^^ 2147483647#32).toInt = _
  by_cases h : v.toNat < 2 ^ 31
  · rw [if_pos h, if_pos h, BitVec.toInt_eq_toNat_cond]
    omega
  · rw [if_neg h, if_neg h, BitVec.toInt_eq_toNat_cond, flip_toNat v (by omega)]
    omega

/-- The key with the word of −0 put at the place of 0's. -/
def keyZ (v : BitVec 32) : BitVec 32 := Scalar.select (Scalar.cmpi .eq v 2147483648#32) 0#32 (keyW v)

theorem keyZ_toInt (v : BitVec 32) : (keyZ v).toInt = (ordZ v : Int) - 2 ^ 31 := by
  unfold keyZ ordZ
  show (Scalar.select (IntOp.cmpi .eq v 2147483648#32) 0#32 (keyW v)).toInt = _
  rw [WordCmp.cmpi_eq_eq, WordCmp.select_decide]
  by_cases h : v = 2147483648#32
  · rw [if_pos h, if_pos h]; decide
  · rw [if_neg h, if_neg h, keyW_toInt]

/-- A threshold with the key of −0 put at the key of 0. -/
def thrZ (o : BitVec 32) : BitVec 32 := Scalar.select (Scalar.cmpi .eq o 4294967295#32) 0#32 o

theorem thrZ_toInt (q : BitVec 32) : (thrZ (keyW q)).toInt = (ordZ q : Int) - 2 ^ 31 := by
  have h := keyW_toInt q
  unfold thrZ
  show (Scalar.select (IntOp.cmpi .eq (keyW q) 4294967295#32) 0#32 (keyW q)).toInt = _
  rw [WordCmp.cmpi_eq_eq, WordCmp.select_decide, ordZ_eq]
  have hm : (4294967295#32 : BitVec 32).toInt = -1 := by decide
  by_cases hq : keyW q = 4294967295#32
  · have h2 : (keyW q).toInt = -1 := by rw [hq, hm]
    rw [if_pos hq, if_pos (by omega)]; decide
  · have h2 : (keyW q).toInt ≠ -1 := fun e => hq (BitVec.toInt_inj.mp (e.trans hm.symm))
    rw [if_neg hq, if_neg (by omega), h]

/-! ## Sums over the image in its order -/

theorem sum_rows (f : ℕ → ℕ) (H : ℕ) : ∑ a ∈ Finset.range H, ∑ b ∈ Finset.range 512, f (a * 512 + b) = ∑ n ∈ Finset.range (H * 512), f n := by
  induction H with
  | zero => simp
  | succ H ih => rw [Finset.sum_range_succ, ih, Nat.succ_mul, Finset.sum_range_add]

theorem sum_part (f : ℕ → ℕ) (N : ℕ) {k : ℕ} (hk : k ≤ N) : (∑ a : Fin N, if a.val < k then f a.val else 0) = ∑ a ∈ Finset.range k, f a := by
  rw [Fin.sum_univ_eq_sum_range (fun a => if a < k then f a else 0) N, ← Finset.sum_filter]
  congr 1
  ext a
  simp only [Finset.mem_filter, Finset.mem_range]
  omega

/-- The words before a position: those of the rows above, and those before it in its row. -/
theorem sum_before (f : ℕ → ℕ) (h v : Fin 512) :
    (∑ k : Fin 512, f (h.val * 512 + k.val) * (if k.val < v.val then 1 else 0))
      + (∑ r : Fin 512, (if r.val < h.val then 1 else 0) * ∑ k : Fin 512, f (r.val * 512 + k.val))
      = ∑ n ∈ Finset.range (h.val * 512 + v.val), f n := by
  have e1 : (∑ k : Fin 512, f (h.val * 512 + k.val) * (if k.val < v.val then 1 else 0)) = ∑ b ∈ Finset.range v.val, f (h.val * 512 + b) := by
    rw [← sum_part (fun b => f (h.val * 512 + b)) 512 v.isLt.le]
    exact Finset.sum_congr rfl fun k _ => by split <;> simp
  have e2 : (∑ r : Fin 512, (if r.val < h.val then 1 else 0) * ∑ k : Fin 512, f (r.val * 512 + k.val))
      = ∑ a ∈ Finset.range h.val, ∑ b ∈ Finset.range 512, f (a * 512 + b) := by
    rw [← sum_part (fun a => ∑ b ∈ Finset.range 512, f (a * 512 + b)) 512 h.isLt.le]
    refine Finset.sum_congr rfl fun r _ => ?_
    rw [Fin.sum_univ_eq_sum_range (fun k => f (r.val * 512 + k)) 512]
    split <;> simp
  rw [e1, e2, sum_rows, Finset.sum_range_add, add_comm]

/-! ## The running count -/

/-- A bit, as a real number. -/
theorem bit_real (b : Bool) : FloatOps.sitofp (F := Ideal) .f32 ((BitVec.ofBool b).setWidth 32) = (((if b then 1 else 0 : ℕ) : ℕ) : EReal) := by
  show ((((BitVec.ofBool b).setWidth 32).toInt : ℝ) : EReal) = _
  cases b
  · rw [show ((BitVec.ofBool false).setWidth 32).toInt = 0 by decide]; simp
  · rw [show ((BitVec.ofBool true).setWidth 32).toInt = 1 by decide]; simp

theorem nat_real (n : ℕ) (hn : n < 2 ^ 31) (w : BitVec 32) (hw : w.toNat = n) : FloatOps.sitofp (F := Ideal) .f32 w = ((n : ℕ) : EReal) := by
  show ((w.toInt : ℝ) : EReal) = _
  rw [WordCmp.toInt_eq_toNat_of_lt_half (show w.toNat < 2 ^ (32 - 1) by rw [hw]; exact hn), hw]
  simp

theorem row_sum (x : FVec Ideal S512x512 .f32) (r : Fin 512) :
    multiReduction .add [1] S512 x 0x00000000#32 reduces_S512x512_S512 (.inl rfl) rfl (ix1 r) = ∑ k : Fin 512, x (ix2 r k) := by
  refine (Ideal.multiReduction_add_single x _ reduces_S512x512_S512 (.inl rfl) rfl (ix1 r)).trans ?_
  refine Finset.sum_congr rfl fun k _ => congrArg x ?_
  funext a
  match a with
  | ⟨0, _⟩ => rfl
  | ⟨1, _⟩ => rfl

theorem product_sq (L R : FVec Ideal S512x512 .bf16) (h v : Fin 512) :
    matmul dot_S512x512_S512x512_S512x512_1_0_0_1_n_n none L R (constant S512x512 .f32 0x00000000#32) (ix2 h v)
      = ∑ k : Fin 512, L (ix2 h k) * R (ix2 k v) := by
  have hd : dot_S512x512_S512x512_S512x512_1_0_0_1_n_n = DotDims.plain 512 512 512 := rfl
  rw [hd]
  refine (Ideal.matmul_plain_apply none L R _ h v).trans ?_
  show Ideal.ofBits .f32 0x00000000#32 + _ = _
  rw [Ideal.ofBits_zero_f32, zero_add]

theorem product_col (L : FVec Ideal S512x512 .f32) (R : FVec Ideal S512x1 .f32) (h : Fin 512) :
    matmul dot_S512x512_S512x1_S512x1_1_0_0_1_n_n none L R (constant S512x1 .f32 0x00000000#32) (ix2 h (0 : Fin 1))
      = ∑ k : Fin 512, L (ix2 h k) * R (ix2 k (0 : Fin 1)) := by
  have hd : dot_S512x512_S512x1_S512x1_1_0_0_1_n_n = DotDims.plain 512 512 1 := rfl
  rw [hd]
  refine (Ideal.matmul_plain_apply none L R _ h 0).trans ?_
  show Ideal.ofBits .f32 0x00000000#32 + _ = _
  rw [Ideal.ofBits_zero_f32, zero_add]

theorem column_spread (x : FVec Ideal S512x1 .f32) (h v : Fin 512) :
    broadcastTo S512x512 x broadcasts_S512x1_S512x512 (ix2 h v) = x (ix2 h (0 : Fin 1)) := by
  refine congrArg x ?_
  funext a
  match a with
  | ⟨0, _⟩ => rfl
  | ⟨1, _⟩ => rfl

/-- The running count of the marked words, as the body computes it. -/
def runsOf {F : FTy → Type} [FloatOps F] (e : IVec S512x512 1) : FVec F S512x512 .f32 :=
  addf (matmul dot_S512x512_S512x512_S512x512_1_0_0_1_n_n none (truncf .bf16 (sitofp (F := F) .f32 (extui 32 e natLt_1_32)) bitsLt_bf16_f32)
      (k1_pay7 (F := F)) (constant S512x512 .f32 0x00000000#32))
    (broadcastTo S512x512 (matmul dot_S512x512_S512x1_S512x1_1_0_0_1_n_n none
      (sitofp (F := F) .f32 (extui 32 (cmpi .slt (iota .tc S512x512 32 [1] iota_S512x512_d1_w32) (iota .tc S512x512 32 [0] iota_S512x512_d0_w32)) natLt_1_32))
      (shapeCast S512x1 (multiReduction .add [1] S512 (sitofp (F := F) .f32 (extui 32 e natLt_1_32)) 0x00000000#32 reduces_S512x512_S512 (.inl rfl) rfl)
        shapeCasts_S512_S512x1)
      (constant S512x1 .f32 0x00000000#32)) broadcasts_S512x1_S512x512)

/-- The same over the reals. -/
abbrev runs (e : IVec S512x512 1) : FVec Ideal S512x512 .f32 := runsOf (F := Ideal) e

theorem lt_words {a b : ℕ} (ha : a < 512) (hb : b < 512) :
    IntOp.cmpi .slt (BitVec.ofNat 32 a) (BitVec.ofNat 32 b) = BitVec.ofBool (decide (a < b)) :=
  WordCmp.cmpi_slt_ofNat (show a < 2 ^ 31 by omega) (show b < 2 ^ 31 by omega)

theorem row_word (a b : Fin 512) : iota .tc S512x512 32 [0] iota_S512x512_d0_w32 (ix2 a b) = BitVec.ofNat 32 a.val := by
  show BitVec.ofNat 32 (0 * 512 + a.val) = _
  rw [Nat.zero_mul, Nat.zero_add]

theorem col_word (a b : Fin 512) : iota .tc S512x512 32 [1] iota_S512x512_d1_w32 (ix2 a b) = BitVec.ofNat 32 b.val := by
  show BitVec.ofNat 32 (0 * 512 + b.val) = _
  rw [Nat.zero_mul, Nat.zero_add]

theorem left_mask (h r : Fin 512) :
    sitofp (F := Ideal) .f32 (extui 32 (cmpi .slt (iota .tc S512x512 32 [1] iota_S512x512_d1_w32) (iota .tc S512x512 32 [0] iota_S512x512_d0_w32)) natLt_1_32)
      (ix2 h r) = (((if r.val < h.val then 1 else 0 : ℕ) : ℕ) : EReal) := by
  show FloatOps.sitofp (F := Ideal) .f32 ((IntOp.cmpi .slt (iota .tc S512x512 32 [1] iota_S512x512_d1_w32 (ix2 h r))
    (iota .tc S512x512 32 [0] iota_S512x512_d0_w32 (ix2 h r))).setWidth 32) = _
  rw [row_word, col_word, lt_words r.isLt h.isLt, bit_real]
  simp

theorem right_mask (k v : Fin 512) : k1_pay7 (F := Ideal) (ix2 k v) = (((if k.val < v.val then 1 else 0 : ℕ) : ℕ) : EReal) := by
  show FloatOps.sitofp (F := Ideal) .f32 ((IntOp.cmpi .slt (iota .tc S512x512 32 [0] iota_S512x512_d0_w32 (ix2 k v))
    (iota .tc S512x512 32 [1] iota_S512x512_d1_w32 (ix2 k v))).setWidth 32) = _
  rw [row_word, col_word, lt_words k.isLt v.isLt, bit_real]
  simp

/-- A bit of `P`, as a natural number. -/
def bitN (P : ℕ → Prop) [DecidablePred P] (n : ℕ) : ℕ := if P n then 1 else 0

/-- The marks, as real numbers. -/
def marksF (e : IVec S512x512 1) : FVec Ideal S512x512 .f32 := sitofp (F := Ideal) .f32 (extui 32 e natLt_1_32)

/-- The mask of the columns left of a position, as real numbers. -/
def leftF : FVec Ideal S512x512 .f32 :=
  sitofp (F := Ideal) .f32 (extui 32 (cmpi .slt (iota .tc S512x512 32 [1] iota_S512x512_d1_w32) (iota .tc S512x512 32 [0] iota_S512x512_d0_w32)) natLt_1_32)

/-- The sums of the rows, as a column. -/
def rowsF (x : FVec Ideal S512x512 .f32) : FVec Ideal S512x1 .f32 :=
  shapeCast S512x1 (multiReduction .add [1] S512 x 0x00000000#32 reduces_S512x512_S512 (.inl rfl) rfl) shapeCasts_S512_S512x1

theorem rowsF_apply (x : FVec Ideal S512x512 .f32) (r : Fin 512) : rowsF x (ix2 r (0 : Fin 1)) = ∑ k : Fin 512, x (ix2 r k) := by
  unfold rowsF
  exact (shapeCast_a_a1_apply _ _ r 0).trans (row_sum x r)

theorem runs_eq (e : IVec S512x512 1) : runs e
    = addf (matmul dot_S512x512_S512x512_S512x512_1_0_0_1_n_n none (truncf .bf16 (marksF e) bitsLt_bf16_f32) (k1_pay7 (F := Ideal)) (constant S512x512 .f32 0x00000000#32))
      (broadcastTo S512x512 (matmul dot_S512x512_S512x1_S512x1_1_0_0_1_n_n none leftF (rowsF (marksF e)) (constant S512x1 .f32 0x00000000#32))
        broadcasts_S512x1_S512x512) := rfl

theorem marksF_apply {e : IVec S512x512 1} {P : ℕ → Prop} [DecidablePred P]
    (he : ∀ a b : Fin 512, e (ix2 a b) = BitVec.ofBool (decide (P (a.val * 512 + b.val)))) (a b : Fin 512) :
    marksF e (ix2 a b) = ((bitN P (a.val * 512 + b.val) : ℕ) : EReal) := by
  show FloatOps.sitofp (F := Ideal) .f32 ((e (ix2 a b)).setWidth 32) = _
  rw [he, bit_real]
  unfold bitN
  simp

theorem leftF_apply (h r : Fin 512) : leftF (ix2 h r) = (((if r.val < h.val then 1 else 0 : ℕ) : ℕ) : EReal) := left_mask h r

theorem nat_sum_sq (f g : Fin 512 → ℕ) : (∑ k : Fin 512, ((f k : ℕ) : EReal) * ((g k : ℕ) : EReal)) = ((∑ k : Fin 512, f k * g k : ℕ) : EReal) := by
  rw [Nat.cast_sum]
  exact Finset.sum_congr rfl fun k _ => (EReal.natCast_mul _ _).symm

theorem in_row {e : IVec S512x512 1} {P : ℕ → Prop} [DecidablePred P]
    (he : ∀ a b : Fin 512, e (ix2 a b) = BitVec.ofBool (decide (P (a.val * 512 + b.val)))) (h v : Fin 512) :
    matmul dot_S512x512_S512x512_S512x512_1_0_0_1_n_n none (truncf .bf16 (marksF e) bitsLt_bf16_f32) (k1_pay7 (F := Ideal)) (constant S512x512 .f32 0x00000000#32) (ix2 h v)
      = ((∑ k : Fin 512, bitN P (h.val * 512 + k.val) * (if k.val < v.val then 1 else 0) : ℕ) : EReal) := by
  rw [product_sq, ← nat_sum_sq]
  exact Finset.sum_congr rfl fun k _ => congrArg₂ (fun a b : EReal => a * b) (marksF_apply he h k) (right_mask k v)

theorem in_rows_above {e : IVec S512x512 1} {P : ℕ → Prop} [DecidablePred P]
    (he : ∀ a b : Fin 512, e (ix2 a b) = BitVec.ofBool (decide (P (a.val * 512 + b.val)))) (h : Fin 512) :
    matmul dot_S512x512_S512x1_S512x1_1_0_0_1_n_n none leftF (rowsF (marksF e)) (constant S512x1 .f32 0x00000000#32) (ix2 h (0 : Fin 1))
      = ((∑ r : Fin 512, (if r.val < h.val then 1 else 0) * ∑ k : Fin 512, bitN P (r.val * 512 + k.val) : ℕ) : EReal) := by
  rw [product_col, ← nat_sum_sq]
  refine Finset.sum_congr rfl fun r _ => congrArg₂ (fun a b : EReal => a * b) (leftF_apply h r) ?_
  rw [rowsF_apply, Nat.cast_sum]
  exact Finset.sum_congr rfl fun k _ => marksF_apply he r k

theorem addf_of {x y : FVec Ideal S512x512 .f32} {j : S512x512.Idx} {a b : EReal} (hx : x j = a) (hy : y j = b) : addf x y j = a + b := by
  subst hx hy; rfl

/-- It counts the marked words before each position. -/
theorem runs_apply {e : IVec S512x512 1} {P : ℕ → Prop} [DecidablePred P]
    (he : ∀ a b : Fin 512, e (ix2 a b) = BitVec.ofBool (decide (P (a.val * 512 + b.val)))) (h v : Fin 512) :
    runs e (ix2 h v) = ((∑ n ∈ Finset.range (h.val * 512 + v.val), bitN P n : ℕ) : EReal) := by
  rw [runs_eq, ← sum_before (bitN P) h v, Nat.cast_add]
  exact addf_of (in_row he h v) ((column_spread _ h v).trans (in_rows_above he h))

/-! ## The counts -/

theorem bit_nat (b : Bool) : ((BitVec.ofBool b).setWidth 32).toNat = if b then 1 else 0 := by cases b <;> rfl

theorem sum_image (f : ℕ → ℕ) : ∑ a : Fin 512, ∑ b : Fin 512, f (a.val * 512 + b.val) = ∑ n ∈ Finset.range 262144, f n := by
  have h := sum_rows f 512
  rw [← Fin.sum_univ_eq_sum_range (fun a => ∑ b ∈ Finset.range 512, f (a * 512 + b)) 512] at h
  rw [← show 512 * 512 = 262144 by norm_num, ← h]
  exact Finset.sum_congr rfl fun a _ => Fin.sum_univ_eq_sum_range (fun b => f (a.val * 512 + b)) 512

theorem bitN_sum_le (P : ℕ → Prop) [DecidablePred P] (n : ℕ) : ∑ m ∈ Finset.range n, bitN P m ≤ n := by
  refine (Finset.sum_le_card_nsmul _ _ 1 fun m _ => ?_).trans (by simp)
  unfold bitN
  split <;> omega

/-- The words of an array summed are those of the array cast to another shape. -/
theorem sum_shapeCast {s t : Shape} (x : s.Idx → BitVec 32) (h : s.ShapeCasts t) :
    ∑ i : t.Idx, (shapeCast t x h i).toNat = ∑ i : s.Idx, (x i).toNat :=
  Equiv.sum_comp (Shape.reshapeEquiv _) fun i => (x i).toNat

/-- The count of the marked words, as the body computes it. -/
def countW (e : IVec S512x512 1) : IVec S1 32 :=
  multiReductionI .add [1, 2] S1 (shapeCast S1x512x512 (extui 32 e natLt_1_32) shapeCasts_S512x512_S1x512x512) 0#32 reduces_S1x512x512_S1 rfl

theorem marks_total {e : IVec S512x512 1} {P : ℕ → Prop} [DecidablePred P]
    (he : ∀ a b : Fin 512, e (ix2 a b) = BitVec.ofBool (decide (P (a.val * 512 + b.val)))) :
    ∑ i : S512x512.Idx, (extui 32 e natLt_1_32 i).toNat = ∑ n ∈ Finset.range 262144, bitN P n := by
  refine (sum_idx2 (n0 := 512) (n1 := 512) fun i => (extui 32 e natLt_1_32 i).toNat).trans ?_
  rw [← sum_image (bitN P)]
  refine Finset.sum_congr rfl fun a _ => Finset.sum_congr rfl fun b _ => ?_
  show ((e (ix2 a b)).setWidth 32).toNat = _
  rw [he, bit_nat]
  unfold bitN
  simp

theorem countW_toNat {e : IVec S512x512 1} {P : ℕ → Prop} [DecidablePred P]
    (he : ∀ a b : Fin 512, e (ix2 a b) = BitVec.ofBool (decide (P (a.val * 512 + b.val)))) (j : S1.Idx) :
    (countW e j).toNat = ∑ n ∈ Finset.range 262144, bitN P n := by
  have hf : (Finset.univ.filter fun i : S1x512x512.Idx => reduces_S1x512x512_S1.drop i = j) = Finset.univ := by
    refine Finset.filter_true_of_mem fun i _ => ?_
    funext a
    match a with
    | ⟨0, h⟩ =>
      have h1 : (reduces_S1x512x512_S1.drop i ⟨0, h⟩).val < 1 := (reduces_S1x512x512_S1.drop i ⟨0, h⟩).isLt
      have h2 : (j ⟨0, h⟩).val < 1 := (j ⟨0, h⟩).isLt
      exact Fin.ext (by omega)
  have hs : ∑ i ∈ Finset.univ.filter (fun i : S1x512x512.Idx => reduces_S1x512x512_S1.drop i = j),
      (shapeCast S1x512x512 (extui 32 e natLt_1_32) shapeCasts_S512x512_S1x512x512 i).toNat = ∑ n ∈ Finset.range 262144, bitN P n := by
    rw [hf, sum_shapeCast, marks_total he]
  have hle := bitN_sum_le P 262144
  unfold countW
  refine (WordSum.toNat_multiReductionI_add _ reduces_S1x512x512_S1 rfl j ?_).trans hs
  rw [hs]
  omega

/-! ## The labels -/

section
variable {x : S1x1x512x512.Idx → BitVec 32} {X : ℕ → BitVec 32} (hX : ∀ a b : Fin 512, x (ix4 (0 : Fin 1) (0 : Fin 1) a b) = X (a.val * 512 + b.val))
include hX

theorem key_at (a b : Fin 512) : k1_pay2 (F := Ideal) x (ix2 a b) = keyZ (X (a.val * 512 + b.val)) := by
  have h : shapeCast S512x512 x shapeCasts_S1x1x512x512_S512x512 (ix2 a b) = X (a.val * 512 + b.val) :=
    (congrArg x (reshapeEquiv_ix2_11ab _ a b)).trans (hX a b)
  rw [← h]
  rfl

theorem key_eq_at (q : BitVec 32) (a b : Fin 512) :
    cmpi .eq (k1_pay2 (F := Ideal) x) (broadcast S512x512 (thrZ (keyW q))) (ix2 a b)
      = BitVec.ofBool (decide (ordZ (X (a.val * 512 + b.val)) = ordZ q)) := by
  show IntOp.cmpi .eq (k1_pay2 (F := Ideal) x (ix2 a b)) (thrZ (keyW q)) = _
  rw [key_at hX, WordCmp.cmpi_eq_eq]
  congr 1
  have h1 := keyZ_toInt (X (a.val * 512 + b.val))
  have h2 := thrZ_toInt q
  refine decide_eq_decide.mpr ⟨fun h => ?_, fun h => BitVec.toInt_inj.mp (by omega)⟩
  rw [h] at h1
  omega

theorem key_lt_at (q : BitVec 32) (a b : Fin 512) :
    cmpi .slt (k1_pay2 (F := Ideal) x) (broadcast S512x512 (thrZ (keyW q))) (ix2 a b)
      = BitVec.ofBool (decide (ordZ (X (a.val * 512 + b.val)) < ordZ q)) := by
  show IntOp.cmpi .slt (k1_pay2 (F := Ideal) x (ix2 a b)) (thrZ (keyW q)) = _
  rw [key_at hX, WordCmp.cmpi_slt_eq, keyZ_toInt, thrZ_toInt]
  congr 1
  exact decide_eq_decide.mpr (by omega)

theorem key_gt_at (q : BitVec 32) (a b : Fin 512) :
    cmpi .sgt (k1_pay2 (F := Ideal) x) (broadcast S512x512 (thrZ (keyW q))) (ix2 a b)
      = BitVec.ofBool (decide (ordZ q < ordZ (X (a.val * 512 + b.val)))) := by
  show IntOp.cmpi .sgt (k1_pay2 (F := Ideal) x (ix2 a b)) (thrZ (keyW q)) = _
  rw [key_at hX, WordCmp.cmpi_sgt_eq, keyZ_toInt, thrZ_toInt]
  congr 1
  exact decide_eq_decide.mpr (by omega)

/-- The count of the words below a threshold. -/
theorem count_at (q : BitVec 32) (j : S1.Idx) :
    (countW (cmpi .slt (k1_pay2 (F := Ideal) x) (broadcast S512x512 (thrZ (keyW q)))) j).toNat = below X (ordZ q) :=
  countW_toNat (P := fun n => ordZ (X n) < ordZ q) (fun a b => key_lt_at hX q a b) j

theorem runs_at (q : BitVec 32) (h v : Fin 512) :
    runs (cmpi .eq (k1_pay2 (F := Ideal) x) (broadcast S512x512 (thrZ (keyW q)))) (ix2 h v)
      = ((pref X (ordZ q) (h.val * 512 + v.val) : ℕ) : EReal) :=
  runs_apply (P := fun n => ordZ (X n) = ordZ q) (fun a b => key_eq_at hX q a b) h v

end

/-- The body's choice of a label from the keys, the counts and the marks. -/
def pick {F : FTy → Type} [FloatOps F] (k lo hi mlo mhi : BitVec 32) (elo ehi : BitVec 1) (rlo rhi : F .f32) : BitVec 32 :=
  Scalar.select (IntOp.ori (IntOp.cmpi .sgt k hi) (IntOp.andi ehi (FloatOps.cmpf (F := F) (φ := .f32) .oge rhi
      (Scalar.sitofp .f32 (Scalar.subi (Scalar.subi 262144#32 mhi) 26214#32))))) 1#32
    (Scalar.select (IntOp.ori (IntOp.cmpi .slt k lo) (IntOp.andi elo (FloatOps.cmpf (F := F) (φ := .f32) .olt rlo
      (Scalar.sitofp .f32 (Scalar.subi 26214#32 mlo))))) 0#32 255#32)

theorem pay8_at {F : FTy → Type} [FloatOps F] (lo hi : BitVec 32) (key : IVec S512x512 32) (mlo mhi : BitVec 32) (elo ehi : IVec S512x512 1)
    (j : S512x512.Idx) :
    k1_pay8 (F := F) lo hi key mlo mhi elo ehi (iota .tc S512x512 32 [0] iota_S512x512_d0_w32) (iota .tc S512x512 32 [1] iota_S512x512_d1_w32)
      (k1_pay7 (F := F)) j = pick (F := F) (key j) lo hi mlo mhi (elo j) (ehi j) (runsOf elo j) (runsOf ehi j) := rfl

theorem pay1_at (y : IVec S512x512 32) (h v : Fin 512) : k1_pay1 y (ix3 (0 : Fin 1) h v) = y (ix2 h v) := by
  unfold k1_pay1
  exact shapeCast_ab_1ab_apply y shapeCasts_S512x512_S1x512x512 0 h v

theorem labVal_at {F : FTy → Type} [FloatOps F] (lo hi : BitVec 32) (x : S1x1x512x512.Idx → BitVec 32) (h v : Fin 512) :
    ∃ j : S1.Idx, labVal (F := F) lo hi x (ix3 (0 : Fin 1) h v)
      = pick (F := F) (k1_pay2 (F := F) x (ix2 h v)) (thrZ lo) (thrZ hi)
        (countW (cmpi .slt (k1_pay2 (F := F) x) (broadcast S512x512 (thrZ lo))) j)
        (countW (cmpi .slt (k1_pay2 (F := F) x) (broadcast S512x512 (thrZ hi))) j)
        (cmpi .eq (k1_pay2 (F := F) x) (broadcast S512x512 (thrZ lo)) (ix2 h v))
        (cmpi .eq (k1_pay2 (F := F) x) (broadcast S512x512 (thrZ hi)) (ix2 h v))
        (runsOf (cmpi .eq (k1_pay2 (F := F) x) (broadcast S512x512 (thrZ lo))) (ix2 h v))
        (runsOf (cmpi .eq (k1_pay2 (F := F) x) (broadcast S512x512 (thrZ hi))) (ix2 h v)) := by
  refine ⟨Shape.reshapeEquiv shapeCasts_S1_S1x1x1 fun a => ⟨(![0, 0, 0] : Fin 3 → ℕ) a, inpos_S1x1x1_p0_0_0 a⟩, ?_⟩
  unfold labVal
  exact (pay1_at _ h v).trans (pay8_at _ _ _ _ _ _ _ _)

/-! ## The label -/

/-- Below the low threshold or among the first of its equals: the label is 0. Above the high threshold or among the
    last of its equals: the label is 1. -/
theorem pick_label {X : ℕ → BitVec 32} {n : ℕ} (hn : n < 262144) {ql qh mlo mhi : BitVec 32}
    (hl1 : below X (ordZ ql) < 26214) (hl2 : 26214 ≤ below X (ordZ ql + 1))
    (hh1 : below X (ordZ qh) < 235931) (hh2 : 235931 ≤ below X (ordZ qh + 1))
    (hmlo : mlo.toNat = below X (ordZ ql)) (hmhi : mhi.toNat = below X (ordZ qh)) :
    pick (F := Ideal) (keyZ (X n)) (thrZ (keyW ql)) (thrZ (keyW qh)) mlo mhi
      (BitVec.ofBool (decide (ordZ (X n) = ordZ ql))) (BitVec.ofBool (decide (ordZ (X n) = ordZ qh)))
      ((pref X (ordZ ql) n : ℕ) : EReal) ((pref X (ordZ qh) n : ℕ) : EReal) = label X n := by
  have e1 : (Scalar.sitofp .f32 (Scalar.subi 26214#32 mlo) : Ideal .f32) = ((26214 - below X (ordZ ql) : ℕ) : EReal) := by
    refine nat_real _ (by omega) _ ?_
    show (26214#32 - mlo).toNat = _
    rw [BitVec.toNat_sub, hmlo]
    show (2 ^ 32 - below X (ordZ ql) + 26214) % 2 ^ 32 = _
    omega
  have e2 : (Scalar.sitofp .f32 (Scalar.subi (Scalar.subi 262144#32 mhi) 26214#32) : Ideal .f32) = ((235930 - below X (ordZ qh) : ℕ) : EReal) := by
    refine nat_real _ (by omega) _ ?_
    show (262144#32 - mhi - 26214#32).toNat = _
    rw [BitVec.toNat_sub, BitVec.toNat_sub, hmhi]
    show (2 ^ 32 - 26214 + (2 ^ 32 - below X (ordZ qh) + 262144) % 2 ^ 32) % 2 ^ 32 = _
    omega
  have c1 : FloatOps.cmpf (F := Ideal) (φ := .f32) .olt ((pref X (ordZ ql) n : ℕ) : EReal) ((26214 - below X (ordZ ql) : ℕ) : EReal)
      = BitVec.ofBool (decide (pref X (ordZ ql) n < 26214 - below X (ordZ ql))) := by
    show BitVec.ofBool (decide (((pref X (ordZ ql) n : ℕ) : EReal) < ((26214 - below X (ordZ ql) : ℕ) : EReal))) = _
    exact congrArg BitVec.ofBool (decide_eq_decide.mpr EReal.natCast_lt_iff)
  have c2 : FloatOps.cmpf (F := Ideal) (φ := .f32) .oge ((pref X (ordZ qh) n : ℕ) : EReal) ((235930 - below X (ordZ qh) : ℕ) : EReal)
      = BitVec.ofBool (decide (235930 - below X (ordZ qh) ≤ pref X (ordZ qh) n)) := by
    show BitVec.ofBool (decide (((235930 - below X (ordZ qh) : ℕ) : EReal) ≤ ((pref X (ordZ qh) n : ℕ) : EReal))) = _
    exact congrArg BitVec.ofBool (decide_eq_decide.mpr EReal.natCast_le_iff)
  have k1 : IntOp.cmpi .slt (keyZ (X n)) (thrZ (keyW ql)) = BitVec.ofBool (decide (ordZ (X n) < ordZ ql)) := by
    rw [WordCmp.cmpi_slt_eq, keyZ_toInt, thrZ_toInt]
    exact congrArg BitVec.ofBool (decide_eq_decide.mpr (by omega))
  have k2 : IntOp.cmpi .sgt (keyZ (X n)) (thrZ (keyW qh)) = BitVec.ofBool (decide (ordZ qh < ordZ (X n))) := by
    rw [WordCmp.cmpi_sgt_eq, keyZ_toInt, thrZ_toInt]
    exact congrArg BitVec.ofBool (decide_eq_decide.mpr (by omega))
  unfold pick label
  rw [e1, e2, c1, c2, k1, k2, WordCmp.andi_ofBool, WordCmp.andi_ofBool, WordCmp.ori_ofBool, WordCmp.ori_ofBool,
    ← Bool.decide_and, ← Bool.decide_and, ← Bool.decide_or, ← Bool.decide_or, WordCmp.select_decide, WordCmp.select_decide]
  have r1 := rank_lt_iff hn hl1 hl2
  have r2 := le_rank_iff hn hh1 hh2
  by_cases h1 : rank X n < 26214
  · rw [if_pos h1, if_neg (fun h => absurd (r2.mpr h) (by omega)), if_pos (r1.mp h1)]
  · rw [if_neg h1]
    by_cases h2 : 235930 ≤ rank X n
    · rw [if_pos h2, if_pos (r2.mp h2)]
    · rw [if_neg h2, if_neg (fun h => h2 (r2.mpr h)), if_neg (fun h => h1 (r1.mpr h))]

/-- With thresholds that select the two ends of the image, the body writes the label of each of its words. -/
theorem labVal_label {x : S1x1x512x512.Idx → BitVec 32} {X : ℕ → BitVec 32}
    (hX : ∀ a b : Fin 512, x (ix4 (0 : Fin 1) (0 : Fin 1) a b) = X (a.val * 512 + b.val)) {lo hi : BitVec 32}
    (hlo : Sel X 26214 lo) (hhi : Sel X 235931 hi) (h v : Fin 512) :
    labVal (F := Ideal) lo hi x (ix3 (0 : Fin 1) h v) = label X (h.val * 512 + v.val) := by
  obtain ⟨ql, rfl, hl1, hl2⟩ := hlo
  obtain ⟨qh, rfl, hh1, hh2⟩ := hhi
  have hl := sel_below hl1 hl2
  have hh := sel_below hh1 hh2
  have := h.isLt
  have := v.isLt
  obtain ⟨j, e⟩ := labVal_at (F := Ideal) (keyW ql) (keyW qh) x h v
  rw [e, key_at hX, key_eq_at hX, key_eq_at hX]
  refine Eq.trans ?_ (pick_label (by omega) hl.1 hl.2 hh.1 hh.2 (count_at hX ql j) (count_at hX qh j))
  exact congrArg₂ _ (runs_at hX ql h v) (runs_at hX qh h v)

end Cert.Proof

end
-- ==== Proof.Decode.lean ====
/-
  The number the reference decodes from a word, and its order: a word's number is below another's exactly when the
  word's place is below the other's.
-/
module

public import proofs.«01_k».proof.Proof.Rank
public import proofs.«01_k».proof.Proof.Gen.ReferenceIdeal.Read
public import Idealize.ShloMosaic.Lib.WordCmp

@[expose] public section

noncomputable section

namespace Cert.Proof

open Idealize.ShloMosaic Idealize.ShloMosaic.WordCmp
open Cert.ReferenceIdeal Cert.ReferenceIdeal.Read

/-- The significand of the magnitude `t`, the hidden bit added to a normal number's. -/
def signif (t : ℕ) : ℕ := if t / 2 ^ 23 = 0 then t % 2 ^ 23 else t % 2 ^ 23 + 2 ^ 23

/-- The binary exponent of the magnitude `t`, a subnormal number's being that of the least normal one. -/
def expo (t : ℕ) : ℕ := if t / 2 ^ 23 = 0 then 1 else t / 2 ^ 23

/-- The magnitude `t` in units of the least subnormal number. -/
def units (t : ℕ) : ℕ := signif t * 2 ^ (expo t - 1)

theorem units_strictMono : StrictMono units := by
  refine strictMono_nat_of_lt_succ fun t => ?_
  unfold units signif expo
  by_cases hf : t % 2 ^ 23 + 1 < 2 ^ 23
  · have h1 : (t + 1) / 2 ^ 23 = t / 2 ^ 23 := by omega
    have h2 : (t + 1) % 2 ^ 23 = t % 2 ^ 23 + 1 := by omega
    rw [h1, h2]
    refine Nat.mul_lt_mul_of_pos_right ?_ (by positivity)
    split <;> omega
  · have h1 : (t + 1) / 2 ^ 23 = t / 2 ^ 23 + 1 := by omega
    have h2 : (t + 1) % 2 ^ 23 = 0 := by omega
    have h3 : t % 2 ^ 23 = 2 ^ 23 - 1 := by omega
    have h4 : t / 2 ^ 23 + 1 ≠ 0 := by omega
    rw [h1, h2, h3]
    simp only [if_neg h4]
    by_cases h : t / 2 ^ 23 = 0
    · rw [h]; norm_num
    · simp only [if_neg h]
      obtain ⟨e, he⟩ : ∃ e, t / 2 ^ 23 = e + 1 := ⟨t / 2 ^ 23 - 1, by omega⟩
      rw [he, Nat.add_sub_cancel, Nat.add_sub_cancel, pow_succ 2 e]
      have : 0 < 2 ^ e := by positivity
      generalize 2 ^ e = p at this ⊢
      omega

theorem units_lt_iff {a b : ℕ} : units a < units b ↔ a < b := units_strictMono.lt_iff_lt

theorem units_zero : units 0 = 0 := rfl

theorem units_eq_zero {t : ℕ} : units t = 0 ↔ t = 0 := by
  rw [← units_zero]; exact units_strictMono.injective.eq_iff

/-- The magnitude of a word's number. -/
def mag (t : ℕ) : ℝ := (signif t : ℝ) * (1 / 2 ^ 23) * Real.rpow 2 ((expo t : ℝ) - 127)

theorem mag_eq (t : ℕ) : mag t = (units t : ℝ) / 2 ^ 149 := by
  have he : 1 ≤ expo t := by unfold expo; split <;> omega
  obtain ⟨e, h⟩ : ∃ e, expo t = e + 1 := ⟨expo t - 1, by omega⟩
  unfold mag units
  rw [h, Nat.add_sub_cancel]
  have : Real.rpow 2 (((e + 1 : ℕ) : ℝ) - 127) = 2 ^ e / 2 ^ 126 := by
    show (2 : ℝ) ^ (((e + 1 : ℕ) : ℝ) - 127) = _
    rw [show (((e + 1 : ℕ) : ℝ) - 127) = (e : ℝ) - ((126 : ℕ) : ℝ) by push_cast; ring, Real.rpow_sub (by norm_num),
      Real.rpow_natCast, Real.rpow_natCast]
  rw [this]
  push_cast
  rw [show (2 : ℝ) ^ 149 = 2 ^ 23 * 2 ^ 126 by rw [← pow_add]]
  field_simp

/-- The number a word stands for, both zeros being 0 and every exponent a power of two. -/
def num (v : BitVec 32) : ℝ := if v.toNat < 2 ^ 31 then mag v.toNat else -mag (v.toNat - 2 ^ 31)

theorem num_lt_iff (v q : BitVec 32) : num v < num q ↔ ordZ v < ordZ q := by
  have hp : (0 : ℝ) < 2 ^ 149 := by positivity
  have hm : ∀ a b : ℕ, mag a < mag b ↔ a < b := fun a b => by
    rw [mag_eq, mag_eq, div_lt_div_iff_of_pos_right hp, Nat.cast_lt, units_lt_iff]
  have h0 : mag 0 = 0 := by rw [mag_eq, units_zero]; simp
  have hge : ∀ a : ℕ, 0 ≤ mag a := fun a => by rw [mag_eq]; positivity
  have hpos : ∀ a : ℕ, 0 < a → 0 < mag a := fun a ha => by rw [← h0, hm]; exact ha
  have hv := v.isLt
  have hq := q.isLt
  unfold num
  rw [ordZ_eq, ordZ_eq]
  unfold ordN
  by_cases h1 : v.toNat < 2 ^ 31 <;> by_cases h2 : q.toNat < 2 ^ 31
  · simp only [if_pos h1, if_pos h2, hm]
    split_ifs <;> omega
  · simp only [if_pos h1, if_neg h2]
    have := hge v.toNat
    have := hge (q.toNat - 2 ^ 31)
    constructor
    · intro h; linarith
    · intro h; split_ifs at h <;> omega
  · simp only [if_neg h1, if_pos h2]
    constructor
    · intro h
      by_contra hc
      have e1 : v.toNat - 2 ^ 31 = 0 := by split_ifs at hc <;> omega
      have e2 : q.toNat = 0 := by split_ifs at hc <;> omega
      rw [e1, e2, h0] at h
      linarith
    · intro h
      by_cases e1 : v.toNat - 2 ^ 31 = 0
      · have e2 : 0 < q.toNat := by split_ifs at h <;> omega
        have := hpos _ e2
        rw [e1, h0]; linarith
      · have := hpos (v.toNat - 2 ^ 31) (by omega)
        have := hge q.toNat
        linarith
  · simp only [if_neg h1, if_neg h2, neg_lt_neg_iff, hm]
    split_ifs <;> omega

/-! ## The reference's decoding is that number -/

theorem expWord (v : BitVec 32) : (IntOp.andi (IntOp.shrui .host v 23#32) 255#32).toNat = v.toNat % 2 ^ 31 / 2 ^ 23 := by
  have h : IntOp.andi (IntOp.shrui .host v 23#32) 255#32 = (v >>> 23) &&& 255#32 := rfl
  rw [h, BitVec.toNat_and, BitVec.toNat_ushiftRight, Nat.shiftRight_eq_div_pow]
  have e := Nat.and_two_pow_sub_one_eq_mod (v.toNat / 2 ^ 23) 8
  have : (255#32).toNat = 2 ^ 8 - 1 := rfl
  rw [this, e]
  have := v.isLt
  omega

theorem fracWord (v : BitVec 32) : (IntOp.andi v 8388607#32).toNat = v.toNat % 2 ^ 31 % 2 ^ 23 := by
  have h : IntOp.andi v 8388607#32 = v &&& 8388607#32 := rfl
  rw [h, BitVec.toNat_and]
  have e := Nat.and_two_pow_sub_one_eq_mod v.toNat 23
  have : (8388607#32).toNat = 2 ^ 23 - 1 := rfl
  rw [this, e]
  omega

theorem unit_lit : Ideal.ofBits .f32 0x34000000#32 = (((1 / 2 ^ 23 : ℝ)) : EReal) := by
  simp [Ideal.ofBits, Ideal.ieee]
  rw [← EReal.coe_mul]
  norm_num

theorem bias_lit : Ideal.ofBits .f32 0x42FE0000#32 = ((127 : ℝ) : EReal) := by
  simp [Ideal.ofBits, Ideal.ieee]
  rw [← EReal.coe_mul]
  norm_num

theorem two_lit : Ideal.ofBits .f32 0x40000000#32 = ((2 : ℝ) : EReal) := by
  simp [Ideal.ofBits, Ideal.ieee]
  rw [← EReal.coe_mul]
  norm_num

theorem zero_lit : Ideal.ofBits .f32 0x00000000#32 = ((0 : ℝ) : EReal) := by
  simp [Ideal.ofBits, Ideal.ieee]

abbrev Arg := (⟨S32x1x512x512, .i32⟩ : BufTy).Contents (Elt Ideal)

theorem mag_word (x : Arg) (i : S32x1x512x512.Idx) :
    val_main_v22 (F := Ideal) x i = ((mag ((x i).toNat % 2 ^ 31) : ℝ) : EReal) := by
  rw [val_main_v22_apply, val_main_v17_apply, val_main_v11_apply, val_main_v10_apply, val_main_v7_apply, val_main_v9_apply,
    val_main_v5_apply, val_main_v3_apply, val_main_v1_apply, val_main_v21_apply, val_main_v20_apply, val_main_v19_apply,
    val_main_v15_apply, val_main_v14_apply, val_main_v13_apply, val_main_v16_apply, val_main_v18_apply, val_main_v3_apply,
    val_main_v1_apply, val_main_v0_apply, val_main_v2_apply, val_main_v4_apply, val_main_v6_apply, val_main_v8_apply,
    val_main_v12_apply, val_main_call1_v1_apply, val_main_call1_v0_apply, val_main_c_apply, val_main_c_0_apply, val_main_c_1_apply,
    val_main_c_2_apply, val_main_c_3_apply, val_main_c_4_apply, val_main_c_5_apply, val_main_cst_apply, val_main_cst_6_apply,
    val_main_cst_7_apply]
  have hE := expWord (x i)
  have hM := fracWord (x i)
  generalize IntOp.andi (IntOp.shrui .host (x i) 23#32) 255#32 = E at hE ⊢
  generalize IntOp.andi (x i) 8388607#32 = M at hM ⊢
  have ht : (x i).toNat % 2 ^ 31 < 2 ^ 31 := Nat.mod_lt _ (by norm_num)
  generalize (x i).toNat % 2 ^ 31 = t at hE hM ht ⊢
  have hz : IntOp.cmpi .eq E 0#32 = BitVec.ofBool (decide (t / 2 ^ 23 = 0)) := by
    rw [cmpi_eq_eq_toNat, hE]; rfl
  rw [hz, select_decide, select_decide]
  have s1 : (if t / 2 ^ 23 = 0 then M else IntOp.addi M 8388608#32).toInt = (signif t : ℤ) := by
    have hm : M.toNat < 2 ^ 23 := by omega
    unfold signif
    split
    · rw [toInt_eq_toNat_of_lt_half (by omega), hM]
    · have : (IntOp.addi M 8388608#32).toNat = M.toNat + 2 ^ 23 := by
        show (M + 8388608#32).toNat = _
        rw [BitVec.toNat_add, show (8388608#32).toNat = 2 ^ 23 from rfl]
        omega
      rw [toInt_eq_toNat_of_lt_half (by omega), this, hM]
  have s2 : (if t / 2 ^ 23 = 0 then 1#32 else E).toInt = (expo t : ℤ) := by
    unfold expo
    split
    · rfl
    · rw [toInt_eq_toNat_of_lt_half (by omega), hE]
  show (((_ : ℤ) : ℝ) : EReal) * _ * Ideal.pow _ ((((_ : ℤ) : ℝ) : EReal) - _) = _
  rw [s1, s2]
  show (((_ : ℤ) : ℝ) : EReal) * Ideal.ofBits .f32 0x34000000#32
    * Ideal.pow (Ideal.ofBits .f32 0x40000000#32) ((((_ : ℤ) : ℝ) : EReal) - Ideal.ofBits .f32 0x42FE0000#32) = _
  rw [unit_lit, bias_lit, two_lit, ← EReal.coe_sub]
  show _ * _ * ((Real.rpow 2 _ : ℝ) : EReal) = _
  rw [← EReal.coe_mul, ← EReal.coe_mul]
  unfold mag
  simp

/-- A magnitude, its sign put back and zero left unsigned, is the word's number. -/
theorem signed_word (v : BitVec 32) :
    (if ((mag (v.toNat % 2 ^ 31) : ℝ) : EReal) = ((0 : ℝ) : EReal) then ((0 : ℝ) : EReal)
      else if 2 ^ (32 - 1) ≤ v.toNat then -((mag (v.toNat % 2 ^ 31) : ℝ) : EReal) else ((mag (v.toNat % 2 ^ 31) : ℝ) : EReal))
      = ((num v : ℝ) : EReal) := by
  have hv := v.isLt
  unfold num
  by_cases h : v.toNat < 2 ^ 31
  · rw [if_pos h, if_neg (show ¬ 2 ^ (32 - 1) ≤ v.toNat by omega), show v.toNat % 2 ^ 31 = v.toNat by omega]
    split
    · next h' => exact h'.symm
    · rfl
  · rw [if_neg h, if_pos (show 2 ^ (32 - 1) ≤ v.toNat by omega), show v.toNat % 2 ^ 31 = v.toNat - 2 ^ 31 by omega]
    split
    · next h' => rw [EReal.coe_neg, h']; simp
    · exact (EReal.coe_neg _).symm

/-- The reference decodes a word to its number. -/
theorem decode_word (x : Arg) (i : S32x1x512x512.Idx) : val_main_v29 (F := Ideal) x i = ((num (x i) : ℝ) : EReal) := by
  rw [val_main_v29_apply, val_main_v28_apply, val_main_call3_v1_apply, val_main_call3_v0_apply, val_main_cst_10_apply, val_main_v26_apply,
    val_main_v24_apply, val_main_v25_apply, val_main_v23_apply, val_main_c_8_apply, val_main_v27_apply, val_main_cst_9_apply, mag_word,
    cmpi_slt_zero, select_decide]
  show Scalar.select (Ideal.cmp .oeq _ (Ideal.ofBits .f32 0x00000000#32)) (Ideal.ofBits .f32 0x00000000#32) _ = _
  rw [zero_lit]
  show Scalar.select (BitVec.ofBool (decide (_ = _))) _ _ = _
  rw [select_decide]
  have hv := (x i).isLt
  exact signed_word (x i)

end Cert.Proof

end
-- ==== Proof.Ref.lean ====
/-
  The reference read: its stable argsort puts the words of an image at their ranks, its two scatters mark the last and the
  first 26214 of them, and its result is the label of each word.
-/
module

public import proofs.«01_k».proof.Proof.Decode
public import Idealize.ShloMosaic.Lib.Routing.OpsSet

@[expose] public section

noncomputable section

namespace Cert.Proof

open Idealize.ShloMosaic Idealize.ShloMosaic.WordCmp Idealize.ShloMosaic.ValueIdx Idealize.ShloMosaic.Routing
open Cert.ReferenceIdeal Cert.ReferenceIdeal.Gen Cert.ReferenceIdeal.Read

/-- The index of word `n` of image `b`. -/
def wordIx (b : Fin 32) (n : ℕ) : S32x1x512x512.Idx := fun
  | 0 => b
  | 1 => (0 : Fin 1)
  | 2 => (⟨n / 512 % 512, Nat.mod_lt _ (by norm_num)⟩ : Fin 512)
  | 3 => (⟨n % 512, Nat.mod_lt _ (by norm_num)⟩ : Fin 512)

/-- The words of image `b`, in row-major order. -/
def image (x : Arg) (b : Fin 32) (n : ℕ) : BitVec 32 := x (wordIx b n)

theorem flat_word (x : Arg) (b : Fin 32) (n : Fin 262144) :
    val_main_v30 (F := Ideal) x (ix2 b n) = ((num (image x b n.val) : ℝ) : EReal) := by
  rw [val_main_v30_apply, decode_word]
  unfold image
  refine congrArg (fun i => ((num (x i) : ℝ) : EReal)) (funext fun a => Fin.ext ?_)
  have hb := b.isLt
  have hn := n.isLt
  match a with
  | ⟨0, _⟩ => show (b.val * 262144 + n.val) / 262144 = b.val; omega
  | ⟨1, _⟩ => rfl
  | ⟨2, _⟩ => show (b.val * 262144 + n.val) / 512 % 512 = n.val / 512 % 512; omega
  | ⟨3, _⟩ => show (b.val * 262144 + n.val) % 512 = n.val % 512; omega

/-- The reference's comparator puts a word first exactly when its place is lower. -/
theorem comparator_word (v q a b : BitVec 32) :
    (comparator_f32_i32_d1 (F := Ideal) (((num v : ℝ) : EReal), a) (((num q : ℝ) : EReal), b) == 1#1) = decide (ordZ v < ordZ q) := by
  unfold comparator_f32_i32_d1
  have hne : ∀ z : EReal, FloatOps.cmpf (F := Ideal) (φ := .f32) .une z z = 0#1 := fun z => by
    show BitVec.ofBool (decide (z ≠ z)) = 0#1
    simp
  have hz : ∀ z : EReal, Scalar.select (FloatOps.cmpf (F := Ideal) (φ := .f32) .oeq z (FloatOps.ofBits .f32 0x00000000#32)) (FloatOps.ofBits (F := Ideal) .f32 0x00000000#32) z = z := fun z => by
    show Scalar.select (BitVec.ofBool (decide (z = Ideal.ofBits .f32 0x00000000#32))) (Ideal.ofBits .f32 0x00000000#32) z = z
    rw [select_decide]
    split
    · next h => exact h.symm
    · rfl
  dsimp only
  rw [hne, hne, hz, hz, ValueIdx.select_zero, ValueIdx.select_zero]
  show (BitVec.ofBool (decide (((num v : ℝ) : EReal) < ((num q : ℝ) : EReal))) == 1#1) = _
  by_cases h : ordZ v < ordZ q
  · rw [decide_eq_true h, decide_eq_true (EReal.coe_lt_coe_iff.mpr ((num_lt_iff v q).mpr h))]; rfl
  · rw [decide_eq_false h, decide_eq_false fun h' => h ((num_lt_iff v q).mp (EReal.coe_lt_coe_iff.mp h'))]; rfl

theorem along_ix2 (b : Fin 32) (r k : Fin 262144) : Shape.Idx.along (s := S32x262144) (ix2 b r) 1 k = ix2 b k := by
  funext a
  match a with
  | ⟨0, _⟩ => rfl
  | ⟨1, _⟩ => rfl

/-- The reference's argsort gives, at sorted place `r`, the position of the word there. -/
theorem argsort_word (x : Arg) (b : Fin 32) (r : Fin 262144) :
    val_main_v31 (F := Ideal) x (ix2 b r) = BitVec.ofNat 32 (from' (image x b) r).val := by
  have hR : (fun k k' : Fin 262144 => comparator_f32_i32_d1 (F := Ideal)
        (val_main_v30 (F := Ideal) x (Shape.Idx.along (s := S32x262144) (ix2 b r) 1 k), val_main_call4_v0 (F := Ideal) (Shape.Idx.along (s := S32x262144) (ix2 b r) 1 k))
        (val_main_v30 (F := Ideal) x (Shape.Idx.along (s := S32x262144) (ix2 b r) 1 k'), val_main_call4_v0 (F := Ideal) (Shape.Idx.along (s := S32x262144) (ix2 b r) 1 k')) == 1#1)
      = fun k k' => decide (ordZ (image x b k.val) < ordZ (image x b k'.val)) := by
    funext k k'
    rw [along_ix2, along_ix2, flat_word, flat_word, comparator_word]
  have h : val_main_v31 (F := Ideal) x (ix2 b r)
      = val_main_call4_v0 (F := Ideal) (Shape.Idx.along (s := S32x262144) (ix2 b r) 1 (sortedFrom (fun k k' : Fin 262144 => comparator_f32_i32_d1 (F := Ideal)
        (val_main_v30 (F := Ideal) x (Shape.Idx.along (s := S32x262144) (ix2 b r) 1 k), val_main_call4_v0 (F := Ideal) (Shape.Idx.along (s := S32x262144) (ix2 b r) 1 k))
        (val_main_v30 (F := Ideal) x (Shape.Idx.along (s := S32x262144) (ix2 b r) 1 k'), val_main_call4_v0 (F := Ideal) (Shape.Idx.along (s := S32x262144) (ix2 b r) 1 k')) == 1#1) r)) := by
    unfold val_main_v31 Host.sort2
    rw [dif_pos (show 1 < S32x262144.rank by decide)]
    rfl
  rw [h, hR]
  exact (congrArg (val_main_call4_v0 (F := Ideal)) (along_ix2 b r (from' (image x b) r))).trans (val_main_call4_v0_apply _)

/-- Setting ones at the positions `p` of each image leaves a one exactly there. -/
theorem set_ones (z : S32x262144.Idx → BitVec 32) (hz : ∀ i, z i = 0#32) (I : IVec S32x26214x2 32) (u : S32x26214.Idx → BitVec 32)
    (hu : ∀ i, u i = 1#32) (p : Fin 32 → Fin 26214 → ℕ) (hp : ∀ a b, p a b < 262144) (h0 : ∀ a b, I (ix3 a b 0) = BitVec.ofNat 32 a.val)
    (h1 : ∀ a b, I (ix3 a b 1) = BitVec.ofNat 32 (p a b)) (r : Fin 32) (c : Fin 262144) :
    Host.scatter scatter_S32x262144_S32x26214x2_S32x26214_n_01_01_2 (fun _ b => b) z I u (ix2 r c)
      = if ∃ b, p r b = c.val then 1#32 else 0#32 := by
  have hl : ∀ a b, ScatterDims.resultIdx? scatter_S32x262144_S32x26214x2_S32x26214_n_01_01_2 (ix2 a b) I = some (ix2 r c) ↔ a = r ∧ p a b = c.val := by
    intro a b
    have := scatter_lands2 scatter_S32x262144_S32x26214x2_S32x26214_n_01_01_2 rfl rfl rfl I a b r c
    rw [this, h0, h1, toInt_ofNat_of_lt (by have := a.isLt; omega), toInt_ofNat_of_lt (by have := hp a b; omega)]
    constructor
    · rintro ⟨e1, e2⟩; exact ⟨Fin.ext (by omega), by omega⟩
    · rintro ⟨rfl, e2⟩; exact ⟨rfl, by omega⟩
  split
  · next h =>
    obtain ⟨b, hb⟩ := h
    exact scatter_set_hit _ z I u _ _ (fun k _ => hu k) (ix2 r b) ((hl r b).mpr ⟨rfl, hb⟩)
  · next h =>
    rw [scatter_set_miss _ z I u _ (fun k hk => h ?_)]
    · exact hz _
    · rw [eq_ix2 k] at hk
      obtain ⟨e, e2⟩ := (hl _ _).mp hk
      exact ⟨k 1, by rw [← e]; exact e2⟩

theorem pair_left (A B : S32x26214x1.Idx → BitVec 32) (h : Shape.Concatenates [S32x26214x1, S32x26214x1] S32x26214x2 2) (a : Fin 32) (b : Fin 26214) :
    concatenate S32x26214x2 2 [⟨S32x26214x1, A⟩, ⟨S32x26214x1, B⟩] h (ix3 a b 0) = A (ix3 a b 0) :=
  concatenate_pair_apply_left 2 A B h _ rfl _ (fun c => match c with | ⟨0, _⟩ => rfl | ⟨1, _⟩ => rfl | ⟨2, _⟩ => rfl)

theorem pair_right (A B : S32x26214x1.Idx → BitVec 32) (h : Shape.Concatenates [S32x26214x1, S32x26214x1] S32x26214x2 2) (a : Fin 32) (b : Fin 26214) :
    concatenate S32x26214x2 2 [⟨S32x26214x1, A⟩, ⟨S32x26214x1, B⟩] h (ix3 a b 1) = B (ix3 a b 0) :=
  concatenate_pair_apply_right 2 A B h _ rfl rfl _
    (fun c => match c with | ⟨0, _⟩ => fun _ => rfl | ⟨1, _⟩ => fun _ => rfl | ⟨2, _⟩ => fun hc => (hc rfl).elim) rfl

/-- An index that is not negative is not wrapped. -/
theorem wrap_word (n m : ℕ) (h : n < 2 ^ 31) :
    Scalar.select (IntOp.cmpi .slt (BitVec.ofNat 32 n) 0#32) (IntOp.addi (BitVec.ofNat 32 n) (BitVec.ofNat 32 m)) (BitVec.ofNat 32 n) = BitVec.ofNat 32 n :=
  wrap_of_lt _ _ (by rw [BitVec.toNat_ofNat]; omega)

/-- The marks of the last 26214 words. -/
theorem marks_last (x : Arg) (b : Fin 32) (n : Fin 262144) :
    val_main_v49 (F := Ideal) x (ix2 b n) = if 235930 ≤ rank (image x b) n.val then 1#32 else 0#32 := by
  unfold val_main_v49
  rw [set_ones _ (fun i => by rw [val_main_v33_apply]; rfl) _ _ (fun i => by rw [val_main_v48_apply]; rfl)
    (fun a r => (from' (image x a) ⟨235930 + r.val, by have := r.isLt; omega⟩).val) (fun a r => Fin.isLt _)]
  · refine if_congr ?_ rfl rfl
    constructor
    · rintro ⟨r, hr⟩
      have : rank (image x b) n.val = 235930 + r.val := (from_eq_iff (image x b) ⟨235930 + r.val, by have := r.isLt; omega⟩ n).mp (Fin.ext hr)
      omega
    · intro h
      have hlt : rank (image x b) n.val < 262144 := lt_of_lt_of_le (rank_lt_succ n.isLt) (below_le _ _)
      refine ⟨⟨rank (image x b) n.val - 235930, by omega⟩, ?_⟩
      refine congrArg Fin.val ((from_eq_iff (image x b) _ n).mpr ?_)
      show _ = 235930 + (_ - 235930)
      omega
  · intro a r
    unfold val_main_v47
    rw [pair_left, val_main_v45_apply, val_main_v39_apply, val_main_v36_apply, val_main_v38_apply, val_main_v32_apply, val_main_v35_apply, val_main_v37_apply]
    exact wrap_word a.val 32 (by have := a.isLt; omega)
  · intro a r
    unfold val_main_v47
    rw [pair_right, val_main_v46_apply, val_main_v44_apply, val_main_v41_apply, val_main_v43_apply, val_main_v34_apply, val_main_v40_apply, val_main_v42_apply]
    have e : idx_main_v34 (idx_main_v46 (ix3 a r 0)) = ix2 a ⟨235930 + r.val, by have := r.isLt; omega⟩ := by
      funext c
      match c with
      | ⟨0, _⟩ => rfl
      | ⟨1, _⟩ => rfl
    rw [e, argsort_word]
    exact wrap_word _ 262144 (by have := (from' (image x a) ⟨235930 + r.val, by have := r.isLt; omega⟩).isLt; omega)

/-- The marks of the first 26214 words. -/
theorem marks_first (x : Arg) (b : Fin 32) (n : Fin 262144) :
    val_main_v66 (F := Ideal) x (ix2 b n) = if rank (image x b) n.val < 26214 then 1#32 else 0#32 := by
  unfold val_main_v66
  rw [set_ones _ (fun i => by rw [val_main_v50_apply]; rfl) _ _ (fun i => by rw [val_main_v65_apply]; rfl)
    (fun a r => (from' (image x a) ⟨r.val, by have := r.isLt; omega⟩).val) (fun a r => Fin.isLt _)]
  · refine if_congr ?_ rfl rfl
    constructor
    · rintro ⟨r, hr⟩
      have : rank (image x b) n.val = r.val := (from_eq_iff (image x b) ⟨r.val, by have := r.isLt; omega⟩ n).mp (Fin.ext hr)
      have hr := r.isLt
      omega
    · intro h
      refine ⟨⟨rank (image x b) n.val, h⟩, ?_⟩
      exact congrArg Fin.val ((from_eq_iff (image x b) _ n).mpr rfl)
  · intro a r
    unfold val_main_v64
    rw [pair_left, val_main_v62_apply, val_main_v56_apply, val_main_v53_apply, val_main_v55_apply, val_main_v32_apply, val_main_v52_apply, val_main_v54_apply]
    exact wrap_word a.val 32 (by have := a.isLt; omega)
  · intro a r
    unfold val_main_v64
    rw [pair_right, val_main_v63_apply, val_main_v61_apply, val_main_v58_apply, val_main_v60_apply, val_main_v51_apply, val_main_v57_apply, val_main_v59_apply]
    have e : idx_main_v51 (idx_main_v63 (ix3 a r 0)) = ix2 a ⟨r.val, by have := r.isLt; omega⟩ := by
      funext c
      match c with
      | ⟨0, _⟩ => rfl
      | ⟨1, _⟩ => rfl
    rw [e, argsort_word]
    exact wrap_word _ 262144 (by have := (from' (image x a) ⟨r.val, by have := r.isLt; omega⟩).isLt; omega)

/-- The two marks make the label. -/
theorem marks_label (p q : Prop) [Decidable p] [Decidable q] (h : ¬ (p ∧ q)) :
    let f : BitVec 32 := if p then 1#32 else 0#32
    let g : BitVec 32 := if q then 1#32 else 0#32
    let o := IntOp.addi f g
    Scalar.select (IntOp.cmpi .eq (Scalar.select (IntOp.cmpi .eq o 2#32) 0#32 g) 1#32) 0#32
        (Scalar.select (IntOp.cmpi .eq (Scalar.select (IntOp.cmpi .eq o 2#32) 0#32 f) 1#32) 1#32 255#32)
      = if q then 0#32 else if p then 1#32 else 255#32 := by
  by_cases hp : p <;> by_cases hq : q
  · exact (h ⟨hp, hq⟩).elim
  · simp only [if_pos hp, if_neg hq]; decide
  · simp only [if_neg hp, if_pos hq]; decide
  · simp only [if_neg hp, if_neg hq]; decide

theorem tail_label (x : Arg) (b : Fin 32) (n : Fin 262144) :
    val_main_v80 (F := Ideal) x (ix2 b n) = label (image x b) n.val := by
  rw [val_main_v80_apply, val_main_v79_apply, val_main_v73_apply, val_main_v72_apply, val_main_v77_apply, val_main_v76_apply,
    val_main_v70_apply, val_main_v69_apply, val_main_v67_apply, marks_last, marks_first, val_main_v68_apply, val_main_v71_apply, val_main_v74_apply,
    val_main_v75_apply, val_main_v78_apply, val_main_call5_v1_apply, val_main_call6_v1_apply, val_main_call7_v1_apply, val_main_call8_v1_apply]
  exact marks_label (235930 ≤ rank (image x b) n.val) (rank (image x b) n.val < 26214) (by omega)

/-- The reference's result is the label of each word of each image. -/
theorem reference_label (x : Arg) (b : Fin 32) (h v : Fin 512) :
    val_main_v81 (F := Ideal) x (ix3 b h v) = label (image x b) (h.val * 512 + v.val) := by
  have h1 := h.isLt
  have h2 := v.isLt
  have hb := b.isLt
  have e : idx_main_v81 (ix3 b h v) = ix2 b (⟨h.val * 512 + v.val, by omega⟩ : Fin 262144) := by
    funext c
    match c with
    | ⟨0, _⟩ => exact Fin.ext (show ((b.val * 512 + h.val) * 512 + v.val) / 262144 = b.val by omega)
    | ⟨1, _⟩ => exact Fin.ext (show ((b.val * 512 + h.val) * 512 + v.val) % 262144 = h.val * 512 + v.val by omega)
  rw [val_main_v81_apply, e, tail_label]

end Cert.Proof

end
-- ==== Proof.Final.lean ====
/-
  What the kernel leaves in its result: the labels of the argument's images.
-/
module

public import proofs.«01_k».proof.Proof.Main
public import proofs.«01_k».proof.Proof.LabelValue
public import proofs.«01_k».proof.Proof.Ref
public import Idealize.ShloMosaic.Lib.Pipeline.ValueKit.Geometry
public import Idealize.ShloMosaic.Lib.StableHlo.Run

@[expose] public section

noncomputable section

namespace Cert.Proof

open Cert.KernelIdeal Cert.KernelIdeal.Gen
open Idealize.ShloMosaic Idealize.ShloMosaic.TcCoe Idealize.ShloMosaic.ValueIdx

/-! ## Selection looks only at the words of the image -/

theorem A_ext {X Y : ℕ → BitVec 32} (h : ∀ n < 262144, X n = Y n) (p : BitVec 32 → Prop) [DecidablePred p] : A X p = A Y p := by
  unfold A
  exact Finset.sum_congr rfl fun n hn => by rw [h n (Finset.mem_range.mp hn)]

theorem Sel.ext {X Y : ℕ → BitVec 32} (h : ∀ n < 262144, X n = Y n) {k : ℕ} {o : BitVec 32} (hs : Sel X k o) : Sel Y k o := by
  obtain ⟨q, e, h1, h2⟩ := hs
  rw [A_ext h] at h1 h2
  exact ⟨q, e, h1, h2⟩

/-! ## The blocks of the TensorCore call -/

theorem coord1 : ∀ t : Fin grid1.N, (grid1.coords t 0).val = t.val := by decide +kernel
theorem index1_0 : ∀ t : Fin grid1.N, win1_0.index t = ![0, 0] := by decide +kernel
theorem index1_1 : ∀ t : Fin grid1.N, win1_1.index t = ![t.val, 0, 0, 0] := by decide +kernel
theorem index1_2 : ∀ t : Fin grid1.N, win1_2.index t = ![t.val, 0, 0] := by decide +kernel

theorem emb1_0 (t : Fin cfg1.N) (y : S32x16.Idx) : ((cfg1.win 0).blk t).view.emb y = y := by
  funext a
  refine Fin.ext ((win1_0.rect_emb_val t y a).trans ?_)
  rw [index1_0 t]
  match a with
  | ⟨0, _⟩ => show 0 * 32 + (y 0).val = (y 0).val; omega
  | ⟨1, _⟩ => show 0 * 16 + (y 1).val = (y 1).val; omega

theorem emb1_1 (t : Fin cfg1.N) (b : Fin 32) (ht : t.val = b.val) (h v : Fin 512) :
    ((cfg1.win 1).blk t).view.emb (ix4 (0 : Fin 1) (0 : Fin 1) h v : S1x1x512x512.Idx) = wordIx b (h.val * 512 + v.val) := by
  have hh := h.isLt
  have hv := v.isLt
  funext a
  refine Fin.ext ((win1_1.rect_emb_val t (ix4 (0 : Fin 1) (0 : Fin 1) h v : S1x1x512x512.Idx) a).trans ?_)
  rw [index1_1 t]
  match a with
  | ⟨0, _⟩ => show t.val * 1 + 0 = b.val; omega
  | ⟨1, _⟩ => rfl
  | ⟨2, _⟩ => show 0 * 512 + h.val = (h.val * 512 + v.val) / 512 % 512; omega
  | ⟨3, _⟩ => show 0 * 512 + v.val = (h.val * 512 + v.val) % 512; omega

theorem emb1_2 (t : Fin cfg1.N) (b : Fin 32) (ht : t.val = b.val) (h v : Fin 512) :
    ((cfg1.win 2).blk t).view.emb (ix3 (0 : Fin 1) h v : S1x512x512.Idx) = (ix3 b h v : S32x512x512.Idx) := by
  funext a
  refine Fin.ext ((win1_2.rect_emb_val t (ix3 (0 : Fin 1) h v : S1x512x512.Idx) a).trans ?_)
  rw [index1_2 t]
  match a with
  | ⟨0, _⟩ => show t.val * 1 + 0 = b.val; omega
  | ⟨1, _⟩ => show 0 * 512 + h.val = h.val; omega
  | ⟨2, _⟩ => show 0 * 512 + v.val = v.val; omega

theorem apart1_2 : ∀ t t' : Fin cfg1.N, (cfg1.win 2).flush t = true → (cfg1.win 2).flush t' = true → t ≠ t' →
    Disjoint ((cfg1.win 2).blk t).view.set ((cfg1.win 2).blk t').view.set :=
  win1_2.hdisj_of_index_inj fun t t' _ _ e => by
    rw [index1_2, index1_2] at e
    exact Fin.ext (congrFun e 0)

section
variable (m : (ℓ : Loc nD τ sig) → Buf (Elt Ideal) ℓ) (c : Dev nD)

/-- The argument's words on a device. -/
abbrev argOf : Arg := m ((c.tc : Thread nD τ).loc main_arg0)

/-- The row of words the SparseCore call reads is the image's. -/
theorem row_image (b : Fin 32) (n : ℕ) (hn : n < 262144) : rowOf (XW m c) b.val n = image (argOf m c) b n := by
  have hb := b.isLt
  unfold rowOf
  rw [dif_pos ⟨hb, hn⟩]
  have e := StableHlo.reshape_result (Val := Elt Ideal) main_arg0 main_v0 (rfl : (.i32 : EltTy) = .i32)
    shapeCasts_S32x1x512x512_S32x262144 (by exact ⟨by decide, rfl⟩) (by exact ⟨by decide, rfl⟩) (V0 m c)
  refine (congrFun e _).trans ?_
  refine congrArg (argOf m c) (Shape.reshapeEquiv_eq_of_rowMajor _ ?_)
  refine (Shape.rowMajor_val_four (d := S32x1x512x512.size) (wordIx b n)).trans (Eq.trans ?_ (Shape.rowMajor_val_two (d := S32x262144.size) _).symm)
  show ((b.val * 1 + 0) * 512 + n / 512 % 512) * 512 + n % 512 = b.val * 262144 + n
  omega

variable (g : S32x16.Idx → BitVec 32)

theorem thr_block (t : Fin cfg1.N) (b : Fin 32) (ht : t.val = b.val) (l : Fin 16) :
    thrAt (V2 m g) c t (thrIx (grid1.coords t) l) = g (outIx b.val l.val b.isLt l.isLt) := by
  show V2 m g c main_v1 (((cfg1.win 0).blk t).view.emb (thrIx (grid1.coords t) l)) = _
  rw [emb1_0]
  unfold V2
  rw [Function.update_self]
  refine congrArg g ?_
  funext a
  match a with
  | ⟨0, _⟩ => exact Fin.ext ((coord1 t).trans ht)
  | ⟨1, _⟩ => rfl

theorem img_block (t : Fin cfg1.N) (b : Fin 32) (ht : t.val = b.val) (h v : Fin 512) :
    imgAt (V2 m g) c t (ix4 (0 : Fin 1) (0 : Fin 1) h v) = image (argOf m c) b (h.val * 512 + v.val) := by
  show V2 m g c main_arg0 (((cfg1.win 1).blk t).view.emb (ix4 (0 : Fin 1) (0 : Fin 1) h v)) = _
  rw [emb1_1 t b ht]
  have e : V2 m g c main_arg0 = argOf m c := by
    unfold V2
    rw [Function.update_of_ne (show main_arg0 ≠ main_v1 by decide)]
    exact (opR (F := Ideal)).result_of_not_mem _
      (show ((main_arg0 : Ref sig .tc) : DevRef τ sig) ∉ ({((main_v0 : Ref sig .tc) : DevRef τ sig)} : Finset (DevRef τ sig)) by decide)
  exact congrFun e _

/-- With thresholds that select each image's two ends, the result holds the label of each word. -/
theorem result_label (hg : Good (XW m c) g) (b : Fin 32) (h v : Fin 512) :
    (V3 m g c main_v2 : S32x512x512.Idx → BitVec 32) (ix3 b h v) = label (image (argOf m c) b) (h.val * 512 + v.val) := by
  obtain ⟨hw, hlo, hhi⟩ := hg b.val b.isLt
  have ht : b.val < cfg1.N := b.isLt
  have e3 : V3 m g c main_v2 = labelled (V2 m g) c := by
    unfold V3
    rw [Function.update_self]
  have e := (dat (V2 m g) c).arrAt_emb_eq_flushed 2 apart1_2 ⟨b.val, ht⟩ (flush1_2 _) (ix3 (0 : Fin 1) h v : S1x512x512.Idx)
  rw [emb1_2 ⟨b.val, ht⟩ b rfl h v] at e
  refine (congrFun e3 _).trans (e.trans ?_)
  show labVal (F := Ideal) (thrAt (V2 m g) c ⟨b.val, ht⟩ (thrIx (grid1.coords ⟨b.val, ht⟩) 0))
    (thrAt (V2 m g) c ⟨b.val, ht⟩ (thrIx (grid1.coords ⟨b.val, ht⟩) 1)) (imgAt (V2 m g) c ⟨b.val, ht⟩) (ix3 (0 : Fin 1) h v) = _
  rw [thr_block m c g ⟨b.val, ht⟩ b rfl 0, thr_block m c g ⟨b.val, ht⟩ b rfl 1]
  exact labVal_label (fun a a' => img_block m c g ⟨b.val, ht⟩ b rfl a a') (hlo.ext (row_image m c b)) (hhi.ext (row_image m c b)) h v

end

end Cert.Proof

end
-- ==== Proof.Value.lean ====
/-
  The value claim: the idealized kernel and the reference compute the same labels.
-/
module

public import proofs.«01_k».proof.Defs
public import proofs.«01_k».proof.Proof.Final
public import proofs.«01_k».proof.Proof.Frames
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.ShloMosaic.ValueIdx Idealize.SL.Sem

/-- What the kernel leaves in its result is the reference's value of the same words. -/
theorem result_reference (m : (ℓ : Loc Cert.KernelIdeal.nD Cert.KernelIdeal.τ Cert.KernelIdeal.sig) → Buf (Elt Ideal) ℓ)
    (c : Dev Cert.KernelIdeal.nD) (g : Cert.KernelIdeal.S32x16.Idx → BitVec 32) (hg : Good (XW m c) g) :
    (V3 m g c Cert.KernelIdeal.main_v2 : Cert.KernelIdeal.S32x512x512.Idx → BitVec 32)
      = Cert.ReferenceIdeal.Read.val_main_v81 (F := Ideal) (argOf m c) := by
  funext i
  obtain ⟨b, h, v, rfl⟩ : ∃ (b : Fin 32) (h v : Fin 512), i = ix3 b h v := ⟨i 0, i 1, i 2, eq_ix3 i⟩
  exact (result_label m c g hg b h v).trans (reference_label (argOf m c) b h v).symm

/-- From the same words both programs run and end with the same labels, their argument kept. -/
theorem algebraic : Cert.algebraic_KernelIdeal_ReferenceIdeal := fun m ρ m' ρ' _ same =>
  ⟨fun c => Cert.ReferenceIdeal.Read.val_main_v81 (F := Ideal) (argOf m c),
    (θ_run Cert.KernelIdeal.defs _ _).mono
      (fun _ h c => by
        obtain ⟨g, hg, h0, h2⟩ := h.1 c
        exact ⟨h2.trans (result_reference m c g hg), h0.trans (V3_arg0 m g c)⟩)
      (run_main (F := Ideal) m ρ),
    (θ_run Cert.ReferenceIdeal.defs _ _).mono
      (fun _ h c => ⟨((h c).1.trans (Cert.ReferenceIdeal.Read.val_main_v81_eq _)).trans
        (congrArg (Cert.ReferenceIdeal.Read.val_main_v81 (F := Ideal)) (same c)), (h c).2⟩)
      (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, keeps its argument and, having no semaphore, ends quiescent. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
